-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormRefIdeal (m : (ℓ : Loc Cert.PostNormRefIdeal.nD Cert.PostNormRefIdeal.τ Cert.PostNormRefIdeal.sig) → Buf (Elt Ideal) ℓ) : Prop :=
  True

def Pre_MidNorm (m : (ℓ : Loc Cert.MidNorm.nD Cert.MidNorm.τ Cert.MidNorm.sig) → Buf (Elt Bits) ℓ) : Prop :=
  True

def Pre_MidNormIdeal (m : (ℓ : Loc Cert.MidNormIdeal.nD Cert.MidNormIdeal.τ Cert.MidNormIdeal.sig) → Buf (Elt Ideal) ℓ) : Prop :=
  True

def Pre_MidNormRefIdeal (m : (ℓ : Loc Cert.MidNormRefIdeal.nD Cert.MidNormRefIdeal.τ Cert.MidNormRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInRefIdeal (m : (ℓ : Loc Cert.HyInRefIdeal.nD Cert.HyInRefIdeal.τ Cert.HyInRefIdeal.sig) → Buf (Elt Ideal) ℓ) : Prop :=
  True

def Pre_HyOut (m : (ℓ : Loc Cert.HyOut.nD Cert.HyOut.τ Cert.HyOut.sig) → Buf (Elt Bits) ℓ) : Prop :=
  True

def Pre_HyOutIdeal (m : (ℓ : Loc Cert.HyOutIdeal.nD Cert.HyOutIdeal.τ Cert.HyOutIdeal.sig) → Buf (Elt Ideal) ℓ) : Prop :=
  True

def Pre_HyOutRefIdeal (m : (ℓ : Loc Cert.HyOutRefIdeal.nD Cert.HyOutRefIdeal.τ Cert.HyOutRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_GdnAb (m : (ℓ : Loc Cert.GdnAb.nD Cert.GdnAb.τ Cert.GdnAb.sig) → Buf (Elt Bits) ℓ) : Prop :=
  True

def Pre_GdnAbIdeal (m : (ℓ : Loc Cert.GdnAbIdeal.nD Cert.GdnAbIdeal.τ Cert.GdnAbIdeal.sig) → Buf (Elt Ideal) ℓ) : Prop :=
  True

def Pre_GdnAbRefIdeal (m : (ℓ : Loc Cert.GdnAbRefIdeal.nD Cert.GdnAbRefIdeal.τ Cert.GdnAbRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_HyShort (m : (ℓ : Loc Cert.HyShort.nD Cert.HyShort.τ Cert.HyShort.sig) → Buf (Elt Bits) ℓ) : Prop :=
  True

def Pre_HyShortIdeal (m : (ℓ : Loc Cert.HyShortIdeal.nD Cert.HyShortIdeal.τ Cert.HyShortIdeal.sig) → Buf (Elt Ideal) ℓ) : Prop :=
  True

def Pre_HyShortRefIdeal (m : (ℓ : Loc Cert.HyShortRefIdeal.nD Cert.HyShortRefIdeal.τ Cert.HyShortRefIdeal.sig) → Buf (Elt Ideal) ℓ) : Prop :=
  True

def Pre_GdnPre (m : (ℓ : Loc Cert.GdnPre.nD Cert.GdnPre.τ Cert.GdnPre.sig) → Buf (Elt Bits) ℓ) : Prop :=
  True

def Pre_GdnPreIdeal (m : (ℓ : Loc Cert.GdnPreIdeal.nD Cert.GdnPreIdeal.τ Cert.GdnPreIdeal.sig) → Buf (Elt Ideal) ℓ) : Prop :=
  True

def Pre_GdnPreRefIdeal (m : (ℓ : Loc Cert.GdnPreRefIdeal.nD Cert.GdnPreRefIdeal.τ Cert.GdnPreRefIdeal.sig) → Buf (Elt Ideal) ℓ) : Prop :=
  True

def Pre_GdnPost (m : (ℓ : Loc Cert.GdnPost.nD Cert.GdnPost.τ Cert.GdnPost.sig) → Buf (Elt Bits) ℓ) : Prop :=
  True

def Pre_GdnPostIdeal (m : (ℓ : Loc Cert.GdnPostIdeal.nD Cert.GdnPostIdeal.τ Cert.GdnPostIdeal.sig) → Buf (Elt Ideal) ℓ) : Prop :=
  True

def Pre_GdnPostRefIdeal (m : (ℓ : Loc Cert.GdnPostRefIdeal.nD Cert.GdnPostRefIdeal.τ Cert.GdnPostRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3))
      ∧ r.2.sem = fun _ => 0)

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2)
      ∧ r.2.mem ((c.tc : Thread Cert.PostNorm.nD Cert.PostNorm.τ).loc Cert.PostNorm.main_arg3) = m ((c.tc : Thread Cert.PostNorm.nD Cert.PostNorm.τ).loc Cert.PostNorm.main_arg3)
      ∧ r.2.mem ((c.tc : Thread Cert.PostNorm.nD Cert.PostNorm.τ).loc Cert.PostNorm.main_arg4) = m ((c.tc : Thread Cert.PostNorm.nD Cert.PostNorm.τ).loc Cert.PostNorm.main_arg4))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2)
      ∧ r.2.mem ((c.tc : Thread Cert.PostNormIdeal.nD Cert.PostNormIdeal.τ).loc Cert.PostNormIdeal.main_arg3) = m ((c.tc : Thread Cert.PostNormIdeal.nD Cert.PostNormIdeal.τ).loc Cert.PostNormIdeal.main_arg3)
      ∧ r.2.mem ((c.tc : Thread Cert.PostNormIdeal.nD Cert.PostNormIdeal.τ).loc Cert.PostNormIdeal.main_arg4) = m ((c.tc : Thread Cert.PostNormIdeal.nD Cert.PostNormIdeal.τ).loc Cert.PostNormIdeal.main_arg4))
      ∧ r.2.sem = fun _ => 0)

def quiescent_PostNormRefIdeal [hPostNormRefIdeal : Cert.PostNormRefIdeal.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2)
      ∧ r.2.mem ((c.tc : Thread Cert.PostNormRefIdeal.nD Cert.PostNormRefIdeal.τ).loc Cert.PostNormRefIdeal.main_arg3) = m ((c.tc : Thread Cert.PostNormRefIdeal.nD Cert.PostNormRefIdeal.τ).loc Cert.PostNormRefIdeal.main_arg3)
      ∧ r.2.mem ((c.tc : Thread Cert.PostNormRefIdeal.nD Cert.PostNormRefIdeal.τ).loc Cert.PostNormRefIdeal.main_arg4) = m ((c.tc : Thread Cert.PostNormRefIdeal.nD Cert.PostNormRefIdeal.τ).loc Cert.PostNormRefIdeal.main_arg4))
      ∧ r.2.sem = fun _ => 0)

def quiescent_MidNorm [hMidNorm : Cert.MidNorm.Facts] : Prop :=
  ∀ (m : (ℓ : Loc Cert.MidNorm.nD Cert.MidNorm.τ Cert.MidNorm.sig) → Buf (Elt Bits) ℓ) (g : Dev Cert.MidNorm.nD → PrngReg), Pre_MidNorm m →
    θ_run (Cert.MidNorm.defs (F := Bits)) (onTc (τ := Cert.MidNorm.τ) (Cert.MidNorm.main (F := Bits))) ⟨m, fun _ => 0, g⟩ (fun r => (∀ c : Dev Cert.MidNorm.nD,
      r.2.mem ((c.tc : Thread Cert.MidNorm.nD Cert.MidNorm.τ).loc Cert.MidNorm.main_arg0) = m ((c.tc : Thread Cert.MidNorm.nD Cert.MidNorm.τ).loc Cert.MidNorm.main_arg0)
      ∧ r.2.mem ((c.tc : Thread Cert.MidNorm.nD Cert.MidNorm.τ).loc Cert.MidNorm.main_arg1) = m ((c.tc : Thread Cert.MidNorm.nD Cert.MidNorm.τ).loc Cert.MidNorm.main_arg1)
      ∧ r.2.mem ((c.tc : Thread Cert.MidNorm.nD Cert.MidNorm.τ).loc Cert.MidNorm.main_arg2) = m ((c.tc : Thread Cert.MidNorm.nD Cert.MidNorm.τ).loc Cert.MidNorm.main_arg2)
      ∧ r.2.mem ((c.tc : Thread Cert.MidNorm.nD Cert.MidNorm.τ).loc Cert.MidNorm.main_arg3) = m ((c.tc : Thread Cert.MidNorm.nD Cert.MidNorm.τ).loc Cert.MidNorm.main_arg3)
      ∧ r.2.mem ((c.tc : Thread Cert.MidNorm.nD Cert.MidNorm.τ).loc Cert.MidNorm.main_arg4) = m ((c.tc : Thread Cert.MidNorm.nD Cert.MidNorm.τ).loc Cert.MidNorm.main_arg4)
      ∧ r.2.mem ((c.tc : Thread Cert.MidNorm.nD Cert.MidNorm.τ).loc Cert.MidNorm.main_arg5) = m ((c.tc : Thread Cert.MidNorm.nD Cert.MidNorm.τ).loc Cert.MidNorm.main_arg5)
      ∧ r.2.mem ((c.tc : Thread Cert.MidNorm.nD Cert.MidNorm.τ).loc Cert.MidNorm.main_arg6) = m ((c.tc : Thread Cert.MidNorm.nD Cert.MidNorm.τ).loc Cert.MidNorm.main_arg6))
      ∧ r.2.sem = fun _ => 0)

def quiescent_MidNormIdeal [hMidNormIdeal : Cert.MidNormIdeal.Facts] : Prop :=
  ∀ (m : (ℓ : Loc Cert.MidNormIdeal.nD Cert.MidNormIdeal.τ Cert.MidNormIdeal.sig) → Buf (Elt Ideal) ℓ) (g : Dev Cert.MidNormIdeal.nD → PrngReg), Pre_MidNormIdeal m →
    θ_run (Cert.MidNormIdeal.defs (F := Ideal)) (onTc (τ := Cert.MidNormIdeal.τ) (Cert.MidNormIdeal.main (F := Ideal))) ⟨m, fun _ => 0, g⟩ (fun r => (∀ c : Dev Cert.MidNormIdeal.nD,
      r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
      ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
      ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
      ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3)
      ∧ r.2.mem ((c.tc : Thread Cert.MidNormIdeal.nD Cert.MidNormIdeal.τ).loc Cert.MidNormIdeal.main_arg4) = m ((c.tc : Thread Cert.MidNormIdeal.nD Cert.MidNormIdeal.τ).loc Cert.MidNormIdeal.main_arg4)
      ∧ r.2.mem ((c.tc : Thread Cert.MidNormIdeal.nD Cert.MidNormIdeal.τ).loc Cert.MidNormIdeal.main_arg5) = m ((c.tc : Thread Cert.MidNormIdeal.nD Cert.MidNormIdeal.τ).loc Cert.MidNormIdeal.main_arg5)
      ∧ r.2.mem ((c.tc : Thread Cert.MidNormIdeal.nD Cert.MidNormIdeal.τ).loc Cert.MidNormIdeal.main_arg6) = m ((c.tc : Thread Cert.MidNormIdeal.nD Cert.MidNormIdeal.τ).loc Cert.MidNormIdeal.main_arg6))
      ∧ r.2.sem = fun _ => 0)

def quiescent_MidNormRefIdeal [hMidNormRefIdeal : Cert.MidNormRefIdeal.Facts] : Prop :=
  ∀ (m : (ℓ : Loc Cert.MidNormRefIdeal.nD Cert.MidNormRefIdeal.τ Cert.MidNormRefIdeal.sig) → Buf (Elt Ideal) ℓ) (g : Dev Cert.MidNormRefIdeal.nD → PrngReg), Pre_MidNormRefIdeal m →
    θ_run (Cert.MidNormRefIdeal.defs (F := Ideal)) (onTc (τ := Cert.MidNormRefIdeal.τ) (Cert.MidNormRefIdeal.main (F := Ideal))) ⟨m, fun _ => 0, g⟩ (fun r => (∀ c : Dev Cert.MidNormRefIdeal.nD,
      r.2.mem ((c.tc : Thread Cert.MidNormRefIdeal.nD Cert.MidNormRefIdeal.τ).loc Cert.MidNormRefIdeal.main_arg0) = m ((c.tc : Thread Cert.MidNormRefIdeal.nD Cert.MidNormRefIdeal.τ).loc Cert.MidNormRefIdeal.main_arg0)
      ∧ r.2.mem ((c.tc : Thread Cert.MidNormRefIdeal.nD Cert.MidNormRefIdeal.τ).loc Cert.MidNormRefIdeal.main_arg1) = m ((c.tc : Thread Cert.MidNormRefIdeal.nD Cert.MidNormRefIdeal.τ).loc Cert.MidNormRefIdeal.main_arg1)
      ∧ r.2.mem ((c.tc : Thread Cert.MidNormRefIdeal.nD Cert.MidNormRefIdeal.τ).loc Cert.MidNormRefIdeal.main_arg2) = m ((c.tc : Thread Cert.MidNormRefIdeal.nD Cert.MidNormRefIdeal.τ).loc Cert.MidNormRefIdeal.main_arg2)
      ∧ r.2.mem ((c.tc : Thread Cert.MidNormRefIdeal.nD Cert.MidNormRefIdeal.τ).loc Cert.MidNormRefIdeal.main_arg3) = m ((c.tc : Thread Cert.MidNormRefIdeal.nD Cert.MidNormRefIdeal.τ).loc Cert.MidNormRefIdeal.main_arg3)
      ∧ r.2.mem ((c.tc : Thread Cert.MidNormRefIdeal.nD Cert.MidNormRefIdeal.τ).loc Cert.MidNormRefIdeal.main_arg4) = m ((c.tc : Thread Cert.MidNormRefIdeal.nD Cert.MidNormRefIdeal.τ).loc Cert.MidNormRefIdeal.main_arg4)
      ∧ r.2.mem ((c.tc : Thread Cert.MidNormRefIdeal.nD Cert.MidNormRefIdeal.τ).loc Cert.MidNormRefIdeal.main_arg5) = m ((c.tc : Thread Cert.MidNormRefIdeal.nD Cert.MidNormRefIdeal.τ).loc Cert.MidNormRefIdeal.main_arg5)
      ∧ r.2.mem ((c.tc : Thread Cert.MidNormRefIdeal.nD Cert.MidNormRefIdeal.τ).loc Cert.MidNormRefIdeal.main_arg6) = m ((c.tc : Thread Cert.MidNormRefIdeal.nD Cert.MidNormRefIdeal.τ).loc Cert.MidNormRefIdeal.main_arg6))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1)
      ∧ r.2.mem ((c.tc : Thread Cert.HyIn.nD Cert.HyIn.τ).loc Cert.HyIn.main_arg2) = m ((c.tc : Thread Cert.HyIn.nD Cert.HyIn.τ).loc Cert.HyIn.main_arg2))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
      ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2))
      ∧ r.2.sem = fun _ => 0)

def quiescent_HyInRefIdeal [hHyInRefIdeal : Cert.HyInRefIdeal.Facts] : Prop :=
  ∀ (m : (ℓ : Loc Cert.HyInRefIdeal.nD Cert.HyInRefIdeal.τ Cert.HyInRefIdeal.sig) → Buf (Elt Ideal) ℓ) (g : Dev Cert.HyInRefIdeal.nD → PrngReg), Pre_HyInRefIdeal m →
    θ_run (Cert.HyInRefIdeal.defs (F := Ideal)) (onTc (τ := Cert.HyInRefIdeal.τ) (Cert.HyInRefIdeal.main (F := Ideal))) ⟨m, fun _ => 0, g⟩ (fun r => (∀ c : Dev Cert.HyInRefIdeal.nD,
      r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1)
      ∧ r.2.mem ((c.tc : Thread Cert.HyInRefIdeal.nD Cert.HyInRefIdeal.τ).loc Cert.HyInRefIdeal.main_arg2) = m ((c.tc : Thread Cert.HyInRefIdeal.nD Cert.HyInRefIdeal.τ).loc Cert.HyInRefIdeal.main_arg2))
      ∧ r.2.sem = fun _ => 0)

def quiescent_HyOut [hHyOut : Cert.HyOut.Facts] : Prop :=
  ∀ (m : (ℓ : Loc Cert.HyOut.nD Cert.HyOut.τ Cert.HyOut.sig) → Buf (Elt Bits) ℓ) (g : Dev Cert.HyOut.nD → PrngReg), Pre_HyOut m →
    θ_run (Cert.HyOut.defs (F := Bits)) (onTc (τ := Cert.HyOut.τ) (Cert.HyOut.main (F := Bits))) ⟨m, fun _ => 0, g⟩ (fun r => (∀ c : Dev Cert.HyOut.nD,
      r.2.mem ((c.tc : Thread Cert.HyOut.nD Cert.HyOut.τ).loc Cert.HyOut.main_arg0) = m ((c.tc : Thread Cert.HyOut.nD Cert.HyOut.τ).loc Cert.HyOut.main_arg0)
      ∧ r.2.mem ((c.tc : Thread Cert.HyOut.nD Cert.HyOut.τ).loc Cert.HyOut.main_arg1) = m ((c.tc : Thread Cert.HyOut.nD Cert.HyOut.τ).loc Cert.HyOut.main_arg1)
      ∧ r.2.mem ((c.tc : Thread Cert.HyOut.nD Cert.HyOut.τ).loc Cert.HyOut.main_arg2) = m ((c.tc : Thread Cert.HyOut.nD Cert.HyOut.τ).loc Cert.HyOut.main_arg2))
      ∧ r.2.sem = fun _ => 0)

def quiescent_HyOutIdeal [hHyOutIdeal : Cert.HyOutIdeal.Facts] : Prop :=
  ∀ (m : (ℓ : Loc Cert.HyOutIdeal.nD Cert.HyOutIdeal.τ Cert.HyOutIdeal.sig) → Buf (Elt Ideal) ℓ) (g : Dev Cert.HyOutIdeal.nD → PrngReg), Pre_HyOutIdeal m →
    θ_run (Cert.HyOutIdeal.defs (F := Ideal)) (onTc (τ := Cert.HyOutIdeal.τ) (Cert.HyOutIdeal.main (F := Ideal))) ⟨m, fun _ => 0, g⟩ (fun r => (∀ c : Dev Cert.HyOutIdeal.nD,
      r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
      ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
      ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2))
      ∧ r.2.sem = fun _ => 0)

def quiescent_HyOutRefIdeal [hHyOutRefIdeal : Cert.HyOutRefIdeal.Facts] : Prop :=
  ∀ (m : (ℓ : Loc Cert.HyOutRefIdeal.nD Cert.HyOutRefIdeal.τ Cert.HyOutRefIdeal.sig) → Buf (Elt Ideal) ℓ) (g : Dev Cert.HyOutRefIdeal.nD → PrngReg), Pre_HyOutRefIdeal m →
    θ_run (Cert.HyOutRefIdeal.defs (F := Ideal)) (onTc (τ := Cert.HyOutRefIdeal.τ) (Cert.HyOutRefIdeal.main (F := Ideal))) ⟨m, fun _ => 0, g⟩ (fun r => (∀ c : Dev Cert.HyOutRefIdeal.nD,
      r.2.mem ((c.tc : Thread Cert.HyOutRefIdeal.nD Cert.HyOutRefIdeal.τ).loc Cert.HyOutRefIdeal.main_arg0) = m ((c.tc : Thread Cert.HyOutRefIdeal.nD Cert.HyOutRefIdeal.τ).loc Cert.HyOutRefIdeal.main_arg0)
      ∧ r.2.mem ((c.tc : Thread Cert.HyOutRefIdeal.nD Cert.HyOutRefIdeal.τ).loc Cert.HyOutRefIdeal.main_arg1) = m ((c.tc : Thread Cert.HyOutRefIdeal.nD Cert.HyOutRefIdeal.τ).loc Cert.HyOutRefIdeal.main_arg1)
      ∧ r.2.mem ((c.tc : Thread Cert.HyOutRefIdeal.nD Cert.HyOutRefIdeal.τ).loc Cert.HyOutRefIdeal.main_arg2) = m ((c.tc : Thread Cert.HyOutRefIdeal.nD Cert.HyOutRefIdeal.τ).loc Cert.HyOutRefIdeal.main_arg2))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1))
      ∧ r.2.sem = fun _ => 0)

def quiescent_GdnAb [hGdnAb : Cert.GdnAb.Facts] : Prop :=
  ∀ (m : (ℓ : Loc Cert.GdnAb.nD Cert.GdnAb.τ Cert.GdnAb.sig) → Buf (Elt Bits) ℓ) (g : Dev Cert.GdnAb.nD → PrngReg), Pre_GdnAb m →
    θ_run (Cert.GdnAb.defs (F := Bits)) (onTc (τ := Cert.GdnAb.τ) (Cert.GdnAb.main (F := Bits))) ⟨m, fun _ => 0, g⟩ (fun r => (∀ c : Dev Cert.GdnAb.nD,
      r.2.mem ((c.tc : Thread Cert.GdnAb.nD Cert.GdnAb.τ).loc Cert.GdnAb.main_arg0) = m ((c.tc : Thread Cert.GdnAb.nD Cert.GdnAb.τ).loc Cert.GdnAb.main_arg0)
      ∧ r.2.mem ((c.tc : Thread Cert.GdnAb.nD Cert.GdnAb.τ).loc Cert.GdnAb.main_arg1) = m ((c.tc : Thread Cert.GdnAb.nD Cert.GdnAb.τ).loc Cert.GdnAb.main_arg1))
      ∧ r.2.sem = fun _ => 0)

def quiescent_GdnAbIdeal [hGdnAbIdeal : Cert.GdnAbIdeal.Facts] : Prop :=
  ∀ (m : (ℓ : Loc Cert.GdnAbIdeal.nD Cert.GdnAbIdeal.τ Cert.GdnAbIdeal.sig) → Buf (Elt Ideal) ℓ) (g : Dev Cert.GdnAbIdeal.nD → PrngReg), Pre_GdnAbIdeal m →
    θ_run (Cert.GdnAbIdeal.defs (F := Ideal)) (onTc (τ := Cert.GdnAbIdeal.τ) (Cert.GdnAbIdeal.main (F := Ideal))) ⟨m, fun _ => 0, g⟩ (fun r => (∀ c : Dev Cert.GdnAbIdeal.nD,
      r.2.mem ((c.tc : Thread Cert.GdnAbIdeal.nD Cert.GdnAbIdeal.τ).loc Cert.GdnAbIdeal.main_arg0) = m ((c.tc : Thread Cert.GdnAbIdeal.nD Cert.GdnAbIdeal.τ).loc Cert.GdnAbIdeal.main_arg0)
      ∧ r.2.mem ((c.tc : Thread Cert.GdnAbIdeal.nD Cert.GdnAbIdeal.τ).loc Cert.GdnAbIdeal.main_arg1) = m ((c.tc : Thread Cert.GdnAbIdeal.nD Cert.GdnAbIdeal.τ).loc Cert.GdnAbIdeal.main_arg1))
      ∧ r.2.sem = fun _ => 0)

def quiescent_GdnAbRefIdeal [hGdnAbRefIdeal : Cert.GdnAbRefIdeal.Facts] : Prop :=
  ∀ (m : (ℓ : Loc Cert.GdnAbRefIdeal.nD Cert.GdnAbRefIdeal.τ Cert.GdnAbRefIdeal.sig) → Buf (Elt Ideal) ℓ) (g : Dev Cert.GdnAbRefIdeal.nD → PrngReg), Pre_GdnAbRefIdeal m →
    θ_run (Cert.GdnAbRefIdeal.defs (F := Ideal)) (onTc (τ := Cert.GdnAbRefIdeal.τ) (Cert.GdnAbRefIdeal.main (F := Ideal))) ⟨m, fun _ => 0, g⟩ (fun r => (∀ c : Dev Cert.GdnAbRefIdeal.nD,
      r.2.mem ((c.tc : Thread Cert.GdnAbRefIdeal.nD Cert.GdnAbRefIdeal.τ).loc Cert.GdnAbRefIdeal.main_arg0) = m ((c.tc : Thread Cert.GdnAbRefIdeal.nD Cert.GdnAbRefIdeal.τ).loc Cert.GdnAbRefIdeal.main_arg0)
      ∧ r.2.mem ((c.tc : Thread Cert.GdnAbRefIdeal.nD Cert.GdnAbRefIdeal.τ).loc Cert.GdnAbRefIdeal.main_arg1) = m ((c.tc : Thread Cert.GdnAbRefIdeal.nD Cert.GdnAbRefIdeal.τ).loc Cert.GdnAbRefIdeal.main_arg1))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_HyShort [hHyShort : Cert.HyShort.Facts] : Prop :=
  ∀ (m : (ℓ : Loc Cert.HyShort.nD Cert.HyShort.τ Cert.HyShort.sig) → Buf (Elt Bits) ℓ) (g : Dev Cert.HyShort.nD → PrngReg), Pre_HyShort m →
    θ_run (Cert.HyShort.defs (F := Bits)) (onTc (τ := Cert.HyShort.τ) (Cert.HyShort.main (F := Bits))) ⟨m, fun _ => 0, g⟩ (fun r => (∀ c : Dev Cert.HyShort.nD,
      r.2.mem ((c.tc : Thread Cert.HyShort.nD Cert.HyShort.τ).loc Cert.HyShort.main_arg0) = m ((c.tc : Thread Cert.HyShort.nD Cert.HyShort.τ).loc Cert.HyShort.main_arg0)
      ∧ r.2.mem ((c.tc : Thread Cert.HyShort.nD Cert.HyShort.τ).loc Cert.HyShort.main_arg1) = m ((c.tc : Thread Cert.HyShort.nD Cert.HyShort.τ).loc Cert.HyShort.main_arg1)
      ∧ r.2.mem ((c.tc : Thread Cert.HyShort.nD Cert.HyShort.τ).loc Cert.HyShort.main_arg2) = m ((c.tc : Thread Cert.HyShort.nD Cert.HyShort.τ).loc Cert.HyShort.main_arg2))
      ∧ r.2.sem = fun _ => 0)

def quiescent_HyShortIdeal [hHyShortIdeal : Cert.HyShortIdeal.Facts] : Prop :=
  ∀ (m : (ℓ : Loc Cert.HyShortIdeal.nD Cert.HyShortIdeal.τ Cert.HyShortIdeal.sig) → Buf (Elt Ideal) ℓ) (g : Dev Cert.HyShortIdeal.nD → PrngReg), Pre_HyShortIdeal m →
    θ_run (Cert.HyShortIdeal.defs (F := Ideal)) (onTc (τ := Cert.HyShortIdeal.τ) (Cert.HyShortIdeal.main (F := Ideal))) ⟨m, fun _ => 0, g⟩ (fun r => (∀ c : Dev Cert.HyShortIdeal.nD,
      r.2.mem ((c.tc : Thread Cert.HyShortIdeal.nD Cert.HyShortIdeal.τ).loc Cert.HyShortIdeal.main_arg0) = m ((c.tc : Thread Cert.HyShortIdeal.nD Cert.HyShortIdeal.τ).loc Cert.HyShortIdeal.main_arg0)
      ∧ r.2.mem ((c.tc : Thread Cert.HyShortIdeal.nD Cert.HyShortIdeal.τ).loc Cert.HyShortIdeal.main_arg1) = m ((c.tc : Thread Cert.HyShortIdeal.nD Cert.HyShortIdeal.τ).loc Cert.HyShortIdeal.main_arg1)
      ∧ r.2.mem ((c.tc : Thread Cert.HyShortIdeal.nD Cert.HyShortIdeal.τ).loc Cert.HyShortIdeal.main_arg2) = m ((c.tc : Thread Cert.HyShortIdeal.nD Cert.HyShortIdeal.τ).loc Cert.HyShortIdeal.main_arg2))
      ∧ r.2.sem = fun _ => 0)

def quiescent_HyShortRefIdeal [hHyShortRefIdeal : Cert.HyShortRefIdeal.Facts] : Prop :=
  ∀ (m : (ℓ : Loc Cert.HyShortRefIdeal.nD Cert.HyShortRefIdeal.τ Cert.HyShortRefIdeal.sig) → Buf (Elt Ideal) ℓ) (g : Dev Cert.HyShortRefIdeal.nD → PrngReg), Pre_HyShortRefIdeal m →
    θ_run (Cert.HyShortRefIdeal.defs (F := Ideal)) (onTc (τ := Cert.HyShortRefIdeal.τ) (Cert.HyShortRefIdeal.main (F := Ideal))) ⟨m, fun _ => 0, g⟩ (fun r => (∀ c : Dev Cert.HyShortRefIdeal.nD,
      r.2.mem ((c.tc : Thread Cert.HyShortRefIdeal.nD Cert.HyShortRefIdeal.τ).loc Cert.HyShortRefIdeal.main_arg0) = m ((c.tc : Thread Cert.HyShortRefIdeal.nD Cert.HyShortRefIdeal.τ).loc Cert.HyShortRefIdeal.main_arg0)
      ∧ r.2.mem ((c.tc : Thread Cert.HyShortRefIdeal.nD Cert.HyShortRefIdeal.τ).loc Cert.HyShortRefIdeal.main_arg1) = m ((c.tc : Thread Cert.HyShortRefIdeal.nD Cert.HyShortRefIdeal.τ).loc Cert.HyShortRefIdeal.main_arg1)
      ∧ r.2.mem ((c.tc : Thread Cert.HyShortRefIdeal.nD Cert.HyShortRefIdeal.τ).loc Cert.HyShortRefIdeal.main_arg2) = m ((c.tc : Thread Cert.HyShortRefIdeal.nD Cert.HyShortRefIdeal.τ).loc Cert.HyShortRefIdeal.main_arg2))
      ∧ r.2.sem = fun _ => 0)

def quiescent_GdnPre [hGdnPre : Cert.GdnPre.Facts] : Prop :=
  ∀ (m : (ℓ : Loc Cert.GdnPre.nD Cert.GdnPre.τ Cert.GdnPre.sig) → Buf (Elt Bits) ℓ) (g : Dev Cert.GdnPre.nD → PrngReg), Pre_GdnPre m →
    θ_run (Cert.GdnPre.defs (F := Bits)) (onTc (τ := Cert.GdnPre.τ) (Cert.GdnPre.main (F := Bits))) ⟨m, fun _ => 0, g⟩ (fun r => (∀ c : Dev Cert.GdnPre.nD,
      r.2.mem ((c.tc : Thread Cert.GdnPre.nD Cert.GdnPre.τ).loc Cert.GdnPre.main_arg0) = m ((c.tc : Thread Cert.GdnPre.nD Cert.GdnPre.τ).loc Cert.GdnPre.main_arg0)
      ∧ r.2.mem ((c.tc : Thread Cert.GdnPre.nD Cert.GdnPre.τ).loc Cert.GdnPre.main_arg1) = m ((c.tc : Thread Cert.GdnPre.nD Cert.GdnPre.τ).loc Cert.GdnPre.main_arg1))
      ∧ r.2.sem = fun _ => 0)

def quiescent_GdnPreIdeal [hGdnPreIdeal : Cert.GdnPreIdeal.Facts] : Prop :=
  ∀ (m : (ℓ : Loc Cert.GdnPreIdeal.nD Cert.GdnPreIdeal.τ Cert.GdnPreIdeal.sig) → Buf (Elt Ideal) ℓ) (g : Dev Cert.GdnPreIdeal.nD → PrngReg), Pre_GdnPreIdeal m →
    θ_run (Cert.GdnPreIdeal.defs (F := Ideal)) (onTc (τ := Cert.GdnPreIdeal.τ) (Cert.GdnPreIdeal.main (F := Ideal))) ⟨m, fun _ => 0, g⟩ (fun r => (∀ c : Dev Cert.GdnPreIdeal.nD,
      r.2.mem ((c.tc : Thread Cert.GdnPreIdeal.nD Cert.GdnPreIdeal.τ).loc Cert.GdnPreIdeal.main_arg0) = m ((c.tc : Thread Cert.GdnPreIdeal.nD Cert.GdnPreIdeal.τ).loc Cert.GdnPreIdeal.main_arg0)
      ∧ r.2.mem ((c.tc : Thread Cert.GdnPreIdeal.nD Cert.GdnPreIdeal.τ).loc Cert.GdnPreIdeal.main_arg1) = m ((c.tc : Thread Cert.GdnPreIdeal.nD Cert.GdnPreIdeal.τ).loc Cert.GdnPreIdeal.main_arg1))
      ∧ r.2.sem = fun _ => 0)

def quiescent_GdnPreRefIdeal [hGdnPreRefIdeal : Cert.GdnPreRefIdeal.Facts] : Prop :=
  ∀ (m : (ℓ : Loc Cert.GdnPreRefIdeal.nD Cert.GdnPreRefIdeal.τ Cert.GdnPreRefIdeal.sig) → Buf (Elt Ideal) ℓ) (g : Dev Cert.GdnPreRefIdeal.nD → PrngReg), Pre_GdnPreRefIdeal m →
    θ_run (Cert.GdnPreRefIdeal.defs (F := Ideal)) (onTc (τ := Cert.GdnPreRefIdeal.τ) (Cert.GdnPreRefIdeal.main (F := Ideal))) ⟨m, fun _ => 0, g⟩ (fun r => (∀ c : Dev Cert.GdnPreRefIdeal.nD,
      r.2.mem ((c.tc : Thread Cert.GdnPreRefIdeal.nD Cert.GdnPreRefIdeal.τ).loc Cert.GdnPreRefIdeal.main_arg0) = m ((c.tc : Thread Cert.GdnPreRefIdeal.nD Cert.GdnPreRefIdeal.τ).loc Cert.GdnPreRefIdeal.main_arg0)
      ∧ r.2.mem ((c.tc : Thread Cert.GdnPreRefIdeal.nD Cert.GdnPreRefIdeal.τ).loc Cert.GdnPreRefIdeal.main_arg1) = m ((c.tc : Thread Cert.GdnPreRefIdeal.nD Cert.GdnPreRefIdeal.τ).loc Cert.GdnPreRefIdeal.main_arg1))
      ∧ r.2.sem = fun _ => 0)

def quiescent_GdnPost [hGdnPost : Cert.GdnPost.Facts] : Prop :=
  ∀ (m : (ℓ : Loc Cert.GdnPost.nD Cert.GdnPost.τ Cert.GdnPost.sig) → Buf (Elt Bits) ℓ) (g : Dev Cert.GdnPost.nD → PrngReg), Pre_GdnPost m →
    θ_run (Cert.GdnPost.defs (F := Bits)) (onTc (τ := Cert.GdnPost.τ) (Cert.GdnPost.main (F := Bits))) ⟨m, fun _ => 0, g⟩ (fun r => (∀ c : Dev Cert.GdnPost.nD,
      r.2.mem ((c.tc : Thread Cert.GdnPost.nD Cert.GdnPost.τ).loc Cert.GdnPost.main_arg0) = m ((c.tc : Thread Cert.GdnPost.nD Cert.GdnPost.τ).loc Cert.GdnPost.main_arg0)
      ∧ r.2.mem ((c.tc : Thread Cert.GdnPost.nD Cert.GdnPost.τ).loc Cert.GdnPost.main_arg1) = m ((c.tc : Thread Cert.GdnPost.nD Cert.GdnPost.τ).loc Cert.GdnPost.main_arg1)
      ∧ r.2.mem ((c.tc : Thread Cert.GdnPost.nD Cert.GdnPost.τ).loc Cert.GdnPost.main_arg2) = m ((c.tc : Thread Cert.GdnPost.nD Cert.GdnPost.τ).loc Cert.GdnPost.main_arg2)
      ∧ r.2.mem ((c.tc : Thread Cert.GdnPost.nD Cert.GdnPost.τ).loc Cert.GdnPost.main_arg3) = m ((c.tc : Thread Cert.GdnPost.nD Cert.GdnPost.τ).loc Cert.GdnPost.main_arg3))
      ∧ r.2.sem = fun _ => 0)

def quiescent_GdnPostIdeal [hGdnPostIdeal : Cert.GdnPostIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg), Pre_GdnPostIdeal m →
    θ_run (Cert.GdnPostIdeal.defs (F := Ideal)) (onTc (τ := Cert.GdnPostIdeal.τ) (Cert.GdnPostIdeal.main (F := Ideal))) ⟨m, fun _ => 0, g⟩ (fun r => (∀ c : Dev Cert.GdnPostIdeal.nD,
      r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
      ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
      ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
      ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3))
      ∧ r.2.sem = fun _ => 0)

def quiescent_GdnPostRefIdeal [hGdnPostRefIdeal : Cert.GdnPostRefIdeal.Facts] : Prop :=
  ∀ (m : (ℓ : Loc Cert.GdnPostRefIdeal.nD Cert.GdnPostRefIdeal.τ Cert.GdnPostRefIdeal.sig) → Buf (Elt Ideal) ℓ) (g : Dev Cert.GdnPostRefIdeal.nD → PrngReg), Pre_GdnPostRefIdeal m →
    θ_run (Cert.GdnPostRefIdeal.defs (F := Ideal)) (onTc (τ := Cert.GdnPostRefIdeal.τ) (Cert.GdnPostRefIdeal.main (F := Ideal))) ⟨m, fun _ => 0, g⟩ (fun r => (∀ c : Dev Cert.GdnPostRefIdeal.nD,
      r.2.mem ((c.tc : Thread Cert.GdnPostRefIdeal.nD Cert.GdnPostRefIdeal.τ).loc Cert.GdnPostRefIdeal.main_arg0) = m ((c.tc : Thread Cert.GdnPostRefIdeal.nD Cert.GdnPostRefIdeal.τ).loc Cert.GdnPostRefIdeal.main_arg0)
      ∧ r.2.mem ((c.tc : Thread Cert.GdnPostRefIdeal.nD Cert.GdnPostRefIdeal.τ).loc Cert.GdnPostRefIdeal.main_arg1) = m ((c.tc : Thread Cert.GdnPostRefIdeal.nD Cert.GdnPostRefIdeal.τ).loc Cert.GdnPostRefIdeal.main_arg1)
      ∧ r.2.mem ((c.tc : Thread Cert.GdnPostRefIdeal.nD Cert.GdnPostRefIdeal.τ).loc Cert.GdnPostRefIdeal.main_arg2) = m ((c.tc : Thread Cert.GdnPostRefIdeal.nD Cert.GdnPostRefIdeal.τ).loc Cert.GdnPostRefIdeal.main_arg2)
      ∧ r.2.mem ((c.tc : Thread Cert.GdnPostRefIdeal.nD Cert.GdnPostRefIdeal.τ).loc Cert.GdnPostRefIdeal.main_arg3) = m ((c.tc : Thread Cert.GdnPostRefIdeal.nD Cert.GdnPostRefIdeal.τ).loc Cert.GdnPostRefIdeal.main_arg3))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def preserves_Kernel_KernelIdeal : Prop :=
  True

def preserves_PostNorm_PostNormIdeal : Prop :=
  True

def algebraic_PostNormIdeal_PostNormRefIdeal [hPostNormIdeal : Cert.PostNormIdeal.Facts] [hPostNormRefIdeal : Cert.PostNormRefIdeal.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormRefIdeal.nD Cert.PostNormRefIdeal.τ Cert.PostNormRefIdeal.sig) → Buf (Elt Ideal) ℓ) (g' : Dev Cert.PostNormRefIdeal.nD → PrngReg), Pre_PostNormIdeal m →
    (∀ c : Dev Cert.PostNormIdeal.nD,
      m' ((c.tc : Thread Cert.PostNormRefIdeal.nD Cert.PostNormRefIdeal.τ).loc Cert.PostNormRefIdeal.main_arg0) = m ((c.tc : Thread Cert.PostNormIdeal.nD Cert.PostNormIdeal.τ).loc Cert.PostNormIdeal.main_arg0)
      ∧ m' ((c.tc : Thread Cert.PostNormRefIdeal.nD Cert.PostNormRefIdeal.τ).loc Cert.PostNormRefIdeal.main_arg1) = m ((c.tc : Thread Cert.PostNormIdeal.nD Cert.PostNormIdeal.τ).loc Cert.PostNormIdeal.main_arg1)
      ∧ m' ((c.tc : Thread Cert.PostNormRefIdeal.nD Cert.PostNormRefIdeal.τ).loc Cert.PostNormRefIdeal.main_arg2) = m ((c.tc : Thread Cert.PostNormIdeal.nD Cert.PostNormIdeal.τ).loc Cert.PostNormIdeal.main_arg2)
      ∧ m' ((c.tc : Thread Cert.PostNormRefIdeal.nD Cert.PostNormRefIdeal.τ).loc Cert.PostNormRefIdeal.main_arg3) = m ((c.tc : Thread Cert.PostNormIdeal.nD Cert.PostNormIdeal.τ).loc Cert.PostNormIdeal.main_arg3)
      ∧ m' ((c.tc : Thread Cert.PostNormRefIdeal.nD Cert.PostNormRefIdeal.τ).loc Cert.PostNormRefIdeal.main_arg4) = m ((c.tc : Thread Cert.PostNormIdeal.nD Cert.PostNormIdeal.τ).loc Cert.PostNormIdeal.main_arg4)) →
    ∃ (v0 : (c : Dev Cert.PostNormIdeal.nD) → Buf (Elt Ideal) ((c.tc : Thread Cert.PostNormIdeal.nD Cert.PostNormIdeal.τ).loc Cert.PostNormIdeal.main_v7)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v7) = v0 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2)
          ∧ r.2.mem ((c.tc : Thread Cert.PostNormIdeal.nD Cert.PostNormIdeal.τ).loc Cert.PostNormIdeal.main_arg3) = m ((c.tc : Thread Cert.PostNormIdeal.nD Cert.PostNormIdeal.τ).loc Cert.PostNormIdeal.main_arg3)
          ∧ r.2.mem ((c.tc : Thread Cert.PostNormIdeal.nD Cert.PostNormIdeal.τ).loc Cert.PostNormIdeal.main_arg4) = m ((c.tc : Thread Cert.PostNormIdeal.nD Cert.PostNormIdeal.τ).loc Cert.PostNormIdeal.main_arg4))
      ∧ θ_run (Cert.PostNormRefIdeal.defs (F := Ideal)) (onTc (τ := Cert.PostNormRefIdeal.τ) (Cert.PostNormRefIdeal.main (F := Ideal))) ⟨m', fun _ => 0, g'⟩ (fun r => ∀ c : Dev Cert.PostNormRefIdeal.nD,
          r.2.mem ((c.tc : Thread Cert.PostNormRefIdeal.nD Cert.PostNormRefIdeal.τ).loc Cert.PostNormRefIdeal.main_v29) = v0 c
          ∧ r.2.mem ((c.tc : Thread Cert.PostNormRefIdeal.nD Cert.PostNormRefIdeal.τ).loc Cert.PostNormRefIdeal.main_arg0) = m' ((c.tc : Thread Cert.PostNormRefIdeal.nD Cert.PostNormRefIdeal.τ).loc Cert.PostNormRefIdeal.main_arg0)
          ∧ r.2.mem ((c.tc : Thread Cert.PostNormRefIdeal.nD Cert.PostNormRefIdeal.τ).loc Cert.PostNormRefIdeal.main_arg1) = m' ((c.tc : Thread Cert.PostNormRefIdeal.nD Cert.PostNormRefIdeal.τ).loc Cert.PostNormRefIdeal.main_arg1)
          ∧ r.2.mem ((c.tc : Thread Cert.PostNormRefIdeal.nD Cert.PostNormRefIdeal.τ).loc Cert.PostNormRefIdeal.main_arg2) = m' ((c.tc : Thread Cert.PostNormRefIdeal.nD Cert.PostNormRefIdeal.τ).loc Cert.PostNormRefIdeal.main_arg2)
          ∧ r.2.mem ((c.tc : Thread Cert.PostNormRefIdeal.nD Cert.PostNormRefIdeal.τ).loc Cert.PostNormRefIdeal.main_arg3) = m' ((c.tc : Thread Cert.PostNormRefIdeal.nD Cert.PostNormRefIdeal.τ).loc Cert.PostNormRefIdeal.main_arg3)
          ∧ r.2.mem ((c.tc : Thread Cert.PostNormRefIdeal.nD Cert.PostNormRefIdeal.τ).loc Cert.PostNormRefIdeal.main_arg4) = m' ((c.tc : Thread Cert.PostNormRefIdeal.nD Cert.PostNormRefIdeal.τ).loc Cert.PostNormRefIdeal.main_arg4))

def preserves_MidNorm_MidNormIdeal : Prop :=
  True

def algebraic_MidNormIdeal_MidNormRefIdeal [hMidNormIdeal : Cert.MidNormIdeal.Facts] [hMidNormRefIdeal : Cert.MidNormRefIdeal.Facts] : Prop :=
  ∀ (m : (ℓ : Loc Cert.MidNormIdeal.nD Cert.MidNormIdeal.τ Cert.MidNormIdeal.sig) → Buf (Elt Ideal) ℓ) (g : Dev Cert.MidNormIdeal.nD → PrngReg)
    (m' : (ℓ : Loc Cert.MidNormRefIdeal.nD Cert.MidNormRefIdeal.τ Cert.MidNormRefIdeal.sig) → Buf (Elt Ideal) ℓ) (g' : Dev Cert.MidNormRefIdeal.nD → PrngReg), Pre_MidNormIdeal m →
    (∀ c : Dev Cert.MidNormIdeal.nD,
      m' ((c.tc : Thread Cert.MidNormRefIdeal.nD Cert.MidNormRefIdeal.τ).loc Cert.MidNormRefIdeal.main_arg0) = m ((c.tc : Thread Cert.MidNormIdeal.nD Cert.MidNormIdeal.τ).loc Cert.MidNormIdeal.main_arg0)
      ∧ m' ((c.tc : Thread Cert.MidNormRefIdeal.nD Cert.MidNormRefIdeal.τ).loc Cert.MidNormRefIdeal.main_arg1) = m ((c.tc : Thread Cert.MidNormIdeal.nD Cert.MidNormIdeal.τ).loc Cert.MidNormIdeal.main_arg1)
      ∧ m' ((c.tc : Thread Cert.MidNormRefIdeal.nD Cert.MidNormRefIdeal.τ).loc Cert.MidNormRefIdeal.main_arg2) = m ((c.tc : Thread Cert.MidNormIdeal.nD Cert.MidNormIdeal.τ).loc Cert.MidNormIdeal.main_arg2)
      ∧ m' ((c.tc : Thread Cert.MidNormRefIdeal.nD Cert.MidNormRefIdeal.τ).loc Cert.MidNormRefIdeal.main_arg3) = m ((c.tc : Thread Cert.MidNormIdeal.nD Cert.MidNormIdeal.τ).loc Cert.MidNormIdeal.main_arg3)
      ∧ m' ((c.tc : Thread Cert.MidNormRefIdeal.nD Cert.MidNormRefIdeal.τ).loc Cert.MidNormRefIdeal.main_arg4) = m ((c.tc : Thread Cert.MidNormIdeal.nD Cert.MidNormIdeal.τ).loc Cert.MidNormIdeal.main_arg4)
      ∧ m' ((c.tc : Thread Cert.MidNormRefIdeal.nD Cert.MidNormRefIdeal.τ).loc Cert.MidNormRefIdeal.main_arg5) = m ((c.tc : Thread Cert.MidNormIdeal.nD Cert.MidNormIdeal.τ).loc Cert.MidNormIdeal.main_arg5)
      ∧ m' ((c.tc : Thread Cert.MidNormRefIdeal.nD Cert.MidNormRefIdeal.τ).loc Cert.MidNormRefIdeal.main_arg6) = m ((c.tc : Thread Cert.MidNormIdeal.nD Cert.MidNormIdeal.τ).loc Cert.MidNormIdeal.main_arg6)) →
    ∃ (v0 : (c : Dev Cert.MidNormIdeal.nD) → Buf (Elt Ideal) ((c.tc : Thread Cert.MidNormIdeal.nD Cert.MidNormIdeal.τ).loc Cert.MidNormIdeal.main_v2_0)) (v1 : (c : Dev Cert.MidNormIdeal.nD) → Buf (Elt Ideal) ((c.tc : Thread Cert.MidNormIdeal.nD Cert.MidNormIdeal.τ).loc Cert.MidNormIdeal.main_v2_1)),
      θ_run (Cert.MidNormIdeal.defs (F := Ideal)) (onTc (τ := Cert.MidNormIdeal.τ) (Cert.MidNormIdeal.main (F := Ideal))) ⟨m, fun _ => 0, g⟩ (fun r => ∀ c : Dev Cert.MidNormIdeal.nD,
          r.2.mem ((c.tc : Thread Cert.MidNormIdeal.nD Cert.MidNormIdeal.τ).loc Cert.MidNormIdeal.main_v2_0) = v0 c
          ∧ r.2.mem ((c.tc : Thread Cert.MidNormIdeal.nD Cert.MidNormIdeal.τ).loc Cert.MidNormIdeal.main_v2_1) = v1 c
          ∧ r.2.mem ((c.tc : Thread Cert.MidNormIdeal.nD Cert.MidNormIdeal.τ).loc Cert.MidNormIdeal.main_arg0) = m ((c.tc : Thread Cert.MidNormIdeal.nD Cert.MidNormIdeal.τ).loc Cert.MidNormIdeal.main_arg0)
          ∧ r.2.mem ((c.tc : Thread Cert.MidNormIdeal.nD Cert.MidNormIdeal.τ).loc Cert.MidNormIdeal.main_arg1) = m ((c.tc : Thread Cert.MidNormIdeal.nD Cert.MidNormIdeal.τ).loc Cert.MidNormIdeal.main_arg1)
          ∧ r.2.mem ((c.tc : Thread Cert.MidNormIdeal.nD Cert.MidNormIdeal.τ).loc Cert.MidNormIdeal.main_arg2) = m ((c.tc : Thread Cert.MidNormIdeal.nD Cert.MidNormIdeal.τ).loc Cert.MidNormIdeal.main_arg2)
          ∧ r.2.mem ((c.tc : Thread Cert.MidNormIdeal.nD Cert.MidNormIdeal.τ).loc Cert.MidNormIdeal.main_arg3) = m ((c.tc : Thread Cert.MidNormIdeal.nD Cert.MidNormIdeal.τ).loc Cert.MidNormIdeal.main_arg3)
          ∧ r.2.mem ((c.tc : Thread Cert.MidNormIdeal.nD Cert.MidNormIdeal.τ).loc Cert.MidNormIdeal.main_arg4) = m ((c.tc : Thread Cert.MidNormIdeal.nD Cert.MidNormIdeal.τ).loc Cert.MidNormIdeal.main_arg4)
          ∧ r.2.mem ((c.tc : Thread Cert.MidNormIdeal.nD Cert.MidNormIdeal.τ).loc Cert.MidNormIdeal.main_arg5) = m ((c.tc : Thread Cert.MidNormIdeal.nD Cert.MidNormIdeal.τ).loc Cert.MidNormIdeal.main_arg5)
          ∧ r.2.mem ((c.tc : Thread Cert.MidNormIdeal.nD Cert.MidNormIdeal.τ).loc Cert.MidNormIdeal.main_arg6) = m ((c.tc : Thread Cert.MidNormIdeal.nD Cert.MidNormIdeal.τ).loc Cert.MidNormIdeal.main_arg6))
      ∧ θ_run (Cert.MidNormRefIdeal.defs (F := Ideal)) (onTc (τ := Cert.MidNormRefIdeal.τ) (Cert.MidNormRefIdeal.main (F := Ideal))) ⟨m', fun _ => 0, g'⟩ (fun r => ∀ c : Dev Cert.MidNormRefIdeal.nD,
          r.2.mem ((c.tc : Thread Cert.MidNormRefIdeal.nD Cert.MidNormRefIdeal.τ).loc Cert.MidNormRefIdeal.main_v29) = v0 c
          ∧ r.2.mem ((c.tc : Thread Cert.MidNormRefIdeal.nD Cert.MidNormRefIdeal.τ).loc Cert.MidNormRefIdeal.main_v36) = v1 c
          ∧ r.2.mem ((c.tc : Thread Cert.MidNormRefIdeal.nD Cert.MidNormRefIdeal.τ).loc Cert.MidNormRefIdeal.main_arg0) = m' ((c.tc : Thread Cert.MidNormRefIdeal.nD Cert.MidNormRefIdeal.τ).loc Cert.MidNormRefIdeal.main_arg0)
          ∧ r.2.mem ((c.tc : Thread Cert.MidNormRefIdeal.nD Cert.MidNormRefIdeal.τ).loc Cert.MidNormRefIdeal.main_arg1) = m' ((c.tc : Thread Cert.MidNormRefIdeal.nD Cert.MidNormRefIdeal.τ).loc Cert.MidNormRefIdeal.main_arg1)
          ∧ r.2.mem ((c.tc : Thread Cert.MidNormRefIdeal.nD Cert.MidNormRefIdeal.τ).loc Cert.MidNormRefIdeal.main_arg2) = m' ((c.tc : Thread Cert.MidNormRefIdeal.nD Cert.MidNormRefIdeal.τ).loc Cert.MidNormRefIdeal.main_arg2)
          ∧ r.2.mem ((c.tc : Thread Cert.MidNormRefIdeal.nD Cert.MidNormRefIdeal.τ).loc Cert.MidNormRefIdeal.main_arg3) = m' ((c.tc : Thread Cert.MidNormRefIdeal.nD Cert.MidNormRefIdeal.τ).loc Cert.MidNormRefIdeal.main_arg3)
          ∧ r.2.mem ((c.tc : Thread Cert.MidNormRefIdeal.nD Cert.MidNormRefIdeal.τ).loc Cert.MidNormRefIdeal.main_arg4) = m' ((c.tc : Thread Cert.MidNormRefIdeal.nD Cert.MidNormRefIdeal.τ).loc Cert.MidNormRefIdeal.main_arg4)
          ∧ r.2.mem ((c.tc : Thread Cert.MidNormRefIdeal.nD Cert.MidNormRefIdeal.τ).loc Cert.MidNormRefIdeal.main_arg5) = m' ((c.tc : Thread Cert.MidNormRefIdeal.nD Cert.MidNormRefIdeal.τ).loc Cert.MidNormRefIdeal.main_arg5)
          ∧ r.2.mem ((c.tc : Thread Cert.MidNormRefIdeal.nD Cert.MidNormRefIdeal.τ).loc Cert.MidNormRefIdeal.main_arg6) = m' ((c.tc : Thread Cert.MidNormRefIdeal.nD Cert.MidNormRefIdeal.τ).loc Cert.MidNormRefIdeal.main_arg6))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v9)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v9) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v5)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v5) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_HyIn_HyInIdeal : Prop :=
  True

def algebraic_HyInIdeal_HyInRefIdeal [hHyInIdeal : Cert.HyInIdeal.Facts] [hHyInRefIdeal : Cert.HyInRefIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInRefIdeal.nD Cert.HyInRefIdeal.τ Cert.HyInRefIdeal.sig) → Buf (Elt Ideal) ℓ) (g' : Dev Cert.HyInRefIdeal.nD → PrngReg), Pre_HyInIdeal m →
    (∀ c : Dev Cert.HyInIdeal.nD,
      m' ((c.tc : Thread Cert.HyInRefIdeal.nD Cert.HyInRefIdeal.τ).loc Cert.HyInRefIdeal.main_arg0) = m ((c.tc : Thread Cert.HyInIdeal.nD Cert.HyInIdeal.τ).loc Cert.HyInIdeal.main_arg0)
      ∧ m' ((c.tc : Thread Cert.HyInRefIdeal.nD Cert.HyInRefIdeal.τ).loc Cert.HyInRefIdeal.main_arg1) = m ((c.tc : Thread Cert.HyInIdeal.nD Cert.HyInIdeal.τ).loc Cert.HyInIdeal.main_arg1)
      ∧ m' ((c.tc : Thread Cert.HyInRefIdeal.nD Cert.HyInRefIdeal.τ).loc Cert.HyInRefIdeal.main_arg2) = m ((c.tc : Thread Cert.HyInIdeal.nD Cert.HyInIdeal.τ).loc Cert.HyInIdeal.main_arg2)) →
    ∃ (v0 : (c : Dev Cert.HyInIdeal.nD) → Buf (Elt Ideal) ((c.tc : Thread Cert.HyInIdeal.nD Cert.HyInIdeal.τ).loc Cert.HyInIdeal.main_v3)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v3) = v0 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
          ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2))
      ∧ θ_run (Cert.HyInRefIdeal.defs (F := Ideal)) (onTc (τ := Cert.HyInRefIdeal.τ) (Cert.HyInRefIdeal.main (F := Ideal))) ⟨m', fun _ => 0, g'⟩ (fun r => ∀ c : Dev Cert.HyInRefIdeal.nD,
          r.2.mem ((c.tc : Thread Cert.HyInRefIdeal.nD Cert.HyInRefIdeal.τ).loc Cert.HyInRefIdeal.main_v6) = v0 c
          ∧ r.2.mem ((c.tc : Thread Cert.HyInRefIdeal.nD Cert.HyInRefIdeal.τ).loc Cert.HyInRefIdeal.main_arg0) = m' ((c.tc : Thread Cert.HyInRefIdeal.nD Cert.HyInRefIdeal.τ).loc Cert.HyInRefIdeal.main_arg0)
          ∧ r.2.mem ((c.tc : Thread Cert.HyInRefIdeal.nD Cert.HyInRefIdeal.τ).loc Cert.HyInRefIdeal.main_arg1) = m' ((c.tc : Thread Cert.HyInRefIdeal.nD Cert.HyInRefIdeal.τ).loc Cert.HyInRefIdeal.main_arg1)
          ∧ r.2.mem ((c.tc : Thread Cert.HyInRefIdeal.nD Cert.HyInRefIdeal.τ).loc Cert.HyInRefIdeal.main_arg2) = m' ((c.tc : Thread Cert.HyInRefIdeal.nD Cert.HyInRefIdeal.τ).loc Cert.HyInRefIdeal.main_arg2))

def preserves_HyOut_HyOutIdeal : Prop :=
  True

def algebraic_HyOutIdeal_HyOutRefIdeal [hHyOutIdeal : Cert.HyOutIdeal.Facts] [hHyOutRefIdeal : Cert.HyOutRefIdeal.Facts] : Prop :=
  ∀ (m : (ℓ : Loc Cert.HyOutIdeal.nD Cert.HyOutIdeal.τ Cert.HyOutIdeal.sig) → Buf (Elt Ideal) ℓ) (g : Dev Cert.HyOutIdeal.nD → PrngReg)
    (m' : (ℓ : Loc Cert.HyOutRefIdeal.nD Cert.HyOutRefIdeal.τ Cert.HyOutRefIdeal.sig) → Buf (Elt Ideal) ℓ) (g' : Dev Cert.HyOutRefIdeal.nD → PrngReg), Pre_HyOutIdeal m →
    (∀ c : Dev Cert.HyOutIdeal.nD,
      m' ((c.tc : Thread Cert.HyOutRefIdeal.nD Cert.HyOutRefIdeal.τ).loc Cert.HyOutRefIdeal.main_arg0) = m ((c.tc : Thread Cert.HyOutIdeal.nD Cert.HyOutIdeal.τ).loc Cert.HyOutIdeal.main_arg0)
      ∧ m' ((c.tc : Thread Cert.HyOutRefIdeal.nD Cert.HyOutRefIdeal.τ).loc Cert.HyOutRefIdeal.main_arg1) = m ((c.tc : Thread Cert.HyOutIdeal.nD Cert.HyOutIdeal.τ).loc Cert.HyOutIdeal.main_arg1)
      ∧ m' ((c.tc : Thread Cert.HyOutRefIdeal.nD Cert.HyOutRefIdeal.τ).loc Cert.HyOutRefIdeal.main_arg2) = m ((c.tc : Thread Cert.HyOutIdeal.nD Cert.HyOutIdeal.τ).loc Cert.HyOutIdeal.main_arg2)) →
    ∃ (v0 : (c : Dev Cert.HyOutIdeal.nD) → Buf (Elt Ideal) ((c.tc : Thread Cert.HyOutIdeal.nD Cert.HyOutIdeal.τ).loc Cert.HyOutIdeal.main_v3)),
      θ_run (Cert.HyOutIdeal.defs (F := Ideal)) (onTc (τ := Cert.HyOutIdeal.τ) (Cert.HyOutIdeal.main (F := Ideal))) ⟨m, fun _ => 0, g⟩ (fun r => ∀ c : Dev Cert.HyOutIdeal.nD,
          r.2.mem ((c.tc : Thread Cert.HyOutIdeal.nD Cert.HyOutIdeal.τ).loc Cert.HyOutIdeal.main_v3) = v0 c
          ∧ r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
          ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
          ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2))
      ∧ θ_run (Cert.HyOutRefIdeal.defs (F := Ideal)) (onTc (τ := Cert.HyOutRefIdeal.τ) (Cert.HyOutRefIdeal.main (F := Ideal))) ⟨m', fun _ => 0, g'⟩ (fun r => ∀ c : Dev Cert.HyOutRefIdeal.nD,
          r.2.mem ((c.tc : Thread Cert.HyOutRefIdeal.nD Cert.HyOutRefIdeal.τ).loc Cert.HyOutRefIdeal.main_v6) = v0 c
          ∧ r.2.mem ((c.tc : Thread Cert.HyOutRefIdeal.nD Cert.HyOutRefIdeal.τ).loc Cert.HyOutRefIdeal.main_arg0) = m' ((c.tc : Thread Cert.HyOutRefIdeal.nD Cert.HyOutRefIdeal.τ).loc Cert.HyOutRefIdeal.main_arg0)
          ∧ r.2.mem ((c.tc : Thread Cert.HyOutRefIdeal.nD Cert.HyOutRefIdeal.τ).loc Cert.HyOutRefIdeal.main_arg1) = m' ((c.tc : Thread Cert.HyOutRefIdeal.nD Cert.HyOutRefIdeal.τ).loc Cert.HyOutRefIdeal.main_arg1)
          ∧ r.2.mem ((c.tc : Thread Cert.HyOutRefIdeal.nD Cert.HyOutRefIdeal.τ).loc Cert.HyOutRefIdeal.main_arg2) = m' ((c.tc : Thread Cert.HyOutRefIdeal.nD Cert.HyOutRefIdeal.τ).loc Cert.HyOutRefIdeal.main_arg2))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v5)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v5) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v4) = v0 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1))

def preserves_GdnAb_GdnAbIdeal : Prop :=
  True

def algebraic_GdnAbIdeal_GdnAbRefIdeal [hGdnAbIdeal : Cert.GdnAbIdeal.Facts] [hGdnAbRefIdeal : Cert.GdnAbRefIdeal.Facts] : Prop :=
  ∀ (m : (ℓ : Loc Cert.GdnAbIdeal.nD Cert.GdnAbIdeal.τ Cert.GdnAbIdeal.sig) → Buf (Elt Ideal) ℓ) (g : Dev Cert.GdnAbIdeal.nD → PrngReg)
    (m' : (ℓ : Loc Cert.GdnAbRefIdeal.nD Cert.GdnAbRefIdeal.τ Cert.GdnAbRefIdeal.sig) → Buf (Elt Ideal) ℓ) (g' : Dev Cert.GdnAbRefIdeal.nD → PrngReg), Pre_GdnAbIdeal m →
    (∀ c : Dev Cert.GdnAbIdeal.nD,
      m' ((c.tc : Thread Cert.GdnAbRefIdeal.nD Cert.GdnAbRefIdeal.τ).loc Cert.GdnAbRefIdeal.main_arg0) = m ((c.tc : Thread Cert.GdnAbIdeal.nD Cert.GdnAbIdeal.τ).loc Cert.GdnAbIdeal.main_arg0)
      ∧ m' ((c.tc : Thread Cert.GdnAbRefIdeal.nD Cert.GdnAbRefIdeal.τ).loc Cert.GdnAbRefIdeal.main_arg1) = m ((c.tc : Thread Cert.GdnAbIdeal.nD Cert.GdnAbIdeal.τ).loc Cert.GdnAbIdeal.main_arg1)) →
    ∃ (v0 : (c : Dev Cert.GdnAbIdeal.nD) → Buf (Elt Ideal) ((c.tc : Thread Cert.GdnAbIdeal.nD Cert.GdnAbIdeal.τ).loc Cert.GdnAbIdeal.main_v5)),
      θ_run (Cert.GdnAbIdeal.defs (F := Ideal)) (onTc (τ := Cert.GdnAbIdeal.τ) (Cert.GdnAbIdeal.main (F := Ideal))) ⟨m, fun _ => 0, g⟩ (fun r => ∀ c : Dev Cert.GdnAbIdeal.nD,
          r.2.mem ((c.tc : Thread Cert.GdnAbIdeal.nD Cert.GdnAbIdeal.τ).loc Cert.GdnAbIdeal.main_v5) = v0 c
          ∧ r.2.mem ((c.tc : Thread Cert.GdnAbIdeal.nD Cert.GdnAbIdeal.τ).loc Cert.GdnAbIdeal.main_arg0) = m ((c.tc : Thread Cert.GdnAbIdeal.nD Cert.GdnAbIdeal.τ).loc Cert.GdnAbIdeal.main_arg0)
          ∧ r.2.mem ((c.tc : Thread Cert.GdnAbIdeal.nD Cert.GdnAbIdeal.τ).loc Cert.GdnAbIdeal.main_arg1) = m ((c.tc : Thread Cert.GdnAbIdeal.nD Cert.GdnAbIdeal.τ).loc Cert.GdnAbIdeal.main_arg1))
      ∧ θ_run (Cert.GdnAbRefIdeal.defs (F := Ideal)) (onTc (τ := Cert.GdnAbRefIdeal.τ) (Cert.GdnAbRefIdeal.main (F := Ideal))) ⟨m', fun _ => 0, g'⟩ (fun r => ∀ c : Dev Cert.GdnAbRefIdeal.nD,
          r.2.mem ((c.tc : Thread Cert.GdnAbRefIdeal.nD Cert.GdnAbRefIdeal.τ).loc Cert.GdnAbRefIdeal.main_v3) = v0 c
          ∧ r.2.mem ((c.tc : Thread Cert.GdnAbRefIdeal.nD Cert.GdnAbRefIdeal.τ).loc Cert.GdnAbRefIdeal.main_arg0) = m' ((c.tc : Thread Cert.GdnAbRefIdeal.nD Cert.GdnAbRefIdeal.τ).loc Cert.GdnAbRefIdeal.main_arg0)
          ∧ r.2.mem ((c.tc : Thread Cert.GdnAbRefIdeal.nD Cert.GdnAbRefIdeal.τ).loc Cert.GdnAbRefIdeal.main_arg1) = m' ((c.tc : Thread Cert.GdnAbRefIdeal.nD Cert.GdnAbRefIdeal.τ).loc Cert.GdnAbRefIdeal.main_arg1))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)) →
    ∃ (v0 : (c : Dev Cert.GdnOutIdeal.nD) → Buf (Elt Ideal) ((c.tc : Thread Cert.GdnOutIdeal.nD Cert.GdnOutIdeal.τ).loc Cert.GdnOutIdeal.main_v4)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v4) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v3) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v6) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_HyShort_HyShortIdeal : Prop :=
  True

def algebraic_HyShortIdeal_HyShortRefIdeal [hHyShortIdeal : Cert.HyShortIdeal.Facts] [hHyShortRefIdeal : Cert.HyShortRefIdeal.Facts] : Prop :=
  ∀ (m : (ℓ : Loc Cert.HyShortIdeal.nD Cert.HyShortIdeal.τ Cert.HyShortIdeal.sig) → Buf (Elt Ideal) ℓ) (g : Dev Cert.HyShortIdeal.nD → PrngReg)
    (m' : (ℓ : Loc Cert.HyShortRefIdeal.nD Cert.HyShortRefIdeal.τ Cert.HyShortRefIdeal.sig) → Buf (Elt Ideal) ℓ) (g' : Dev Cert.HyShortRefIdeal.nD → PrngReg), Pre_HyShortIdeal m →
    (∀ c : Dev Cert.HyShortIdeal.nD,
      m' ((c.tc : Thread Cert.HyShortRefIdeal.nD Cert.HyShortRefIdeal.τ).loc Cert.HyShortRefIdeal.main_arg0) = m ((c.tc : Thread Cert.HyShortIdeal.nD Cert.HyShortIdeal.τ).loc Cert.HyShortIdeal.main_arg0)
      ∧ m' ((c.tc : Thread Cert.HyShortRefIdeal.nD Cert.HyShortRefIdeal.τ).loc Cert.HyShortRefIdeal.main_arg1) = m ((c.tc : Thread Cert.HyShortIdeal.nD Cert.HyShortIdeal.τ).loc Cert.HyShortIdeal.main_arg1)
      ∧ m' ((c.tc : Thread Cert.HyShortRefIdeal.nD Cert.HyShortRefIdeal.τ).loc Cert.HyShortRefIdeal.main_arg2) = m ((c.tc : Thread Cert.HyShortIdeal.nD Cert.HyShortIdeal.τ).loc Cert.HyShortIdeal.main_arg2)) →
    ∃ (v0 : (c : Dev Cert.HyShortIdeal.nD) → Buf (Elt Ideal) ((c.tc : Thread Cert.HyShortIdeal.nD Cert.HyShortIdeal.τ).loc Cert.HyShortIdeal.main_v1)),
      θ_run (Cert.HyShortIdeal.defs (F := Ideal)) (onTc (τ := Cert.HyShortIdeal.τ) (Cert.HyShortIdeal.main (F := Ideal))) ⟨m, fun _ => 0, g⟩ (fun r => ∀ c : Dev Cert.HyShortIdeal.nD,
          r.2.mem ((c.tc : Thread Cert.HyShortIdeal.nD Cert.HyShortIdeal.τ).loc Cert.HyShortIdeal.main_v1) = v0 c
          ∧ r.2.mem ((c.tc : Thread Cert.HyShortIdeal.nD Cert.HyShortIdeal.τ).loc Cert.HyShortIdeal.main_arg0) = m ((c.tc : Thread Cert.HyShortIdeal.nD Cert.HyShortIdeal.τ).loc Cert.HyShortIdeal.main_arg0)
          ∧ r.2.mem ((c.tc : Thread Cert.HyShortIdeal.nD Cert.HyShortIdeal.τ).loc Cert.HyShortIdeal.main_arg1) = m ((c.tc : Thread Cert.HyShortIdeal.nD Cert.HyShortIdeal.τ).loc Cert.HyShortIdeal.main_arg1)
          ∧ r.2.mem ((c.tc : Thread Cert.HyShortIdeal.nD Cert.HyShortIdeal.τ).loc Cert.HyShortIdeal.main_arg2) = m ((c.tc : Thread Cert.HyShortIdeal.nD Cert.HyShortIdeal.τ).loc Cert.HyShortIdeal.main_arg2))
      ∧ θ_run (Cert.HyShortRefIdeal.defs (F := Ideal)) (onTc (τ := Cert.HyShortRefIdeal.τ) (Cert.HyShortRefIdeal.main (F := Ideal))) ⟨m', fun _ => 0, g'⟩ (fun r => ∀ c : Dev Cert.HyShortRefIdeal.nD,
          r.2.mem ((c.tc : Thread Cert.HyShortRefIdeal.nD Cert.HyShortRefIdeal.τ).loc Cert.HyShortRefIdeal.main_v25) = v0 c
          ∧ r.2.mem ((c.tc : Thread Cert.HyShortRefIdeal.nD Cert.HyShortRefIdeal.τ).loc Cert.HyShortRefIdeal.main_arg0) = m' ((c.tc : Thread Cert.HyShortRefIdeal.nD Cert.HyShortRefIdeal.τ).loc Cert.HyShortRefIdeal.main_arg0)
          ∧ r.2.mem ((c.tc : Thread Cert.HyShortRefIdeal.nD Cert.HyShortRefIdeal.τ).loc Cert.HyShortRefIdeal.main_arg1) = m' ((c.tc : Thread Cert.HyShortRefIdeal.nD Cert.HyShortRefIdeal.τ).loc Cert.HyShortRefIdeal.main_arg1)
          ∧ r.2.mem ((c.tc : Thread Cert.HyShortRefIdeal.nD Cert.HyShortRefIdeal.τ).loc Cert.HyShortRefIdeal.main_arg2) = m' ((c.tc : Thread Cert.HyShortRefIdeal.nD Cert.HyShortRefIdeal.τ).loc Cert.HyShortRefIdeal.main_arg2))

def preserves_GdnPre_GdnPreIdeal : Prop :=
  True

def algebraic_GdnPreIdeal_GdnPreRefIdeal [hGdnPreIdeal : Cert.GdnPreIdeal.Facts] [hGdnPreRefIdeal : Cert.GdnPreRefIdeal.Facts] : Prop :=
  ∀ (m : (ℓ : Loc Cert.GdnPreIdeal.nD Cert.GdnPreIdeal.τ Cert.GdnPreIdeal.sig) → Buf (Elt Ideal) ℓ) (g : Dev Cert.GdnPreIdeal.nD → PrngReg)
    (m' : (ℓ : Loc Cert.GdnPreRefIdeal.nD Cert.GdnPreRefIdeal.τ Cert.GdnPreRefIdeal.sig) → Buf (Elt Ideal) ℓ) (g' : Dev Cert.GdnPreRefIdeal.nD → PrngReg), Pre_GdnPreIdeal m →
    (∀ c : Dev Cert.GdnPreIdeal.nD,
      m' ((c.tc : Thread Cert.GdnPreRefIdeal.nD Cert.GdnPreRefIdeal.τ).loc Cert.GdnPreRefIdeal.main_arg0) = m ((c.tc : Thread Cert.GdnPreIdeal.nD Cert.GdnPreIdeal.τ).loc Cert.GdnPreIdeal.main_arg0)
      ∧ m' ((c.tc : Thread Cert.GdnPreRefIdeal.nD Cert.GdnPreRefIdeal.τ).loc Cert.GdnPreRefIdeal.main_arg1) = m ((c.tc : Thread Cert.GdnPreIdeal.nD Cert.GdnPreIdeal.τ).loc Cert.GdnPreIdeal.main_arg1)) →
    ∃ (v0 : (c : Dev Cert.GdnPreIdeal.nD) → Buf (Elt Ideal) ((c.tc : Thread Cert.GdnPreIdeal.nD Cert.GdnPreIdeal.τ).loc Cert.GdnPreIdeal.main_v0)),
      θ_run (Cert.GdnPreIdeal.defs (F := Ideal)) (onTc (τ := Cert.GdnPreIdeal.τ) (Cert.GdnPreIdeal.main (F := Ideal))) ⟨m, fun _ => 0, g⟩ (fun r => ∀ c : Dev Cert.GdnPreIdeal.nD,
          r.2.mem ((c.tc : Thread Cert.GdnPreIdeal.nD Cert.GdnPreIdeal.τ).loc Cert.GdnPreIdeal.main_v0) = v0 c
          ∧ r.2.mem ((c.tc : Thread Cert.GdnPreIdeal.nD Cert.GdnPreIdeal.τ).loc Cert.GdnPreIdeal.main_arg0) = m ((c.tc : Thread Cert.GdnPreIdeal.nD Cert.GdnPreIdeal.τ).loc Cert.GdnPreIdeal.main_arg0)
          ∧ r.2.mem ((c.tc : Thread Cert.GdnPreIdeal.nD Cert.GdnPreIdeal.τ).loc Cert.GdnPreIdeal.main_arg1) = m ((c.tc : Thread Cert.GdnPreIdeal.nD Cert.GdnPreIdeal.τ).loc Cert.GdnPreIdeal.main_arg1))
      ∧ θ_run (Cert.GdnPreRefIdeal.defs (F := Ideal)) (onTc (τ := Cert.GdnPreRefIdeal.τ) (Cert.GdnPreRefIdeal.main (F := Ideal))) ⟨m', fun _ => 0, g'⟩ (fun r => ∀ c : Dev Cert.GdnPreRefIdeal.nD,
          r.2.mem ((c.tc : Thread Cert.GdnPreRefIdeal.nD Cert.GdnPreRefIdeal.τ).loc Cert.GdnPreRefIdeal.main_v52) = v0 c
          ∧ r.2.mem ((c.tc : Thread Cert.GdnPreRefIdeal.nD Cert.GdnPreRefIdeal.τ).loc Cert.GdnPreRefIdeal.main_arg0) = m' ((c.tc : Thread Cert.GdnPreRefIdeal.nD Cert.GdnPreRefIdeal.τ).loc Cert.GdnPreRefIdeal.main_arg0)
          ∧ r.2.mem ((c.tc : Thread Cert.GdnPreRefIdeal.nD Cert.GdnPreRefIdeal.τ).loc Cert.GdnPreRefIdeal.main_arg1) = m' ((c.tc : Thread Cert.GdnPreRefIdeal.nD Cert.GdnPreRefIdeal.τ).loc Cert.GdnPreRefIdeal.main_arg1))

def preserves_GdnPost_GdnPostIdeal : Prop :=
  True

def algebraic_GdnPostIdeal_GdnPostRefIdeal [hGdnPostIdeal : Cert.GdnPostIdeal.Facts] [hGdnPostRefIdeal : Cert.GdnPostRefIdeal.Facts] : Prop :=
  ∀ (m : (ℓ : Loc Cert.GdnPostIdeal.nD Cert.GdnPostIdeal.τ Cert.GdnPostIdeal.sig) → Buf (Elt Ideal) ℓ) (g : Dev Cert.GdnPostIdeal.nD → PrngReg)
    (m' : (ℓ : Loc Cert.GdnPostRefIdeal.nD Cert.GdnPostRefIdeal.τ Cert.GdnPostRefIdeal.sig) → Buf (Elt Ideal) ℓ) (g' : Dev Cert.GdnPostRefIdeal.nD → PrngReg), Pre_GdnPostIdeal m →
    (∀ c : Dev Cert.GdnPostIdeal.nD,
      m' ((c.tc : Thread Cert.GdnPostRefIdeal.nD Cert.GdnPostRefIdeal.τ).loc Cert.GdnPostRefIdeal.main_arg0) = m ((c.tc : Thread Cert.GdnPostIdeal.nD Cert.GdnPostIdeal.τ).loc Cert.GdnPostIdeal.main_arg0)
      ∧ m' ((c.tc : Thread Cert.GdnPostRefIdeal.nD Cert.GdnPostRefIdeal.τ).loc Cert.GdnPostRefIdeal.main_arg1) = m ((c.tc : Thread Cert.GdnPostIdeal.nD Cert.GdnPostIdeal.τ).loc Cert.GdnPostIdeal.main_arg1)
      ∧ m' ((c.tc : Thread Cert.GdnPostRefIdeal.nD Cert.GdnPostRefIdeal.τ).loc Cert.GdnPostRefIdeal.main_arg2) = m ((c.tc : Thread Cert.GdnPostIdeal.nD Cert.GdnPostIdeal.τ).loc Cert.GdnPostIdeal.main_arg2)
      ∧ m' ((c.tc : Thread Cert.GdnPostRefIdeal.nD Cert.GdnPostRefIdeal.τ).loc Cert.GdnPostRefIdeal.main_arg3) = m ((c.tc : Thread Cert.GdnPostIdeal.nD Cert.GdnPostIdeal.τ).loc Cert.GdnPostIdeal.main_arg3)) →
    ∃ (v0 : (c : Dev Cert.GdnPostIdeal.nD) → Buf (Elt Ideal) ((c.tc : Thread Cert.GdnPostIdeal.nD Cert.GdnPostIdeal.τ).loc Cert.GdnPostIdeal.main_v4)),
      θ_run (Cert.GdnPostIdeal.defs (F := Ideal)) (onTc (τ := Cert.GdnPostIdeal.τ) (Cert.GdnPostIdeal.main (F := Ideal))) ⟨m, fun _ => 0, g⟩ (fun r => ∀ c : Dev Cert.GdnPostIdeal.nD,
          r.2.mem ((c.tc : Thread Cert.GdnPostIdeal.nD Cert.GdnPostIdeal.τ).loc Cert.GdnPostIdeal.main_v4) = v0 c
          ∧ r.2.mem ((c.tc : Thread Cert.GdnPostIdeal.nD Cert.GdnPostIdeal.τ).loc Cert.GdnPostIdeal.main_arg0) = m ((c.tc : Thread Cert.GdnPostIdeal.nD Cert.GdnPostIdeal.τ).loc Cert.GdnPostIdeal.main_arg0)
          ∧ r.2.mem ((c.tc : Thread Cert.GdnPostIdeal.nD Cert.GdnPostIdeal.τ).loc Cert.GdnPostIdeal.main_arg1) = m ((c.tc : Thread Cert.GdnPostIdeal.nD Cert.GdnPostIdeal.τ).loc Cert.GdnPostIdeal.main_arg1)
          ∧ r.2.mem ((c.tc : Thread Cert.GdnPostIdeal.nD Cert.GdnPostIdeal.τ).loc Cert.GdnPostIdeal.main_arg2) = m ((c.tc : Thread Cert.GdnPostIdeal.nD Cert.GdnPostIdeal.τ).loc Cert.GdnPostIdeal.main_arg2)
          ∧ r.2.mem ((c.tc : Thread Cert.GdnPostIdeal.nD Cert.GdnPostIdeal.τ).loc Cert.GdnPostIdeal.main_arg3) = m ((c.tc : Thread Cert.GdnPostIdeal.nD Cert.GdnPostIdeal.τ).loc Cert.GdnPostIdeal.main_arg3))
      ∧ θ_run (Cert.GdnPostRefIdeal.defs (F := Ideal)) (onTc (τ := Cert.GdnPostRefIdeal.τ) (Cert.GdnPostRefIdeal.main (F := Ideal))) ⟨m', fun _ => 0, g'⟩ (fun r => ∀ c : Dev Cert.GdnPostRefIdeal.nD,
          r.2.mem ((c.tc : Thread Cert.GdnPostRefIdeal.nD Cert.GdnPostRefIdeal.τ).loc Cert.GdnPostRefIdeal.main_v24) = v0 c
          ∧ r.2.mem ((c.tc : Thread Cert.GdnPostRefIdeal.nD Cert.GdnPostRefIdeal.τ).loc Cert.GdnPostRefIdeal.main_arg0) = m' ((c.tc : Thread Cert.GdnPostRefIdeal.nD Cert.GdnPostRefIdeal.τ).loc Cert.GdnPostRefIdeal.main_arg0)
          ∧ r.2.mem ((c.tc : Thread Cert.GdnPostRefIdeal.nD Cert.GdnPostRefIdeal.τ).loc Cert.GdnPostRefIdeal.main_arg1) = m' ((c.tc : Thread Cert.GdnPostRefIdeal.nD Cert.GdnPostRefIdeal.τ).loc Cert.GdnPostRefIdeal.main_arg1)
          ∧ r.2.mem ((c.tc : Thread Cert.GdnPostRefIdeal.nD Cert.GdnPostRefIdeal.τ).loc Cert.GdnPostRefIdeal.main_arg2) = m' ((c.tc : Thread Cert.GdnPostRefIdeal.nD Cert.GdnPostRefIdeal.τ).loc Cert.GdnPostRefIdeal.main_arg2)
          ∧ r.2.mem ((c.tc : Thread Cert.GdnPostRefIdeal.nD Cert.GdnPostRefIdeal.τ).loc Cert.GdnPostRefIdeal.main_arg3) = m' ((c.tc : Thread Cert.GdnPostRefIdeal.nD Cert.GdnPostRefIdeal.τ).loc Cert.GdnPostRefIdeal.main_arg3))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v2)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v2) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v81) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2))

def Claim : Prop :=
  ∃ (hKernel : Cert.Kernel.Facts) (hKernelIdeal : Cert.KernelIdeal.Facts) (hRefIdeal : Cert.RefIdeal.Facts) (hPostNorm : Cert.PostNorm.Facts) (hPostNormIdeal : Cert.PostNormIdeal.Facts) (hPostNormRefIdeal : Cert.PostNormRefIdeal.Facts) (hMidNorm : Cert.MidNorm.Facts) (hMidNormIdeal : Cert.MidNormIdeal.Facts) (hMidNormRefIdeal : Cert.MidNormRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hHyIn : Cert.HyIn.Facts) (hHyInIdeal : Cert.HyInIdeal.Facts) (hHyInRefIdeal : Cert.HyInRefIdeal.Facts) (hHyOut : Cert.HyOut.Facts) (hHyOutIdeal : Cert.HyOutIdeal.Facts) (hHyOutRefIdeal : Cert.HyOutRefIdeal.Facts) (hGdnIn : Cert.GdnIn.Facts) (hGdnInIdeal : Cert.GdnInIdeal.Facts) (hGdnInRefIdeal : Cert.GdnInRefIdeal.Facts) (hGdnAb : Cert.GdnAb.Facts) (hGdnAbIdeal : Cert.GdnAbIdeal.Facts) (hGdnAbRefIdeal : Cert.GdnAbRefIdeal.Facts) (hGdnOut : Cert.GdnOut.Facts) (hGdnOutIdeal : Cert.GdnOutIdeal.Facts) (hGdnOutRefIdeal : Cert.GdnOutRefIdeal.Facts) (hMod : Cert.Mod.Facts) (hModIdeal : Cert.ModIdeal.Facts) (hModRefIdeal : Cert.ModRefIdeal.Facts) (hHyShort : Cert.HyShort.Facts) (hHyShortIdeal : Cert.HyShortIdeal.Facts) (hHyShortRefIdeal : Cert.HyShortRefIdeal.Facts) (hGdnPre : Cert.GdnPre.Facts) (hGdnPreIdeal : Cert.GdnPreIdeal.Facts) (hGdnPreRefIdeal : Cert.GdnPreRefIdeal.Facts) (hGdnPost : Cert.GdnPost.Facts) (hGdnPostIdeal : Cert.GdnPostIdeal.Facts) (hGdnPostRefIdeal : Cert.GdnPostRefIdeal.Facts) (hFfnAct : Cert.FfnAct.Facts) (hFfnActIdeal : Cert.FfnActIdeal.Facts) (hFfnActRefIdeal : Cert.FfnActRefIdeal.Facts),
    quiescent_Kernel (hKernel := hKernel)
    ∧ quiescent_KernelIdeal (hKernelIdeal := hKernelIdeal)
    ∧ quiescent_RefIdeal (hRefIdeal := hRefIdeal)
    ∧ quiescent_PostNorm (hPostNorm := hPostNorm)
    ∧ quiescent_PostNormIdeal (hPostNormIdeal := hPostNormIdeal)
    ∧ quiescent_PostNormRefIdeal (hPostNormRefIdeal := hPostNormRefIdeal)
    ∧ quiescent_MidNorm (hMidNorm := hMidNorm)
    ∧ quiescent_MidNormIdeal (hMidNormIdeal := hMidNormIdeal)
    ∧ quiescent_MidNormRefIdeal (hMidNormRefIdeal := hMidNormRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_HyIn (hHyIn := hHyIn)
    ∧ quiescent_HyInIdeal (hHyInIdeal := hHyInIdeal)
    ∧ quiescent_HyInRefIdeal (hHyInRefIdeal := hHyInRefIdeal)
    ∧ quiescent_HyOut (hHyOut := hHyOut)
    ∧ quiescent_HyOutIdeal (hHyOutIdeal := hHyOutIdeal)
    ∧ quiescent_HyOutRefIdeal (hHyOutRefIdeal := hHyOutRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_GdnAb (hGdnAb := hGdnAb)
    ∧ quiescent_GdnAbIdeal (hGdnAbIdeal := hGdnAbIdeal)
    ∧ quiescent_GdnAbRefIdeal (hGdnAbRefIdeal := hGdnAbRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_Mod (hMod := hMod)
    ∧ quiescent_ModIdeal (hModIdeal := hModIdeal)
    ∧ quiescent_ModRefIdeal (hModRefIdeal := hModRefIdeal)
    ∧ quiescent_HyShort (hHyShort := hHyShort)
    ∧ quiescent_HyShortIdeal (hHyShortIdeal := hHyShortIdeal)
    ∧ quiescent_HyShortRefIdeal (hHyShortRefIdeal := hHyShortRefIdeal)
    ∧ quiescent_GdnPre (hGdnPre := hGdnPre)
    ∧ quiescent_GdnPreIdeal (hGdnPreIdeal := hGdnPreIdeal)
    ∧ quiescent_GdnPreRefIdeal (hGdnPreRefIdeal := hGdnPreRefIdeal)
    ∧ quiescent_GdnPost (hGdnPost := hGdnPost)
    ∧ quiescent_GdnPostIdeal (hGdnPostIdeal := hGdnPostIdeal)
    ∧ quiescent_GdnPostRefIdeal (hGdnPostRefIdeal := hGdnPostRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ preserves_Kernel_KernelIdeal
    ∧ preserves_PostNorm_PostNormIdeal
    ∧ algebraic_PostNormIdeal_PostNormRefIdeal (hPostNormIdeal := hPostNormIdeal) (hPostNormRefIdeal := hPostNormRefIdeal)
    ∧ preserves_MidNorm_MidNormIdeal
    ∧ algebraic_MidNormIdeal_MidNormRefIdeal (hMidNormIdeal := hMidNormIdeal) (hMidNormRefIdeal := hMidNormRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_HyIn_HyInIdeal
    ∧ algebraic_HyInIdeal_HyInRefIdeal (hHyInIdeal := hHyInIdeal) (hHyInRefIdeal := hHyInRefIdeal)
    ∧ preserves_HyOut_HyOutIdeal
    ∧ algebraic_HyOutIdeal_HyOutRefIdeal (hHyOutIdeal := hHyOutIdeal) (hHyOutRefIdeal := hHyOutRefIdeal)
    ∧ preserves_GdnIn_GdnInIdeal
    ∧ algebraic_GdnInIdeal_GdnInRefIdeal (hGdnInIdeal := hGdnInIdeal) (hGdnInRefIdeal := hGdnInRefIdeal)
    ∧ preserves_GdnAb_GdnAbIdeal
    ∧ algebraic_GdnAbIdeal_GdnAbRefIdeal (hGdnAbIdeal := hGdnAbIdeal) (hGdnAbRefIdeal := hGdnAbRefIdeal)
    ∧ preserves_GdnOut_GdnOutIdeal
    ∧ algebraic_GdnOutIdeal_GdnOutRefIdeal (hGdnOutIdeal := hGdnOutIdeal) (hGdnOutRefIdeal := hGdnOutRefIdeal)
    ∧ preserves_Mod_ModIdeal
    ∧ algebraic_ModIdeal_ModRefIdeal (hModIdeal := hModIdeal) (hModRefIdeal := hModRefIdeal)
    ∧ preserves_HyShort_HyShortIdeal
    ∧ algebraic_HyShortIdeal_HyShortRefIdeal (hHyShortIdeal := hHyShortIdeal) (hHyShortRefIdeal := hHyShortRefIdeal)
    ∧ preserves_GdnPre_GdnPreIdeal
    ∧ algebraic_GdnPreIdeal_GdnPreRefIdeal (hGdnPreIdeal := hGdnPreIdeal) (hGdnPreRefIdeal := hGdnPreRefIdeal)
    ∧ preserves_GdnPost_GdnPostIdeal
    ∧ algebraic_GdnPostIdeal_GdnPostRefIdeal (hGdnPostIdeal := hGdnPostIdeal) (hGdnPostRefIdeal := hGdnPostRefIdeal)
    ∧ preserves_FfnAct_FfnActIdeal
    ∧ algebraic_FfnActIdeal_FfnActRefIdeal (hFfnActIdeal := hFfnActIdeal) (hFfnActRefIdeal := hFfnActRefIdeal)
-- ==== Kernel.lean ====
abbrev S2x8192x12288 : Shape := ⟨3, ![2, 8192, 12288]⟩
abbrev S2x8192x2x32 : Shape := ⟨4, ![2, 8192, 2, 32]⟩
abbrev S2x2x32x128x128 : Shape := ⟨5, ![2, 2, 32, 128, 128]⟩
abbrev S2x2x8192x32 : Shape := ⟨4, ![2, 2, 8192, 32]⟩
abbrev S2x2x64x128x32 : Shape := ⟨5, ![2, 2, 64, 128, 32]⟩
abbrev S2x1x64x128x32 : Shape := ⟨5, ![2, 1, 64, 128, 32]⟩
abbrev S2x64x128x32 : Shape := ⟨4, ![2, 64, 128, 32]⟩
abbrev S_ : Shape := ⟨0, ![]⟩
abbrev S2x2x32x64x128 : Shape := ⟨5, ![2, 2, 32, 64, 128]⟩
abbrev S2x2x32x64x1x128 : Shape := ⟨6, ![2, 2, 32, 64, 1, 128]⟩
abbrev S2x8192x4096 : Shape := ⟨3, ![2, 8192, 4096]⟩
abbrev S1x512x512 : Shape := ⟨3, ![1, 512, 512]⟩
abbrev S1x1x512x32 : Shape := ⟨4, ![1, 1, 512, 32]⟩
abbrev S1x1x4x4x1x128 : Shape := ⟨6, ![1, 1, 4, 4, 1, 128]⟩
abbrev S1x2x4x128x128 : Shape := ⟨5, ![1, 2, 4, 128, 128]⟩
abbrev S2x4x128x128 : Shape := ⟨4, ![2, 4, 128, 128]⟩
abbrev S2x4x4x128x128 : Shape := ⟨5, ![2, 4, 4, 128, 128]⟩
abbrev S2x4x4x8x128 : Shape := ⟨5, ![2, 4, 4, 8, 128]⟩
abbrev S128x128 : Shape := ⟨2, ![128, 128]⟩
abbrev S512x32 : Shape := ⟨2, ![512, 32]⟩
abbrev S1x512x128 : Shape := ⟨3, ![1, 512, 128]⟩
abbrev S512x128 : Shape := ⟨2, ![512, 128]⟩
abbrev S4x128x128 : Shape := ⟨3, ![4, 128, 128]⟩
abbrev S16x128x128 : Shape := ⟨3, ![16, 128, 128]⟩
abbrev S512 : Shape := ⟨1, ![512]⟩
abbrev S512x1 : Shape := ⟨2, ![512, 1]⟩
abbrev S4x128x1 : Shape := ⟨3, ![4, 128, 1]⟩
abbrev S16x128x1 : Shape := ⟨3, ![16, 128, 1]⟩
abbrev S4x4x1x128 : Shape := ⟨4, ![4, 4, 1, 128]⟩
abbrev S16x1x128 : Shape := ⟨3, ![16, 1, 128]⟩
abbrev S16x1x1 : Shape := ⟨3, ![16, 1, 1]⟩
abbrev S1x128x128 : Shape := ⟨3, ![1, 128, 128]⟩
abbrev S16x128x256 : Shape := ⟨3, ![16, 128, 256]⟩
abbrev S4x4x128x128 : Shape := ⟨4, ![4, 4, 128, 128]⟩
abbrev S1x4x4x128x128 : Shape := ⟨5, ![1, 4, 4, 128, 128]⟩
abbrev S16x8x128 : Shape := ⟨3, ![16, 8, 128]⟩
abbrev S4x4x8x128 : Shape := ⟨4, ![4, 4, 8, 128]⟩
abbrev S1x4x4x8x128 : Shape := ⟨5, ![1, 4, 4, 8, 128]⟩
abbrev S1x1x128x128 : Shape := ⟨4, ![1, 1, 128, 128]⟩
abbrev S1x1x1x128x128 : Shape := ⟨5, ![1, 1, 1, 128, 128]⟩
abbrev S1x1x1x8x128 : Shape := ⟨5, ![1, 1, 1, 8, 128]⟩
abbrev S8x128 : Shape := ⟨2, ![8, 128]⟩
abbrev S1x128 : Shape := ⟨2, ![1, 128]⟩

abbrev nBuf : Space → Nat
  | .hbm => 28
  | .vmem => 41
  | .smem => 0
  | _ => 0

abbrev bufTy : (tb : Table) → Fin (tcTables nBuf tb) → BufTy
  | .hbm, ⟨0, _⟩ => ⟨S2x8192x12288, .bf16⟩
  | .hbm, ⟨1, _⟩ => ⟨S2x8192x2x32, .f32⟩
  | .hbm, ⟨2, _⟩ => ⟨S2x8192x2x32, .f32⟩
  | .hbm, ⟨3, _⟩ => ⟨S2x2x32x128x128, .f32⟩
  | .hbm, ⟨4, _⟩ => ⟨S2x2x8192x32, .f32⟩
  | .hbm, ⟨5, _⟩ => ⟨S2x2x8192x32, .f32⟩
  | .hbm, ⟨6, _⟩ => ⟨S2x2x64x128x32, .f32⟩
  | .hbm, ⟨7, _⟩ => ⟨S2x1x64x128x32, .f32⟩
  | .hbm, ⟨8, _⟩ => ⟨S2x64x128x32, .f32⟩
  | .hbm, ⟨9, _⟩ => ⟨S_, .f32⟩
  | .hbm, ⟨10, _⟩ => ⟨S_, .f32⟩
  | .hbm, ⟨11, _⟩ => ⟨S2x64x128x32, .f32⟩
  | .hbm, ⟨12, _⟩ => ⟨S2x1x64x128x32, .f32⟩
  | .hbm, ⟨13, _⟩ => ⟨S2x64x128x32, .f32⟩
  | .hbm, ⟨14, _⟩ => ⟨S2x64x128x32, .f32⟩
  | .hbm, ⟨15, _⟩ => ⟨S_, .f32⟩
  | .hbm, ⟨16, _⟩ => ⟨S_, .f32⟩
  | .hbm, ⟨17, _⟩ => ⟨S2x64x128x32, .f32⟩
  | .hbm, ⟨18, _⟩ => ⟨S2x64x128x32, .f32⟩
  | .hbm, ⟨19, _⟩ => ⟨S2x1x64x128x32, .f32⟩
  | .hbm, ⟨20, _⟩ => ⟨S2x1x64x128x32, .f32⟩
  | .hbm, ⟨21, _⟩ => ⟨S2x2x64x128x32, .f32⟩
  | .hbm, ⟨22, _⟩ => ⟨S2x2x8192x32, .f32⟩
  | .hbm, ⟨23, _⟩ => ⟨S2x2x32x64x128, .f32⟩
  | .hbm, ⟨24, _⟩ => ⟨S2x2x32x64x1x128, .f32⟩
  | .hbm, ⟨25, _⟩ => ⟨S2x8192x4096, .bf16⟩
  | .hbm, ⟨26, _⟩ => ⟨S2x8192x4096, .bf16⟩
  | .hbm, ⟨27, _⟩ => ⟨S2x2x32x128x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x1x512x32, .f32⟩
  | .local _ .vmem, ⟨13, _⟩ => ⟨S1x1x512x32, .f32⟩
  | .local _ .vmem, ⟨14, _⟩ => ⟨S1x1x512x32, .f32⟩
  | .local _ .vmem, ⟨15, _⟩ => ⟨S1x1x512x32, .f32⟩
  | .local _ .vmem, ⟨16, _⟩ => ⟨S1x1x512x32, .f32⟩
  | .local _ .vmem, ⟨17, _⟩ => ⟨S1x1x512x32, .f32⟩
  | .local _ .vmem, ⟨18, _⟩ => ⟨S1x1x512x32, .f32⟩
  | .local _ .vmem, ⟨19, _⟩ => ⟨S1x1x512x32, .f32⟩
  | .local _ .vmem, ⟨20, _⟩ => ⟨S1x1x4x4x1x128, .f32⟩
  | .local _ .vmem, ⟨21, _⟩ => ⟨S1x1x4x4x1x128, .f32⟩
  | .local _ .vmem, ⟨22, _⟩ => ⟨S1x1x4x4x1x128, .f32⟩
  | .local _ .vmem, ⟨23, _⟩ => ⟨S1x1x4x4x1x128, .f32⟩
  | .local _ .vmem, ⟨24, _⟩ => ⟨S1x2x4x128x128, .f32⟩
  | .local _ .vmem, ⟨25, _⟩ => ⟨S1x2x4x128x128, .f32⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x2x4x128x128, .f32⟩
  | .local _ .vmem, ⟨31, _⟩ => ⟨S1x2x4x128x128, .f32⟩
  | .local _ .vmem, ⟨32, _⟩ => ⟨S2x4x128x128, .f32⟩
  | .local _ .vmem, ⟨33, _⟩ => ⟨S2x4x4x128x128, .f32⟩
  | .local _ .vmem, ⟨34, _⟩ => ⟨S2x4x4x128x128, .f32⟩
  | .local _ .vmem, ⟨35, _⟩ => ⟨S2x4x4x128x128, .f32⟩
  | .local _ .vmem, ⟨36, _⟩ => ⟨S2x4x4x128x128, .f32⟩
  | .local _ .vmem, ⟨37, _⟩ => ⟨S2x4x4x8x128, .f32⟩
  | .local _ .vmem, ⟨38, _⟩ => ⟨S2x4x4x128x128, .f32⟩
  | .local _ .vmem, ⟨39, _⟩ => ⟨S2x4x4x128x128, .f32⟩
  | .local _ .vmem, ⟨40, _⟩ => ⟨S2x4x4x128x128, .f32⟩
  | _, _ => ⟨S2x8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call2_call0_cst : Ref sig .tc := ⟨.hbm, 15, rfl⟩
abbrev main_call2_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_scratch8 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32_343 : BitVec 32 := 0#32
  let c4_i32_344 : BitVec 32 := 4#32
  let v682 : BitVec 32 := Scalar.addi c0_i32_343 c4_i32_344
  let c1_i32_345 : BitVec 32 := 1#32
  ⟨c0_i32_343, v682, c1_i32_345⟩
def k0_off1 (k0_t1 : Fin k0_t1_loop.trips) : Fin 5 → Nat :=
  let c0_432 : Index := 0#32
  let c0_433 : Index := 0#32
  let c0_i32_343 : BitVec 32 := 0#32
  let c1_i32_345 : BitVec 32 := 1#32
  let arg28 : BitVec 32 := Scf.iv c0_i32_343 c1_i32_345 k0_t1
  let v788 : Index := Scalar.indexCast arg28
  let c0_434 : Index := 0#32
  let c0_435 : Index := 0#32
  ![0, 0, v788.toNat, 0, 0]
def k0_off2 (k0_t1 : Fin k0_t1_loop.trips) : Fin 5 → Nat :=
  let c0_436 : Index := 0#32
  let c0_437 : Index := 0#32
  let c0_i32_343 : BitVec 32 := 0#32
  let c1_i32_345 : BitVec 32 := 1#32
  let arg28 : BitVec 32 := Scf.iv c0_i32_343 c1_i32_345 k0_t1
  let v792 : Index := Scalar.indexCast arg28
  let c0_438 : Index := 0#32
  let c0_439 : Index := 0#32
  ![0, 0, v792.toNat, 0, 0]
def k0_off3 (k0_t1 : Fin k0_t1_loop.trips) : Fin 5 → Nat :=
  let c0_457 : Index := 0#32
  let c1_458 : Index := 1#32
  let c0_i32_343 : BitVec 32 := 0#32
  let c1_i32_345 : BitVec 32 := 1#32
  let arg28 : BitVec 32 := Scf.iv c0_i32_343 c1_i32_345 k0_t1
  let v814 : Index := Scalar.indexCast arg28
  let c0_459 : Index := 0#32
  let c0_460 : Index := 0#32
  ![0, 1, v814.toNat, 0, 0]
def k0_off4 (k0_t1 : Fin k0_t1_loop.trips) : Fin 5 → Nat :=
  let c0_461 : Index := 0#32
  let c1_462 : Index := 1#32
  let c0_i32_343 : BitVec 32 := 0#32
  let c1_i32_345 : BitVec 32 := 1#32
  let arg28 : BitVec 32 := Scf.iv c0_i32_343 c1_i32_345 k0_t1
  let v818 : Index := Scalar.indexCast arg28
  let c0_463 : Index := 0#32
  let c0_464 : Index := 0#32
  ![0, 1, v818.toNat, 0, 0]
def k0_off5 (k0_t1 : Fin k0_t1_loop.trips) : Fin 5 → Nat :=
  let c0_481 : Index := 0#32
  let c2_482 : Index := 2#32
  let c0_i32_343 : BitVec 32 := 0#32
  let c1_i32_345 : BitVec 32 := 1#32
  let arg28 : BitVec 32 := Scf.iv c0_i32_343 c1_i32_345 k0_t1
  let v840 : Index := Scalar.indexCast arg28
  let c0_483 : Index := 0#32
  let c0_484 : Index := 0#32
  ![0, 2, v840.toNat, 0, 0]
def k0_off6 (k0_t1 : Fin k0_t1_loop.trips) : Fin 5 → Nat :=
  let c0_485 : Index := 0#32
  let c2_486 : Index := 2#32
  let c0_i32_343 : BitVec 32 := 0#32
  let c1_i32_345 : BitVec 32 := 1#32
  let arg28 : BitVec 32 := Scf.iv c0_i32_343 c1_i32_345 k0_t1
  let v844 : Index := Scalar.indexCast arg28
  let c0_487 : Index := 0#32
  let c0_488 : Index := 0#32
  ![0, 2, v844.toNat, 0, 0]
def k0_off7 (k0_t1 : Fin k0_t1_loop.trips) : Fin 5 → Nat :=
  let c0_505 : Index := 0#32
  let c3_506 : Index := 3#32
  let c0_i32_343 : BitVec 32 := 0#32
  let c1_i32_345 : BitVec 32 := 1#32
  let arg28 : BitVec 32 := Scf.iv c0_i32_343 c1_i32_345 k0_t1
  let v866 : Index := Scalar.indexCast arg28
  let c0_507 : Index := 0#32
  let c0_508 : Index := 0#32
  ![0, 3, v866.toNat, 0, 0]
def k0_off8 (k0_t1 : Fin k0_t1_loop.trips) : Fin 5 → Nat :=
  let c0_509 : Index := 0#32
  let c3_510 : Index := 3#32
  let c0_i32_343 : BitVec 32 := 0#32
  let c1_i32_345 : BitVec 32 := 1#32
  let arg28 : BitVec 32 := Scf.iv c0_i32_343 c1_i32_345 k0_t1
  let v870 : Index := Scalar.indexCast arg28
  let c0_511 : Index := 0#32
  let c0_512 : Index := 0#32
  ![0, 3, v870.toNat, 0, 0]
def k0_off9 (k0_t1 : Fin k0_t1_loop.trips) : Fin 5 → Nat :=
  let c1_531 : Index := 1#32
  let c0_532 : Index := 0#32
  let c3_i32_526 : BitVec 32 := 3#32
  let c0_i32_343 : BitVec 32 := 0#32
  let c1_i32_345 : BitVec 32 := 1#32
  let arg28 : BitVec 32 := Scf.iv c0_i32_343 c1_i32_345 k0_t1
  let v890 : BitVec 32 := Scalar.subi c3_i32_526 arg28
  let v893 : Index := Scalar.indexCast v890
  let c0_533 : Index := 0#32
  let c0_534 : Index := 0#32
  ![1, 0, v893.toNat, 0, 0]
def k0_off10 (k0_t1 : Fin k0_t1_loop.trips) : Fin 5 → Nat :=
  let c1_535 : Index := 1#32
  let c0_536 : Index := 0#32
  let c3_i32_526 : BitVec 32 := 3#32
  let c0_i32_343 : BitVec 32 := 0#32
  let c1_i32_345 : BitVec 32 := 1#32
  let arg28 : BitVec 32 := Scf.iv c0_i32_343 c1_i32_345 k0_t1
  let v890 : BitVec 32 := Scalar.subi c3_i32_526 arg28
  let v897 : Index := Scalar.indexCast v890
  let c0_537 : Index := 0#32
  let c0_538 : Index := 0#32
  ![1, 0, v897.toNat, 0, 0]
def k0_off11 (k0_t1 : Fin k0_t1_loop.trips) : Fin 5 → Nat :=
  let c1_556 : Index := 1#32
  let c1_557 : Index := 1#32
  let c3_i32_526 : BitVec 32 := 3#32
  let c0_i32_343 : BitVec 32 := 0#32
  let c1_i32_345 : BitVec 32 := 1#32
  let arg28 : BitVec 32 := Scf.iv c0_i32_343 c1_i32_345 k0_t1
  let v890 : BitVec 32 := Scalar.subi c3_i32_526 arg28
  let v919 : Index := Scalar.indexCast v890
  let c0_558 : Index := 0#32
  let c0_559 : Index := 0#32
  ![1, 1, v919.toNat, 0, 0]
def k0_off12 (k0_t1 : Fin k0_t1_loop.trips) : Fin 5 → Nat :=
  let c1_560 : Index := 1#32
  let c1_561 : Index := 1#32
  let c3_i32_526 : BitVec 32 := 3#32
  let c0_i32_343 : BitVec 32 := 0#32
  let c1_i32_345 : BitVec 32 := 1#32
  let arg28 : BitVec 32 := Scf.iv c0_i32_343 c1_i32_345 k0_t1
  let v890 : BitVec 32 := Scalar.subi c3_i32_526 arg28
  let v923 : Index := Scalar.indexCast v890
  let c0_562 : Index := 0#32
  let c0_563 : Index := 0#32
  ![1, 1, v923.toNat, 0, 0]
def k0_off13 (k0_t1 : Fin k0_t1_loop.trips) : Fin 5 → Nat :=
  let c1_581 : Index := 1#32
  let c2_582 : Index := 2#32
  let c3_i32_526 : BitVec 32 := 3#32
  let c0_i32_343 : BitVec 32 := 0#32
  let c1_i32_345 : BitVec 32 := 1#32
  let arg28 : BitVec 32 := Scf.iv c0_i32_343 c1_i32_345 k0_t1
  let v890 : BitVec 32 := Scalar.subi c3_i32_526 arg28
  let v945 : Index := Scalar.indexCast v890
  let c0_583 : Index := 0#32
  let c0_584 : Index := 0#32
  ![1, 2, v945.toNat, 0, 0]
def k0_off14 (k0_t1 : Fin k0_t1_loop.trips) : Fin 5 → Nat :=
  let c1_585 : Index := 1#32
  let c2_586 : Index := 2#32
  let c3_i32_526 : BitVec 32 := 3#32
  let c0_i32_343 : BitVec 32 := 0#32
  let c1_i32_345 : BitVec 32 := 1#32
  let arg28 : BitVec 32 := Scf.iv c0_i32_343 c1_i32_345 k0_t1
  let v890 : BitVec 32 := Scalar.subi c3_i32_526 arg28
  let v949 : Index := Scalar.indexCast v890
  let c0_587 : Index := 0#32
  let c0_588 : Index := 0#32
  ![1, 2, v949.toNat, 0, 0]
def k0_off15 (k0_t1 : Fin k0_t1_loop.trips) : Fin 5 → Nat :=
  let c1_606 : Index := 1#32
  let c3_607 : Index := 3#32
  let c3_i32_526 : BitVec 32 := 3#32
  let c0_i32_343 : BitVec 32 := 0#32
  let c1_i32_345 : BitVec 32 := 1#32
  let arg28 : BitVec 32 := Scf.iv c0_i32_343 c1_i32_345 k0_t1
  let v890 : BitVec 32 := Scalar.subi c3_i32_526 arg28
  let v971 : Index := Scalar.indexCast v890
  let c0_608 : Index := 0#32
  let c0_609 : Index := 0#32
  ![1, 3, v971.toNat, 0, 0]
def k0_off16 (k0_t1 : Fin k0_t1_loop.trips) : Fin 5 → Nat :=
  let c1_610 : Index := 1#32
  let c3_611 : Index := 3#32
  let c3_i32_526 : BitVec 32 := 3#32
  let c0_i32_343 : BitVec 32 := 0#32
  let c1_i32_345 : BitVec 32 := 1#32
  let arg28 : BitVec 32 := Scf.iv c0_i32_343 c1_i32_345 k0_t1
  let v890 : BitVec 32 := Scalar.subi c3_i32_526 arg28
  let v975 : Index := Scalar.indexCast v890
  let c0_612 : Index := 0#32
  let c0_613 : Index := 0#32
  ![1, 3, v975.toNat, 0, 0]
def k0_cond2 (i : grid0.Coords) : BitVec 1 :=
  let arg2 : BitVec 32 := BitVec.ofNat 32 (i 2).val
  let c15_i32 : BitVec 32 := 15#32
  let v783 : BitVec 1 := Scalar.cmpi .eq arg2 c15_i32
  let v784 : BitVec 32 := Scalar.extui v783
  let c0_i32_427 : BitVec 32 := 0#32
  let v785 : BitVec 1 := Scalar.cmpi .ne v784 c0_i32_427
  v785

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let v1 : BitVec 32 := Scalar.addi c0_i32 arg1
  let c0_i32_0 : BitVec 32 := 0#32
  ![arg0.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c8_i32 : BitVec 32 := 8#32
  let v1 : BitVec 32 := Scalar.addi c8_i32 arg1
  let c0_i32 : BitVec 32 := 0#32
  ![arg0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c16_i32 : BitVec 32 := 16#32
  let v1 : BitVec 32 := Scalar.addi c16_i32 arg1
  let c0_i32 : BitVec 32 := 0#32
  ![arg0.toNat, v0.toNat, v1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c1_i32 : BitVec 32 := 1#32
  let c0_i32 : BitVec 32 := 0#32
  let c0_i32_0 : BitVec 32 := 0#32
  ![arg0.toNat, c1_i32.toNat, v0.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c1_i32 : BitVec 32 := 1#32
  let c0_i32 : BitVec 32 := 0#32
  let c0_i32_0 : BitVec 32 := 0#32
  ![arg0.toNat, c1_i32.toNat, v0.toNat, c0_i32.toNat]

def cc0_transform_10 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, arg2.toNat, c0_i32_0.toNat, c0_i32_1.toNat]

def cc0_transform_11 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c1_i32 : BitVec 32 := 1#32
  let c0_i32 : BitVec 32 := 0#32
  let c0_i32_0 : BitVec 32 := 0#32
  let c0_i32_1 : BitVec 32 := 0#32
  ![arg0.toNat, c1_i32.toNat, arg1.toNat, v0.toNat, c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_15 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1x512x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x1x512x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1x1x512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x1x4x4x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x4x4x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x2x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x2x4x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]
-- ==== RefIdeal.lean ====
abbrev S2x8192x12288 : Shape := ⟨3, ![2, 8192, 12288]⟩
abbrev S2x8192x2x32 : Shape := ⟨4, ![2, 8192, 2, 32]⟩
abbrev S2x2x32x128x128 : Shape := ⟨5, ![2, 2, 32, 128, 128]⟩
abbrev S2x8192x4096 : Shape := ⟨3, ![2, 8192, 4096]⟩
abbrev S2x8192x32x128 : Shape := ⟨4, ![2, 8192, 32, 128]⟩
abbrev S8192x2x32x128 : Shape := ⟨4, ![8192, 2, 32, 128]⟩
abbrev S8192x1x2x32x128 : Shape := ⟨5, ![8192, 1, 2, 32, 128]⟩
abbrev S8192x2x2x32x128 : Shape := ⟨5, ![8192, 2, 2, 32, 128]⟩
abbrev S1x8192x2x32 : Shape := ⟨4, ![1, 8192, 2, 32]⟩
abbrev S8192x2x32 : Shape := ⟨3, ![8192, 2, 32]⟩
abbrev S8192x1x2x32 : Shape := ⟨4, ![8192, 1, 2, 32]⟩
abbrev S8192x2x2x32 : Shape := ⟨4, ![8192, 2, 2, 32]⟩
abbrev S_ : Shape := ⟨0, ![]⟩
abbrev S1x2x2x32x128 : Shape := ⟨5, ![1, 2, 2, 32, 128]⟩
abbrev S2x2x32x128 : Shape := ⟨4, ![2, 2, 32, 128]⟩
abbrev S1x2x2x32 : Shape := ⟨4, ![1, 2, 2, 32]⟩
abbrev S2x2x32 : Shape := ⟨3, ![2, 2, 32]⟩
abbrev S2x2x32x1x1 : Shape := ⟨5, ![2, 2, 32, 1, 1]⟩
abbrev S2x2x32x1 : Shape := ⟨4, ![2, 2, 32, 1]⟩
abbrev S2x2x32x128x1 : Shape := ⟨5, ![2, 2, 32, 128, 1]⟩
abbrev S2x2x32x1x128 : Shape := ⟨5, ![2, 2, 32, 1, 128]⟩

abbrev nBuf : Space → Nat
  | .hbm => 132
  | .vmem => 0
  | .smem => 0
  | _ => 0

abbrev hbmTy0_0 (i : Nat) : BufTy := match i % 128 with
  | 0 => ⟨S2x8192x12288, .bf16⟩
  | 1 => ⟨S2x8192x2x32, .f32⟩
  | 2 => ⟨S2x8192x2x32, .f32⟩
  | 3 => ⟨S2x2x32x128x128, .f32⟩
  | 4 => ⟨S2x8192x4096, .bf16⟩
  | 5 => ⟨S2x8192x4096, .bf16⟩
  | 6 => ⟨S2x8192x4096, .bf16⟩
  | 7 => ⟨S2x8192x32x128, .bf16⟩
  | 8 => ⟨S8192x2x32x128, .bf16⟩
  | 9 => ⟨S8192x2x32x128, .f32⟩
  | 10 => ⟨S8192x2x32x128, .f32⟩
  | 11 => ⟨S8192x1x2x32x128, .f32⟩
  | 12 => ⟨S8192x1x2x32x128, .f32⟩
  | 13 => ⟨S8192x2x2x32x128, .f32⟩
  | 14 => ⟨S2x8192x32x128, .bf16⟩
  | 15 => ⟨S8192x2x32x128, .bf16⟩
  | 16 => ⟨S8192x2x32x128, .f32⟩
  | 17 => ⟨S8192x2x32x128, .f32⟩
  | 18 => ⟨S8192x1x2x32x128, .f32⟩
  | 19 => ⟨S8192x1x2x32x128, .f32⟩
  | 20 => ⟨S8192x2x2x32x128, .f32⟩
  | 21 => ⟨S2x8192x32x128, .bf16⟩
  | 22 => ⟨S8192x2x32x128, .bf16⟩
  | 23 => ⟨S8192x2x32x128, .f32⟩
  | 24 => ⟨S8192x2x32x128, .f32⟩
  | 25 => ⟨S8192x1x2x32x128, .f32⟩
  | 26 => ⟨S8192x1x2x32x128, .f32⟩
  | 27 => ⟨S8192x2x2x32x128, .f32⟩
  | 28 => ⟨S2x8192x2x32, .f32⟩
  | 29 => ⟨S2x8192x2x32, .f32⟩
  | 30 => ⟨S1x8192x2x32, .f32⟩
  | 31 => ⟨S8192x2x32, .f32⟩
  | 32 => ⟨S1x8192x2x32, .f32⟩
  | 33 => ⟨S8192x2x32, .f32⟩
  | 34 => ⟨S8192x2x32, .f32⟩
  | 35 => ⟨S8192x1x2x32, .f32⟩
  | 36 => ⟨S8192x1x2x32, .f32⟩
  | 37 => ⟨S8192x2x2x32, .f32⟩
  | 38 => ⟨S1x8192x2x32, .f32⟩
  | 39 => ⟨S8192x2x32, .f32⟩
  | 40 => ⟨S1x8192x2x32, .f32⟩
  | 41 => ⟨S8192x2x32, .f32⟩
  | 42 => ⟨S8192x2x32, .f32⟩
  | 43 => ⟨S8192x1x2x32, .f32⟩
  | 44 => ⟨S8192x1x2x32, .f32⟩
  | 45 => ⟨S8192x2x2x32, .f32⟩
  | 46 => ⟨S2x2x32x128x128, .f32⟩
  | 47 => ⟨S_, .f32⟩
  | 48 => ⟨S8192x2x2x32x128, .f32⟩
  | 49 => ⟨S_, .i32⟩
  | 50 => ⟨S8192x2x2x32x128, .f32⟩
  | 51 => ⟨S8192x2x2x32x128, .f32⟩
  | 52 => ⟨S8192x2x2x32x128, .f32⟩
  | 53 => ⟨S8192x2x2x32, .f32⟩
  | 54 => ⟨S8192x2x2x32, .f32⟩
  | 55 => ⟨S_, .i32⟩
  | 56 => ⟨S2x2x32x128x128, .f32⟩
  | 57 => ⟨S8192x2x2x32x128, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S1x2x2x32x128, .f32⟩
  | 65 => ⟨S2x2x32x128, .f32⟩
  | 66 => ⟨S_, .i32⟩
  | 67 => ⟨S_, .i32⟩
  | 68 => ⟨S_, .i32⟩
  | 69 => ⟨S_, .i32⟩
  | 70 => ⟨S1x2x2x32x128, .f32⟩
  | 71 => ⟨S2x2x32x128, .f32⟩
  | 72 => ⟨S_, .i32⟩
  | 73 => ⟨S_, .i32⟩
  | 74 => ⟨S_, .i32⟩
  | 75 => ⟨S_, .i32⟩
  | 76 => ⟨S1x2x2x32x128, .f32⟩
  | 77 => ⟨S2x2x32x128, .f32⟩
  | 78 => ⟨S_, .i32⟩
  | 79 => ⟨S_, .i32⟩
  | 80 => ⟨S_, .i32⟩
  | 81 => ⟨S1x2x2x32, .f32⟩
  | 82 => ⟨S2x2x32, .f32⟩
  | 83 => ⟨S_, .i32⟩
  | 84 => ⟨S_, .i32⟩
  | 85 => ⟨S_, .i32⟩
  | 86 => ⟨S1x2x2x32, .f32⟩
  | 87 => ⟨S2x2x32, .f32⟩
  | 88 => ⟨S2x2x32, .f32⟩
  | 89 => ⟨S2x2x32x1x1, .f32⟩
  | 90 => ⟨S2x2x32x128x128, .f32⟩
  | 91 => ⟨S2x2x32x128x128, .f32⟩
  | 92 => ⟨S2x2x32x1, .f32⟩
  | 93 => ⟨S2x2x32x128x1, .f32⟩
  | 94 => ⟨S2x2x32x128x128, .f32⟩
  | 95 => ⟨S2x2x32x128x128, .f32⟩
  | 96 => ⟨S_, .f32⟩
  | 97 => ⟨S2x2x32x128, .f32⟩
  | 98 => ⟨S2x2x32x128, .f32⟩
  | 99 => ⟨S2x2x32x128, .f32⟩
  | 100 => ⟨S2x2x32x128, .f32⟩
  | 101 => ⟨S2x2x32x128x1, .f32⟩
  | 102 => ⟨S2x2x32x1x128, .f32⟩
  | 103 => ⟨S2x2x32x128x128, .f32⟩
  | 104 => ⟨S2x2x32x128x128, .f32⟩
  | 105 => ⟨S2x2x32x128x128, .f32⟩
  | 106 => ⟨S2x2x32x128x128, .f32⟩
  | 107 => ⟨S2x2x32x128x1, .f32⟩
  | 108 => ⟨S2x2x32x128x128, .f32⟩
  | 109 => ⟨S2x2x32x128x128, .f32⟩
  | 110 => ⟨S_, .f32⟩
  | 111 => ⟨S2x2x32x128, .f32⟩
  | 112 => ⟨S1x2x2x32x128, .f32⟩
  | 113 => ⟨S_, .i32⟩
  | 114 => ⟨S_, .i32⟩
  | 115 => ⟨S_, .i32⟩
  | 116 => ⟨S_, .i32⟩
  | 117 => ⟨S8192x2x2x32x128, .f32⟩
  | 118 => ⟨S_, .i32⟩
  | 119 => ⟨S_, .i32⟩
  | 120 => ⟨S8192x1x2x32x128, .f32⟩
  | 121 => ⟨S8192x2x32x128, .f32⟩
  | 122 => ⟨S2x8192x32x128, .f32⟩
  | 123 => ⟨S2x8192x4096, .f32⟩
  | 124 => ⟨S2x8192x4096, .bf16⟩
  | 125 => ⟨S8192x1x2x32x128, .f32⟩
  | 126 => ⟨S8192x2x32x128, .f32⟩
  | 127 => ⟨S8192x2x32x128, .f32⟩
  | _ => ⟨S2x8192x12288, .bf16⟩

abbrev hbmTy0_1 (i : Nat) : BufTy := match i % 128 with
  | 0 => ⟨S2x8192x32x128, .f32⟩
  | 1 => ⟨S2x8192x4096, .f32⟩
  | 2 => ⟨S2x8192x4096, .bf16⟩
  | 3 => ⟨S2x2x32x128x128, .f32⟩
  | _ => ⟨S2x8192x12288, .bf16⟩

abbrev hbmTy (i : Nat) : BufTy := match i / 128 with
  | 0 => hbmTy0_0 i
  | 1 => hbmTy0_1 i
  | _ => ⟨S2x8192x12288, .bf16⟩

abbrev bufTy : (tb : Table) → Fin (tcTables nBuf tb) → BufTy
  | .hbm, ⟨i, _⟩ => hbmTy i
  | _, _ => ⟨S2x8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst : Ref sig .tc := ⟨.hbm, 47, rfl⟩
abbrev main_v43 : Ref sig .tc := ⟨.hbm, 48, rfl⟩
abbrev main_c : Ref sig .tc := ⟨.hbm, 49, rfl⟩
abbrev main_v44_0 : Ref sig .tc := ⟨.hbm, 50, rfl⟩
abbrev main_v44_1 : Ref sig .tc := ⟨.hbm, 51, rfl⟩
abbrev main_v44_2 : Ref sig .tc := ⟨.hbm, 52, rfl⟩
abbrev main_v44_3 : Ref sig .tc := ⟨.hbm, 53, rfl⟩
abbrev main_v44_4 : Ref sig .tc := ⟨.hbm, 54, rfl⟩
abbrev main_v44_5 : Ref sig .tc := ⟨.hbm, 55, rfl⟩
abbrev main_v44_6 : Ref sig .tc := ⟨.hbm, 56, rfl⟩
abbrev main_v44_7 : Ref sig .tc := ⟨.hbm, 57, rfl⟩
abbrev main_while0c_c_7 : Ref sig .tc := ⟨.hbm, 58, rfl⟩
abbrev main_while0c_v57 : Ref sig .tc := ⟨.hbm, 59, rfl⟩
abbrev main_while0b_call5_c : Ref sig .tc := ⟨.hbm, 60, rfl⟩
abbrev main_while0b_call5_c_0 : Ref sig .tc := ⟨.hbm, 61, rfl⟩
abbrev main_while0b_call5_c_1 : Ref sig .tc := ⟨.hbm, 62, rfl⟩
abbrev main_while0b_call5_c_2 : Ref sig .tc := ⟨.hbm, 63, rfl⟩
abbrev main_while0b_call5_v0 : Ref sig .tc := ⟨.hbm, 64, rfl⟩
abbrev main_while0b_v57 : Ref sig .tc := ⟨.hbm, 65, rfl⟩
abbrev main_while0b_call6_c : Ref sig .tc := ⟨.hbm, 66, rfl⟩
abbrev main_while0b_call6_c_0 : Ref sig .tc := ⟨.hbm, 67, rfl⟩
abbrev main_while0b_call6_c_1 : Ref sig .tc := ⟨.hbm, 68, rfl⟩
abbrev main_while0b_call6_c_2 : Ref sig .tc := ⟨.hbm, 69, rfl⟩
abbrev main_while0b_call6_v0 : Ref sig .tc := ⟨.hbm, 70, rfl⟩
abbrev main_while0b_v58 : Ref sig .tc := ⟨.hbm, 71, rfl⟩
abbrev main_while0b_call7_c : Ref sig .tc := ⟨.hbm, 72, rfl⟩
abbrev main_while0b_call7_c_0 : Ref sig .tc := ⟨.hbm, 73, rfl⟩
abbrev main_while0b_call7_c_1 : Ref sig .tc := ⟨.hbm, 74, rfl⟩
abbrev main_while0b_call7_c_2 : Ref sig .tc := ⟨.hbm, 75, rfl⟩
abbrev main_while0b_call7_v0 : Ref sig .tc := ⟨.hbm, 76, rfl⟩
abbrev main_while0b_v59 : Ref sig .tc := ⟨.hbm, 77, rfl⟩
abbrev main_while0b_call8_c : Ref sig .tc := ⟨.hbm, 78, rfl⟩
abbrev main_while0b_call8_c_0 : Ref sig .tc := ⟨.hbm, 79, rfl⟩
abbrev main_while0b_call8_c_1 : Ref sig .tc := ⟨.hbm, 80, rfl⟩
abbrev main_while0b_call8_v0 : Ref sig .tc := ⟨.hbm, 81, rfl⟩
abbrev main_while0b_v60 : Ref sig .tc := ⟨.hbm, 82, rfl⟩
abbrev main_while0b_call9_c : Ref sig .tc := ⟨.hbm, 83, rfl⟩
abbrev main_while0b_call9_c_0 : Ref sig .tc := ⟨.hbm, 84, rfl⟩
abbrev main_while0b_call9_c_1 : Ref sig .tc := ⟨.hbm, 85, rfl⟩
abbrev main_while0b_call9_v0 : Ref sig .tc := ⟨.hbm, 86, rfl⟩
abbrev main_while0b_v61 : Ref sig .tc := ⟨.hbm, 87, rfl⟩
abbrev main_while0b_v62 : Ref sig .tc := ⟨.hbm, 88, rfl⟩
abbrev main_while0b_v63 : Ref sig .tc := ⟨.hbm, 89, rfl⟩
abbrev main_while0b_v64 : Ref sig .tc := ⟨.hbm, 90, rfl⟩
abbrev main_while0b_v65 : Ref sig .tc := ⟨.hbm, 91, rfl⟩
abbrev main_while0b_v66 : Ref sig .tc := ⟨.hbm, 92, rfl⟩
abbrev main_while0b_v67 : Ref sig .tc := ⟨.hbm, 93, rfl⟩
abbrev main_while0b_v68 : Ref sig .tc := ⟨.hbm, 94, rfl⟩
abbrev main_while0b_v69 : Ref sig .tc := ⟨.hbm, 95, rfl⟩
abbrev main_while0b_cst_7 : Ref sig .tc := ⟨.hbm, 96, rfl⟩
abbrev main_while0b_v70 : Ref sig .tc := ⟨.hbm, 97, rfl⟩
abbrev main_while0b_v71 : Ref sig .tc := ⟨.hbm, 98, rfl⟩
abbrev main_while0b_v72 : Ref sig .tc := ⟨.hbm, 99, rfl⟩
abbrev main_while0b_v73 : Ref sig .tc := ⟨.hbm, 100, rfl⟩
abbrev main_while0b_v74 : Ref sig .tc := ⟨.hbm, 101, rfl⟩
abbrev main_while0b_v75 : Ref sig .tc := ⟨.hbm, 102, rfl⟩
abbrev main_while0b_v76 : Ref sig .tc := ⟨.hbm, 103, rfl⟩
abbrev main_while0b_v77 : Ref sig .tc := ⟨.hbm, 104, rfl⟩
abbrev main_while0b_v78 : Ref sig .tc := ⟨.hbm, 105, rfl⟩
abbrev main_while0b_v79 : Ref sig .tc := ⟨.hbm, 106, rfl⟩
abbrev main_while0b_v80 : Ref sig .tc := ⟨.hbm, 107, rfl⟩
abbrev main_while0b_v81 : Ref sig .tc := ⟨.hbm, 108, rfl⟩
abbrev main_while0b_v82 : Ref sig .tc := ⟨.hbm, 109, rfl⟩
abbrev main_while0b_cst_8 : Ref sig .tc := ⟨.hbm, 110, rfl⟩
abbrev main_while0b_v83 : Ref sig .tc := ⟨.hbm, 111, rfl⟩
abbrev main_while0b_call10_v0 : Ref sig .tc := ⟨.hbm, 112, rfl⟩
abbrev main_while0b_call10_c : Ref sig .tc := ⟨.hbm, 113, rfl⟩
abbrev main_while0b_call10_c_0 : Ref sig .tc := ⟨.hbm, 114, rfl⟩
abbrev main_while0b_call10_c_1 : Ref sig .tc := ⟨.hbm, 115, rfl⟩
abbrev main_while0b_call10_c_2 : Ref sig .tc := ⟨.hbm, 116, rfl⟩
abbrev main_while0b_v84 : Ref sig .tc := ⟨.hbm, 117, rfl⟩
abbrev main_while0b_c_9 : Ref sig .tc := ⟨.hbm, 118, rfl⟩
abbrev main_while0b_v85 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩

abbrev nD : Nat := 1
abbrev τ : Topo := Topo.v7x

variable {F : FTy → Type} [FloatOps F]

abbrev main_while0_count : Scf.Loop 32 := ⟨0#32, 8192#32, 1#32⟩
-- ==== PostNorm.lean ====
abbrev S2x8192x4096 : Shape := ⟨3, ![2, 8192, 4096]⟩
abbrev S2x1x4096 : Shape := ⟨3, ![2, 1, 4096]⟩
abbrev S4096 : Shape := ⟨1, ![4096]⟩
abbrev S_ : Shape := ⟨0, ![]⟩
abbrev S1x4096 : Shape := ⟨2, ![1, 4096]⟩
abbrev S1x1x4096 : Shape := ⟨3, ![1, 1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S2x1x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x1x4096, .f32⟩
  | .hbm, ⟨10, _⟩ => ⟨S2x1x4096, .f32⟩
  | .hbm, ⟨11, _⟩ => ⟨S1x1x4096, .f32⟩
  | .hbm, ⟨12, _⟩ => ⟨S2x1x4096, .f32⟩
  | .hbm, ⟨13, _⟩ => ⟨S2x8192x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x256x4096, .f32⟩
  | .local _ .vmem, ⟨13, _⟩ => ⟨S1x256x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PostNormRefIdeal.lean ====
abbrev S2x8192x4096 : Shape := ⟨3, ![2, 8192, 4096]⟩
abbrev S2x1x4096 : Shape := ⟨3, ![2, 1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S2x1x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S2x8192x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S2x8192x4096, .f32⟩
  | .hbm, ⟨11, _⟩ => ⟨S2x8192x4096, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x4096, .f32⟩
  | .hbm, ⟨19, _⟩ => ⟨S2x8192x4096, .f32⟩
  | .hbm, ⟨20, _⟩ => ⟨S2x8192x4096, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x4096, .f32⟩
  | .hbm, ⟨28, _⟩ => ⟨S2x8192x4096, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x4096, .f32⟩
  | .hbm, ⟨34, _⟩ => ⟨S2x8192x4096, .f32⟩
  | .hbm, ⟨35, _⟩ => ⟨S1x1x4096, .f32⟩
  | .hbm, ⟨36, _⟩ => ⟨S2x8192x4096, .f32⟩
  | .hbm, ⟨37, _⟩ => ⟨S2x8192x4096, .f32⟩
  | .hbm, ⟨38, _⟩ => ⟨S1x1x4096, .f32⟩
  | .hbm, ⟨39, _⟩ => ⟨S2x8192x4096, .f32⟩
  | .hbm, ⟨40, _⟩ => ⟨S2x8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== MidNorm.lean ====
abbrev S2x8192x4096 : Shape := ⟨3, ![2, 8192, 4096]⟩
abbrev S2x1x4096 : Shape := ⟨3, ![2, 1, 4096]⟩
abbrev S4096 : Shape := ⟨1, ![4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S2x1x4096, .f32⟩
  | .hbm, ⟨3, _⟩ => ⟨S4096, .f32⟩
  | .hbm, ⟨4, _⟩ => ⟨S4096, .f32⟩
  | .hbm, ⟨5, _⟩ => ⟨S2x1x4096, .f32⟩
  | .hbm, ⟨6, _⟩ => ⟨S2x1x4096, .f32⟩
  | .hbm, ⟨7, _⟩ => ⟨S1x4096, .f32⟩
  | .hbm, ⟨8, _⟩ => ⟨S1x4096, .f32⟩
  | .hbm, ⟨9, _⟩ => ⟨S2x8192x4096, .f32⟩
  | .hbm, ⟨10, _⟩ => ⟨S2x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x256x4096, .f32⟩
  | .local _ .vmem, ⟨13, _⟩ => ⟨S1x256x4096, .f32⟩
  | .local _ .vmem, ⟨14, _⟩ => ⟨S1x256x4096, .bf16⟩
  | .local _ .vmem, ⟨15, _⟩ => ⟨S1x256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MidNormRefIdeal.lean ====
abbrev S2x8192x4096 : Shape := ⟨3, ![2, 8192, 4096]⟩
abbrev S2x1x4096 : Shape := ⟨3, ![2, 1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x4096, .bf16⟩
  | .hbm, ⟨2, _⟩ => ⟨S2x1x4096, .f32⟩
  | .hbm, ⟨3, _⟩ => ⟨S4096, .f32⟩
  | .hbm, ⟨4, _⟩ => ⟨S4096, .f32⟩
  | .hbm, ⟨5, _⟩ => ⟨S2x1x4096, .f32⟩
  | .hbm, ⟨6, _⟩ => ⟨S2x1x4096, .f32⟩
  | .hbm, ⟨7, _⟩ => ⟨S_, .f32⟩
  | .hbm, ⟨8, _⟩ => ⟨S2x8192x4096, .f32⟩
  | .hbm, ⟨9, _⟩ => ⟨S2x8192x4096, .f32⟩
  | .hbm, ⟨10, _⟩ => ⟨S2x8192x4096, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x4096, .f32⟩
  | .hbm, ⟨21, _⟩ => ⟨S2x8192x4096, .f32⟩
  | .hbm, ⟨22, _⟩ => ⟨S2x8192x4096, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x4096, .f32⟩
  | .hbm, ⟨30, _⟩ => ⟨S2x8192x4096, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x4096, .f32⟩
  | .hbm, ⟨36, _⟩ => ⟨S2x8192x4096, .f32⟩
  | .hbm, ⟨37, _⟩ => ⟨S1x1x4096, .f32⟩
  | .hbm, ⟨38, _⟩ => ⟨S2x8192x4096, .f32⟩
  | .hbm, ⟨39, _⟩ => ⟨S2x8192x4096, .f32⟩
  | .hbm, ⟨40, _⟩ => ⟨S1x1x4096, .f32⟩
  | .hbm, ⟨41, _⟩ => ⟨S2x8192x4096, .f32⟩
  | .hbm, ⟨42, _⟩ => ⟨S2x8192x4096, .f32⟩
  | .hbm, ⟨43, _⟩ => ⟨S_, .f32⟩
  | .hbm, ⟨44, _⟩ => ⟨S2x1x4096, .f32⟩
  | .hbm, ⟨45, _⟩ => ⟨S2x1x4096, .f32⟩
  | .hbm, ⟨46, _⟩ => ⟨S2x8192x4096, .f32⟩
  | .hbm, ⟨47, _⟩ => ⟨S2x8192x4096, .f32⟩
  | .hbm, ⟨48, _⟩ => ⟨S2x8192x4096, .f32⟩
  | .hbm, ⟨49, _⟩ => ⟨S2x8192x4096, .f32⟩
  | .hbm, ⟨50, _⟩ => ⟨S2x8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== FfnUp.lean ====
abbrev S2x8192x4096 : Shape := ⟨3, ![2, 8192, 4096]⟩
abbrev S4096x22016 : Shape := ⟨2, ![4096, 22016]⟩
abbrev S4096x11008 : Shape := ⟨2, ![4096, 11008]⟩
abbrev S_ : Shape := ⟨0, ![]⟩
abbrev S4096x11264 : Shape := ⟨2, ![4096, 11264]⟩
abbrev S4096x22528 : Shape := ⟨2, ![4096, 22528]⟩
abbrev S16384x4096 : Shape := ⟨2, ![16384, 4096]⟩
abbrev S22528 : Shape := ⟨1, ![22528]⟩
abbrev S1x22528 : Shape := ⟨2, ![1, 22528]⟩
abbrev S16384x22528 : Shape := ⟨2, ![16384, 22528]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S8x128 : Shape := ⟨2, ![8, 128]⟩

abbrev nBuf : Space → Nat
  | .hbm => 17
  | .vmem => 9
  | .smem => 0
  | _ => 0

abbrev bufTy : (tb : Table) → Fin (tcTables nBuf tb) → BufTy
  | .hbm, ⟨0, _⟩ => ⟨S2x8192x4096, .bf16⟩
  | .hbm, ⟨1, _⟩ => ⟨S4096x22016, .f32⟩
  | .hbm, ⟨2, _⟩ => ⟨S4096x22016, .bf16⟩
  | .hbm, ⟨3, _⟩ => ⟨S4096x11008, .bf16⟩
  | .hbm, ⟨4, _⟩ => ⟨S_, .i32⟩
  | .hbm, ⟨5, _⟩ => ⟨S_, .bf16⟩
  | .hbm, ⟨6, _⟩ => ⟨S4096x11264, .bf16⟩
  | .hbm, ⟨7, _⟩ => ⟨S4096x11008, .bf16⟩
  | .hbm, ⟨8, _⟩ => ⟨S_, .i32⟩
  | .hbm, ⟨9, _⟩ => ⟨S_, .bf16⟩
  | .hbm, ⟨10, _⟩ => ⟨S4096x11264, .bf16⟩
  | .hbm, ⟨11, _⟩ => ⟨S4096x22528, .bf16⟩
  | .hbm, ⟨12, _⟩ => ⟨S16384x4096, .bf16⟩
  | .hbm, ⟨13, _⟩ => ⟨S_, .f32⟩
  | .hbm, ⟨14, _⟩ => ⟨S22528, .f32⟩
  | .hbm, ⟨15, _⟩ => ⟨S1x22528, .f32⟩
  | .hbm, ⟨16, _⟩ => ⟨S16384x22528, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpRefIdeal.lean ====
abbrev S2x8192x4096 : Shape := ⟨3, ![2, 8192, 4096]⟩
abbrev S4096x22016 : Shape := ⟨2, ![4096, 22016]⟩
abbrev S16384x4096 : Shape := ⟨2, ![16384, 4096]⟩
abbrev S16384x22016 : Shape := ⟨2, ![16384, 22016]⟩
abbrev S16384x11008 : Shape := ⟨2, ![16384, 11008]⟩
abbrev S_ : Shape := ⟨0, ![]⟩
abbrev S16384x11264 : Shape := ⟨2, ![16384, 11264]⟩
abbrev S16384x22528 : Shape := ⟨2, ![16384, 22528]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S4096x22016, .f32⟩
  | .hbm, ⟨2, _⟩ => ⟨S16384x4096, .bf16⟩
  | .hbm, ⟨3, _⟩ => ⟨S16384x4096, .f32⟩
  | .hbm, ⟨4, _⟩ => ⟨S16384x22016, .f32⟩
  | .hbm, ⟨5, _⟩ => ⟨S16384x11008, .f32⟩
  | .hbm, ⟨6, _⟩ => ⟨S16384x11008, .f32⟩
  | .hbm, ⟨7, _⟩ => ⟨S_, .i32⟩
  | .hbm, ⟨8, _⟩ => ⟨S_, .f32⟩
  | .hbm, ⟨9, _⟩ => ⟨S16384x11264, .f32⟩
  | .hbm, ⟨10, _⟩ => ⟨S_, .i32⟩
  | .hbm, ⟨11, _⟩ => ⟨S_, .f32⟩
  | .hbm, ⟨12, _⟩ => ⟨S16384x11264, .f32⟩
  | .hbm, ⟨13, _⟩ => ⟨S16384x22528, .f32⟩
  | .hbm, ⟨14, _⟩ => ⟨S16384x22528, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== FfnDown.lean ====
abbrev S2x8192x11264 : Shape := ⟨3, ![2, 8192, 11264]⟩
abbrev S11008x4096 : Shape := ⟨2, ![11008, 4096]⟩
abbrev S_ : Shape := ⟨0, ![]⟩
abbrev S11264x4096 : Shape := ⟨2, ![11264, 4096]⟩
abbrev S16384x11264 : Shape := ⟨2, ![16384, 11264]⟩
abbrev S4096 : Shape := ⟨1, ![4096]⟩
abbrev S1x4096 : Shape := ⟨2, ![1, 4096]⟩
abbrev S16384x4096 : Shape := ⟨2, ![16384, 4096]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S2x8192x11264, .bf16⟩
  | .hbm, ⟨1, _⟩ => ⟨S11008x4096, .f32⟩
  | .hbm, ⟨2, _⟩ => ⟨S11008x4096, .bf16⟩
  | .hbm, ⟨3, _⟩ => ⟨S_, .i32⟩
  | .hbm, ⟨4, _⟩ => ⟨S_, .bf16⟩
  | .hbm, ⟨5, _⟩ => ⟨S11264x4096, .bf16⟩
  | .hbm, ⟨6, _⟩ => ⟨S16384x11264, .bf16⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2x8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S2x8192x11264 : Shape := ⟨3, ![2, 8192, 11264]⟩
abbrev S11008x4096 : Shape := ⟨2, ![11008, 4096]⟩
abbrev S16384x11264 : Shape := ⟨2, ![16384, 11264]⟩
abbrev S16384x11008 : Shape := ⟨2, ![16384, 11008]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x11264, .bf16⟩
  | .hbm, ⟨1, _⟩ => ⟨S11008x4096, .f32⟩
  | .hbm, ⟨2, _⟩ => ⟨S16384x11264, .bf16⟩
  | .hbm, ⟨3, _⟩ => ⟨S16384x11264, .f32⟩
  | .hbm, ⟨4, _⟩ => ⟨S16384x11008, .f32⟩
  | .hbm, ⟨5, _⟩ => ⟨S16384x4096, .f32⟩
  | .hbm, ⟨6, _⟩ => ⟨S16384x4096, .bf16⟩
  | _, _ => ⟨S2x8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HyIn.lean ====
abbrev S2x8192x4096 : Shape := ⟨3, ![2, 8192, 4096]⟩
abbrev S4096x12288 : Shape := ⟨2, ![4096, 12288]⟩
abbrev S12288 : Shape := ⟨1, ![12288]⟩
abbrev S16384x4096 : Shape := ⟨2, ![16384, 4096]⟩
abbrev S1x12288 : Shape := ⟨2, ![1, 12288]⟩
abbrev S16384x12288 : Shape := ⟨2, ![16384, 12288]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S8x128 : Shape := ⟨2, ![8, 128]⟩

abbrev nBuf : Space → Nat
  | .hbm => 7
  | .vmem => 9
  | .smem => 0
  | _ => 0

abbrev bufTy : (tb : Table) → Fin (tcTables nBuf tb) → BufTy
  | .hbm, ⟨0, _⟩ => ⟨S2x8192x4096, .bf16⟩
  | .hbm, ⟨1, _⟩ => ⟨S4096x12288, .f32⟩
  | .hbm, ⟨2, _⟩ => ⟨S12288, .f32⟩
  | .hbm, ⟨3, _⟩ => ⟨S16384x4096, .bf16⟩
  | .hbm, ⟨4, _⟩ => ⟨S4096x12288, .bf16⟩
  | .hbm, ⟨5, _⟩ => ⟨S1x12288, .f32⟩
  | .hbm, ⟨6, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HyInRefIdeal.lean ====
abbrev S2x8192x4096 : Shape := ⟨3, ![2, 8192, 4096]⟩
abbrev S4096x12288 : Shape := ⟨2, ![4096, 12288]⟩
abbrev S12288 : Shape := ⟨1, ![12288]⟩
abbrev S16384x4096 : Shape := ⟨2, ![16384, 4096]⟩
abbrev S16384x12288 : Shape := ⟨2, ![16384, 12288]⟩
abbrev S1x12288 : Shape := ⟨2, ![1, 12288]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S4096x12288, .f32⟩
  | .hbm, ⟨2, _⟩ => ⟨S12288, .f32⟩
  | .hbm, ⟨3, _⟩ => ⟨S16384x4096, .bf16⟩
  | .hbm, ⟨4, _⟩ => ⟨S16384x4096, .f32⟩
  | .hbm, ⟨5, _⟩ => ⟨S16384x12288, .f32⟩
  | .hbm, ⟨6, _⟩ => ⟨S1x12288, .f32⟩
  | .hbm, ⟨7, _⟩ => ⟨S16384x12288, .f32⟩
  | .hbm, ⟨8, _⟩ => ⟨S16384x12288, .f32⟩
  | .hbm, ⟨9, _⟩ => ⟨S16384x12288, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HyOut.lean ====
abbrev S2x8192x4096 : Shape := ⟨3, ![2, 8192, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S8x128 : Shape := ⟨2, ![8, 128]⟩

abbrev nBuf : Space → Nat
  | .hbm => 7
  | .vmem => 9
  | .smem => 0
  | _ => 0

abbrev bufTy : (tb : Table) → Fin (tcTables nBuf tb) → BufTy
  | .hbm, ⟨0, _⟩ => ⟨S2x8192x4096, .bf16⟩
  | .hbm, ⟨1, _⟩ => ⟨S4096x4096, .f32⟩
  | .hbm, ⟨2, _⟩ => ⟨S4096, .f32⟩
  | .hbm, ⟨3, _⟩ => ⟨S16384x4096, .bf16⟩
  | .hbm, ⟨4, _⟩ => ⟨S4096x4096, .bf16⟩
  | .hbm, ⟨5, _⟩ => ⟨S1x4096, .f32⟩
  | .hbm, ⟨6, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HyOutRefIdeal.lean ====
abbrev S2x8192x4096 : Shape := ⟨3, ![2, 8192, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S4096x4096, .f32⟩
  | .hbm, ⟨2, _⟩ => ⟨S4096, .f32⟩
  | .hbm, ⟨3, _⟩ => ⟨S16384x4096, .bf16⟩
  | .hbm, ⟨4, _⟩ => ⟨S16384x4096, .f32⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S16384x4096, .f32⟩
  | .hbm, ⟨9, _⟩ => ⟨S16384x4096, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GdnIn.lean ====
abbrev S2x8192x4096 : Shape := ⟨3, ![2, 8192, 4096]⟩
abbrev S4096x16512 : Shape := ⟨2, ![4096, 16512]⟩
abbrev S16384x4096 : Shape := ⟨2, ![16384, 4096]⟩
abbrev S4096x16384 : Shape := ⟨2, ![4096, 16384]⟩
abbrev S_ : Shape := ⟨0, ![]⟩
abbrev S16384 : Shape := ⟨1, ![16384]⟩
abbrev S1x16384 : Shape := ⟨2, ![1, 16384]⟩
abbrev S16384x16384 : Shape := ⟨2, ![16384, 16384]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S8x128 : Shape := ⟨2, ![8, 128]⟩

abbrev nBuf : Space → Nat
  | .hbm => 9
  | .vmem => 9
  | .smem => 0
  | _ => 0

abbrev bufTy : (tb : Table) → Fin (tcTables nBuf tb) → BufTy
  | .hbm, ⟨0, _⟩ => ⟨S2x8192x4096, .bf16⟩
  | .hbm, ⟨1, _⟩ => ⟨S4096x16512, .f32⟩
  | .hbm, ⟨2, _⟩ => ⟨S16384x4096, .bf16⟩
  | .hbm, ⟨3, _⟩ => ⟨S4096x16384, .f32⟩
  | .hbm, ⟨4, _⟩ => ⟨S4096x16384, .bf16⟩
  | .hbm, ⟨5, _⟩ => ⟨S_, .f32⟩
  | .hbm, ⟨6, _⟩ => ⟨S16384, .f32⟩
  | .hbm, ⟨7, _⟩ => ⟨S1x16384, .f32⟩
  | .hbm, ⟨8, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GdnInRefIdeal.lean ====
abbrev S2x8192x4096 : Shape := ⟨3, ![2, 8192, 4096]⟩
abbrev S4096x16512 : Shape := ⟨2, ![4096, 16512]⟩
abbrev S16384x4096 : Shape := ⟨2, ![16384, 4096]⟩
abbrev S16384x16512 : Shape := ⟨2, ![16384, 16512]⟩
abbrev S16384x16384 : Shape := ⟨2, ![16384, 16384]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S4096x16512, .f32⟩
  | .hbm, ⟨2, _⟩ => ⟨S16384x4096, .bf16⟩
  | .hbm, ⟨3, _⟩ => ⟨S16384x4096, .f32⟩
  | .hbm, ⟨4, _⟩ => ⟨S16384x16512, .f32⟩
  | .hbm, ⟨5, _⟩ => ⟨S16384x16384, .f32⟩
  | .hbm, ⟨6, _⟩ => ⟨S16384x16384, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GdnAb.lean ====
abbrev S2x8192x4096 : Shape := ⟨3, ![2, 8192, 4096]⟩
abbrev S4096x16512 : Shape := ⟨2, ![4096, 16512]⟩
abbrev S16384x4096 : Shape := ⟨2, ![16384, 4096]⟩
abbrev S4096x128 : Shape := ⟨2, ![4096, 128]⟩
abbrev S_ : Shape := ⟨0, ![]⟩
abbrev S128 : Shape := ⟨1, ![128]⟩
abbrev S1x128 : Shape := ⟨2, ![1, 128]⟩
abbrev S16384x128 : Shape := ⟨2, ![16384, 128]⟩
abbrev S1024x4096 : Shape := ⟨2, ![1024, 4096]⟩
abbrev S1024x128 : Shape := ⟨2, ![1024, 128]⟩
abbrev S8x128 : Shape := ⟨2, ![8, 128]⟩

abbrev nBuf : Space → Nat
  | .hbm => 9
  | .vmem => 7
  | .smem => 0
  | _ => 0

abbrev bufTy : (tb : Table) → Fin (tcTables nBuf tb) → BufTy
  | .hbm, ⟨0, _⟩ => ⟨S2x8192x4096, .bf16⟩
  | .hbm, ⟨1, _⟩ => ⟨S4096x16512, .f32⟩
  | .hbm, ⟨2, _⟩ => ⟨S16384x4096, .bf16⟩
  | .hbm, ⟨3, _⟩ => ⟨S4096x128, .f32⟩
  | .hbm, ⟨4, _⟩ => ⟨S4096x128, .bf16⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S8x128, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GdnAbRefIdeal.lean ====
abbrev S2x8192x4096 : Shape := ⟨3, ![2, 8192, 4096]⟩
abbrev S4096x16512 : Shape := ⟨2, ![4096, 16512]⟩
abbrev S16384x4096 : Shape := ⟨2, ![16384, 4096]⟩
abbrev S16384x16512 : Shape := ⟨2, ![16384, 16512]⟩
abbrev S16384x128 : Shape := ⟨2, ![16384, 128]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S4096x16512, .f32⟩
  | .hbm, ⟨2, _⟩ => ⟨S16384x4096, .bf16⟩
  | .hbm, ⟨3, _⟩ => ⟨S16384x4096, .f32⟩
  | .hbm, ⟨4, _⟩ => ⟨S16384x16512, .f32⟩
  | .hbm, ⟨5, _⟩ => ⟨S16384x128, .f32⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GdnOut.lean ====
abbrev S2x8192x4096 : Shape := ⟨3, ![2, 8192, 4096]⟩
abbrev S4096x4096 : Shape := ⟨2, ![4096, 4096]⟩
abbrev S16384x4096 : Shape := ⟨2, ![16384, 4096]⟩
abbrev S_ : Shape := ⟨0, ![]⟩
abbrev S4096 : Shape := ⟨1, ![4096]⟩
abbrev S1x4096 : Shape := ⟨2, ![1, 4096]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S8x128 : Shape := ⟨2, ![8, 128]⟩

abbrev nBuf : Space → Nat
  | .hbm => 8
  | .vmem => 9
  | .smem => 0
  | _ => 0

abbrev bufTy : (tb : Table) → Fin (tcTables nBuf tb) → BufTy
  | .hbm, ⟨0, _⟩ => ⟨S2x8192x4096, .bf16⟩
  | .hbm, ⟨1, _⟩ => ⟨S4096x4096, .f32⟩
  | .hbm, ⟨2, _⟩ => ⟨S16384x4096, .bf16⟩
  | .hbm, ⟨3, _⟩ => ⟨S4096x4096, .bf16⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GdnOutRefIdeal.lean ====
abbrev S2x8192x4096 : Shape := ⟨3, ![2, 8192, 4096]⟩
abbrev S4096x4096 : Shape := ⟨2, ![4096, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S4096x4096, .f32⟩
  | .hbm, ⟨2, _⟩ => ⟨S16384x4096, .bf16⟩
  | .hbm, ⟨3, _⟩ => ⟨S16384x4096, .f32⟩
  | .hbm, ⟨4, _⟩ => ⟨S16384x4096, .f32⟩
  | .hbm, ⟨5, _⟩ => ⟨S16384x4096, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mod.lean ====
abbrev S2x8192x4096 : Shape := ⟨3, ![2, 8192, 4096]⟩
abbrev S2x1x4096 : Shape := ⟨3, ![2, 1, 4096]⟩
abbrev S1x256x4096 : Shape := ⟨3, ![1, 256, 4096]⟩
abbrev S1x1x4096 : Shape := ⟨3, ![1, 1, 4096]⟩
abbrev S256x4096 : Shape := ⟨2, ![256, 4096]⟩
abbrev S1x4096 : Shape := ⟨2, ![1, 4096]⟩

abbrev nBuf : Space → Nat
  | .hbm => 4
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S2x1x4096, .f32⟩
  | .hbm, ⟨2, _⟩ => ⟨S2x1x4096, .f32⟩
  | .hbm, ⟨3, _⟩ => ⟨S2x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x256x4096, .bf16⟩
  | .local _ .vmem, ⟨7, _⟩ => ⟨S1x256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S2x8192x4096 : Shape := ⟨3, ![2, 8192, 4096]⟩
abbrev S2x1x4096 : Shape := ⟨3, ![2, 1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x1x4096, .f32⟩
  | .hbm, ⟨2, _⟩ => ⟨S2x1x4096, .f32⟩
  | .hbm, ⟨3, _⟩ => ⟨S_, .f32⟩
  | .hbm, ⟨4, _⟩ => ⟨S2x1x4096, .f32⟩
  | .hbm, ⟨5, _⟩ => ⟨S2x1x4096, .f32⟩
  | .hbm, ⟨6, _⟩ => ⟨S2x8192x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S2x8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== HyShort.lean ====
abbrev S2x8192x12288 : Shape := ⟨3, ![2, 8192, 12288]⟩
abbrev S3x12288 : Shape := ⟨2, ![3, 12288]⟩
abbrev S12288 : Shape := ⟨1, ![12288]⟩
abbrev S1x12288 : Shape := ⟨2, ![1, 12288]⟩
abbrev S1x512x1024 : Shape := ⟨3, ![1, 512, 1024]⟩
abbrev S1x16x1024 : Shape := ⟨3, ![1, 16, 1024]⟩
abbrev S3x1024 : Shape := ⟨2, ![3, 1024]⟩
abbrev S1x1024 : Shape := ⟨2, ![1, 1024]⟩
abbrev S512x1024 : Shape := ⟨2, ![512, 1024]⟩
abbrev S1x1x1024 : Shape := ⟨3, ![1, 1, 1024]⟩

abbrev nBuf : Space → Nat
  | .hbm => 5
  | .vmem => 12
  | .smem => 0
  | _ => 0

abbrev bufTy : (tb : Table) → Fin (tcTables nBuf tb) → BufTy
  | .hbm, ⟨0, _⟩ => ⟨S2x8192x12288, .bf16⟩
  | .hbm, ⟨1, _⟩ => ⟨S3x12288, .f32⟩
  | .hbm, ⟨2, _⟩ => ⟨S12288, .f32⟩
  | .hbm, ⟨3, _⟩ => ⟨S1x12288, .f32⟩
  | .hbm, ⟨4, _⟩ => ⟨S2x8192x12288, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S1x512x1024, .bf16⟩
  | .local _ .vmem, ⟨11, _⟩ => ⟨S1x512x1024, .bf16⟩
  | _, _ => ⟨S2x8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 12, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg2 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![arg0.toNat, v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== HyShortRefIdeal.lean ====
abbrev S2x8192x12288 : Shape := ⟨3, ![2, 8192, 12288]⟩
abbrev S3x12288 : Shape := ⟨2, ![3, 12288]⟩
abbrev S12288 : Shape := ⟨1, ![12288]⟩
abbrev S_ : Shape := ⟨0, ![]⟩
abbrev S2x8194x12288 : Shape := ⟨3, ![2, 8194, 12288]⟩
abbrev S1x12288 : Shape := ⟨2, ![1, 12288]⟩
abbrev S1x1x12288 : Shape := ⟨3, ![1, 1, 12288]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x12288, .bf16⟩
  | .hbm, ⟨1, _⟩ => ⟨S3x12288, .f32⟩
  | .hbm, ⟨2, _⟩ => ⟨S12288, .f32⟩
  | .hbm, ⟨3, _⟩ => ⟨S2x8192x12288, .f32⟩
  | .hbm, ⟨4, _⟩ => ⟨S_, .i32⟩
  | .hbm, ⟨5, _⟩ => ⟨S_, .f32⟩
  | .hbm, ⟨6, _⟩ => ⟨S2x8194x12288, .f32⟩
  | .hbm, ⟨7, _⟩ => ⟨S2x8192x12288, .f32⟩
  | .hbm, ⟨8, _⟩ => ⟨S1x12288, .f32⟩
  | .hbm, ⟨9, _⟩ => ⟨S12288, .f32⟩
  | .hbm, ⟨10, _⟩ => ⟨S1x1x12288, .f32⟩
  | .hbm, ⟨11, _⟩ => ⟨S2x8192x12288, .f32⟩
  | .hbm, ⟨12, _⟩ => ⟨S2x8192x12288, .f32⟩
  | .hbm, ⟨13, _⟩ => ⟨S2x8192x12288, .f32⟩
  | .hbm, ⟨14, _⟩ => ⟨S1x12288, .f32⟩
  | .hbm, ⟨15, _⟩ => ⟨S12288, .f32⟩
  | .hbm, ⟨16, _⟩ => ⟨S1x1x12288, .f32⟩
  | .hbm, ⟨17, _⟩ => ⟨S2x8192x12288, .f32⟩
  | .hbm, ⟨18, _⟩ => ⟨S2x8192x12288, .f32⟩
  | .hbm, ⟨19, _⟩ => ⟨S2x8192x12288, .f32⟩
  | .hbm, ⟨20, _⟩ => ⟨S2x8192x12288, .f32⟩
  | .hbm, ⟨21, _⟩ => ⟨S1x12288, .f32⟩
  | .hbm, ⟨22, _⟩ => ⟨S12288, .f32⟩
  | .hbm, ⟨23, _⟩ => ⟨S1x1x12288, .f32⟩
  | .hbm, ⟨24, _⟩ => ⟨S2x8192x12288, .f32⟩
  | .hbm, ⟨25, _⟩ => ⟨S2x8192x12288, .f32⟩
  | .hbm, ⟨26, _⟩ => ⟨S2x8192x12288, .f32⟩
  | .hbm, ⟨27, _⟩ => ⟨S1x1x12288, .f32⟩
  | .hbm, ⟨28, _⟩ => ⟨S2x8192x12288, .f32⟩
  | .hbm, ⟨29, _⟩ => ⟨S2x8192x12288, .f32⟩
  | .hbm, ⟨30, _⟩ => ⟨S2x8192x12288, .bf16⟩
  | _, _ => ⟨S2x8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== GdnPre.lean ====
abbrev S2x8192x16384 : Shape := ⟨3, ![2, 8192, 16384]⟩
abbrev S3x12288 : Shape := ⟨2, ![3, 12288]⟩
abbrev S2x8192x12288 : Shape := ⟨3, ![2, 8192, 12288]⟩
abbrev S1x512x1024 : Shape := ⟨3, ![1, 512, 1024]⟩
abbrev S1x16x1024 : Shape := ⟨3, ![1, 16, 1024]⟩
abbrev S3x1024 : Shape := ⟨2, ![3, 1024]⟩
abbrev S512x1024 : Shape := ⟨2, ![512, 1024]⟩
abbrev S1x1x1024 : Shape := ⟨3, ![1, 1, 1024]⟩
abbrev S1x1024 : Shape := ⟨2, ![1, 1024]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 3
  | .vmem => 10
  | .smem => 0
  | _ => 0

abbrev bufTy : (tb : Table) → Fin (tcTables nBuf tb) → BufTy
  | .hbm, ⟨0, _⟩ => ⟨S2x8192x16384, .bf16⟩
  | .hbm, ⟨1, _⟩ => ⟨S3x12288, .f32⟩
  | .hbm, ⟨2, _⟩ => ⟨S2x8192x12288, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S3x1024, .f32⟩
  | .local _ .vmem, ⟨7, _⟩ => ⟨S3x1024, .f32⟩
  | .local _ .vmem, ⟨8, _⟩ => ⟨S1x512x1024, .bf16⟩
  | .local _ .vmem, ⟨9, _⟩ => ⟨S1x512x1024, .bf16⟩
  | _, _ => ⟨S2x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 12, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg2 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![arg0.toNat, v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== GdnPreRefIdeal.lean ====
abbrev S2x8192x16384 : Shape := ⟨3, ![2, 8192, 16384]⟩
abbrev S3x12288 : Shape := ⟨2, ![3, 12288]⟩
abbrev S2x8192x12288 : Shape := ⟨3, ![2, 8192, 12288]⟩
abbrev S_ : Shape := ⟨0, ![]⟩
abbrev S2x8194x12288 : Shape := ⟨3, ![2, 8194, 12288]⟩
abbrev S1x12288 : Shape := ⟨2, ![1, 12288]⟩
abbrev S12288 : Shape := ⟨1, ![12288]⟩
abbrev S1x1x12288 : Shape := ⟨3, ![1, 1, 12288]⟩
abbrev S2x8192x4096 : Shape := ⟨3, ![2, 8192, 4096]⟩
abbrev S2x8192x32x128 : Shape := ⟨4, ![2, 8192, 32, 128]⟩
abbrev S2x8192x32 : Shape := ⟨3, ![2, 8192, 32]⟩
abbrev S2x8192x32x1 : Shape := ⟨4, ![2, 8192, 32, 1]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x16384, .bf16⟩
  | .hbm, ⟨1, _⟩ => ⟨S3x12288, .f32⟩
  | .hbm, ⟨2, _⟩ => ⟨S2x8192x12288, .bf16⟩
  | .hbm, ⟨3, _⟩ => ⟨S2x8192x12288, .f32⟩
  | .hbm, ⟨4, _⟩ => ⟨S_, .i32⟩
  | .hbm, ⟨5, _⟩ => ⟨S_, .f32⟩
  | .hbm, ⟨6, _⟩ => ⟨S2x8194x12288, .f32⟩
  | .hbm, ⟨7, _⟩ => ⟨S2x8192x12288, .f32⟩
  | .hbm, ⟨8, _⟩ => ⟨S1x12288, .f32⟩
  | .hbm, ⟨9, _⟩ => ⟨S12288, .f32⟩
  | .hbm, ⟨10, _⟩ => ⟨S1x1x12288, .f32⟩
  | .hbm, ⟨11, _⟩ => ⟨S2x8192x12288, .f32⟩
  | .hbm, ⟨12, _⟩ => ⟨S2x8192x12288, .f32⟩
  | .hbm, ⟨13, _⟩ => ⟨S2x8192x12288, .f32⟩
  | .hbm, ⟨14, _⟩ => ⟨S1x12288, .f32⟩
  | .hbm, ⟨15, _⟩ => ⟨S12288, .f32⟩
  | .hbm, ⟨16, _⟩ => ⟨S1x1x12288, .f32⟩
  | .hbm, ⟨17, _⟩ => ⟨S2x8192x12288, .f32⟩
  | .hbm, ⟨18, _⟩ => ⟨S2x8192x12288, .f32⟩
  | .hbm, ⟨19, _⟩ => ⟨S2x8192x12288, .f32⟩
  | .hbm, ⟨20, _⟩ => ⟨S2x8192x12288, .f32⟩
  | .hbm, ⟨21, _⟩ => ⟨S1x12288, .f32⟩
  | .hbm, ⟨22, _⟩ => ⟨S12288, .f32⟩
  | .hbm, ⟨23, _⟩ => ⟨S1x1x12288, .f32⟩
  | .hbm, ⟨24, _⟩ => ⟨S2x8192x12288, .f32⟩
  | .hbm, ⟨25, _⟩ => ⟨S2x8192x12288, .f32⟩
  | .hbm, ⟨26, _⟩ => ⟨S2x8192x12288, .f32⟩
  | .hbm, ⟨27, _⟩ => ⟨S2x8192x12288, .f32⟩
  | .hbm, ⟨28, _⟩ => ⟨S2x8192x12288, .f32⟩
  | .hbm, ⟨29, _⟩ => ⟨S_, .f32⟩
  | .hbm, ⟨30, _⟩ => ⟨S2x8192x12288, .f32⟩
  | .hbm, ⟨31, _⟩ => ⟨S2x8192x12288, .f32⟩
  | .hbm, ⟨32, _⟩ => ⟨S_, .f32⟩
  | .hbm, ⟨33, _⟩ => ⟨S2x8192x12288, .f32⟩
  | .hbm, ⟨34, _⟩ => ⟨S2x8192x12288, .f32⟩
  | .hbm, ⟨35, _⟩ => ⟨S2x8192x12288, .f32⟩
  | .hbm, ⟨36, _⟩ => ⟨S2x8192x4096, .f32⟩
  | .hbm, ⟨37, _⟩ => ⟨S2x8192x4096, .f32⟩
  | .hbm, ⟨38, _⟩ => ⟨S2x8192x4096, .f32⟩
  | .hbm, ⟨39, _⟩ => ⟨S2x8192x32x128, .f32⟩
  | .hbm, ⟨40, _⟩ => ⟨S2x8192x32x128, .f32⟩
  | .hbm, ⟨41, _⟩ => ⟨S2x8192x32x128, .f32⟩
  | .hbm, ⟨42, _⟩ => ⟨S2x8192x32x128, .f32⟩
  | .hbm, ⟨43, _⟩ => ⟨S_, .f32⟩
  | .hbm, ⟨44, _⟩ => ⟨S2x8192x32, .f32⟩
  | .hbm, ⟨45, _⟩ => ⟨S2x8192x32x1, .f32⟩
  | .hbm, ⟨46, _⟩ => ⟨S_, .f32⟩
  | .hbm, ⟨47, _⟩ => ⟨S2x8192x32x1, .f32⟩
  | .hbm, ⟨48, _⟩ => ⟨S2x8192x32x1, .f32⟩
  | .hbm, ⟨49, _⟩ => ⟨S2x8192x32x1, .f32⟩
  | .hbm, ⟨50, _⟩ => ⟨S2x8192x32x128, .f32⟩
  | .hbm, ⟨51, _⟩ => ⟨S2x8192x32x128, .f32⟩
  | .hbm, ⟨52, _⟩ => ⟨S_, .f32⟩
  | .hbm, ⟨53, _⟩ => ⟨S2x8192x32x128, .f32⟩
  | .hbm, ⟨54, _⟩ => ⟨S2x8192x32x128, .f32⟩
  | .hbm, ⟨55, _⟩ => ⟨S2x8192x32x128, .f32⟩
  | .hbm, ⟨56, _⟩ => ⟨S_, .f32⟩
  | .hbm, ⟨57, _⟩ => ⟨S2x8192x32, .f32⟩
  | .hbm, ⟨58, _⟩ => ⟨S2x8192x32x1, .f32⟩
  | .hbm, ⟨59, _⟩ => ⟨S_, .f32⟩
  | .hbm, ⟨60, _⟩ => ⟨S2x8192x32x1, .f32⟩
  | .hbm, ⟨61, _⟩ => ⟨S2x8192x32x1, .f32⟩
  | .hbm, ⟨62, _⟩ => ⟨S2x8192x32x1, .f32⟩
  | .hbm, ⟨63, _⟩ => ⟨S2x8192x32x128, .f32⟩
  | .hbm, ⟨64, _⟩ => ⟨S2x8192x32x128, .f32⟩
  | .hbm, ⟨65, _⟩ => ⟨S2x8192x4096, .f32⟩
  | .hbm, ⟨66, _⟩ => ⟨S2x8192x4096, .f32⟩
  | .hbm, ⟨67, _⟩ => ⟨S2x8192x4096, .f32⟩
  | .hbm, ⟨68, _⟩ => ⟨S2x8192x12288, .f32⟩
  | .hbm, ⟨69, _⟩ => ⟨S2x8192x12288, .bf16⟩
  | _, _ => ⟨S2x8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== GdnPost.lean ====
abbrev S2x8192x4096 : Shape := ⟨3, ![2, 8192, 4096]⟩
abbrev S2x8192x16384 : Shape := ⟨3, ![2, 8192, 16384]⟩
abbrev S128 : Shape := ⟨1, ![128]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S1x512x512 : Shape := ⟨3, ![1, 512, 512]⟩
abbrev S512x512 : Shape := ⟨2, ![512, 512]⟩
abbrev S512x128 : Shape := ⟨2, ![512, 128]⟩
abbrev S512x1 : Shape := ⟨2, ![512, 1]⟩
abbrev S1x512x128 : Shape := ⟨3, ![1, 512, 128]⟩

abbrev nBuf : Space → Nat
  | .hbm => 9
  | .vmem => 9
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x4096, .bf16⟩
  | .hbm, ⟨2, _⟩ => ⟨S2x8192x16384, .bf16⟩
  | .hbm, ⟨3, _⟩ => ⟨S128, .f32⟩
  | .hbm, ⟨4, _⟩ => ⟨S1x128, .f32⟩
  | .hbm, ⟨5, _⟩ => ⟨S4x128, .f32⟩
  | .hbm, ⟨6, _⟩ => ⟨S512, .f32⟩
  | .hbm, ⟨7, _⟩ => ⟨S1x512, .f32⟩
  | .hbm, ⟨8, _⟩ => ⟨S2x8192x4096, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512x512, .bf16⟩
  | .local _ .vmem, ⟨8, _⟩ => ⟨S1x512x512, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== GdnPostRefIdeal.lean ====
abbrev S2x8192x4096 : Shape := ⟨3, ![2, 8192, 4096]⟩
abbrev S2x8192x16384 : Shape := ⟨3, ![2, 8192, 16384]⟩
abbrev S128 : Shape := ⟨1, ![128]⟩
abbrev S2x8192x32x128 : Shape := ⟨4, ![2, 8192, 32, 128]⟩
abbrev S_ : Shape := ⟨0, ![]⟩
abbrev S2x8192x32 : Shape := ⟨3, ![2, 8192, 32]⟩
abbrev S2x8192x32x1 : Shape := ⟨4, ![2, 8192, 32, 1]⟩
abbrev S1x1x1x128 : Shape := ⟨4, ![1, 1, 1, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x4096, .bf16⟩
  | .hbm, ⟨2, _⟩ => ⟨S2x8192x16384, .bf16⟩
  | .hbm, ⟨3, _⟩ => ⟨S128, .f32⟩
  | .hbm, ⟨4, _⟩ => ⟨S2x8192x4096, .bf16⟩
  | .hbm, ⟨5, _⟩ => ⟨S2x8192x32x128, .bf16⟩
  | .hbm, ⟨6, _⟩ => ⟨S2x8192x32x128, .f32⟩
  | .hbm, ⟨7, _⟩ => ⟨S2x8192x32x128, .bf16⟩
  | .hbm, ⟨8, _⟩ => ⟨S2x8192x32x128, .f32⟩
  | .hbm, ⟨9, _⟩ => ⟨S2x8192x32x128, .bf16⟩
  | .hbm, ⟨10, _⟩ => ⟨S2x8192x32x128, .f32⟩
  | .hbm, ⟨11, _⟩ => ⟨S2x8192x32x128, .f32⟩
  | .hbm, ⟨12, _⟩ => ⟨S2x8192x32x128, .f32⟩
  | .hbm, ⟨13, _⟩ => ⟨S_, .f32⟩
  | .hbm, ⟨14, _⟩ => ⟨S2x8192x32, .f32⟩
  | .hbm, ⟨15, _⟩ => ⟨S2x8192x32x1, .f32⟩
  | .hbm, ⟨16, _⟩ => ⟨S_, .f32⟩
  | .hbm, ⟨17, _⟩ => ⟨S2x8192x32x1, .f32⟩
  | .hbm, ⟨18, _⟩ => ⟨S2x8192x32x1, .f32⟩
  | .hbm, ⟨19, _⟩ => ⟨S_, .f32⟩
  | .hbm, ⟨20, _⟩ => ⟨S2x8192x32x1, .f32⟩
  | .hbm, ⟨21, _⟩ => ⟨S2x8192x32x1, .f32⟩
  | .hbm, ⟨22, _⟩ => ⟨S2x8192x32x1, .f32⟩
  | .hbm, ⟨23, _⟩ => ⟨S2x8192x32x128, .f32⟩
  | .hbm, ⟨24, _⟩ => ⟨S2x8192x32x128, .f32⟩
  | .hbm, ⟨25, _⟩ => ⟨S1x1x1x128, .f32⟩
  | .hbm, ⟨26, _⟩ => ⟨S2x8192x32x128, .f32⟩
  | .hbm, ⟨27, _⟩ => ⟨S2x8192x32x128, .f32⟩
  | .hbm, ⟨28, _⟩ => ⟨S2x8192x32x128, .f32⟩
  | .hbm, ⟨29, _⟩ => ⟨S2x8192x32x128, .f32⟩
  | .hbm, ⟨30, _⟩ => ⟨S_, .f32⟩
  | .hbm, ⟨31, _⟩ => ⟨S2x8192x32x128, .f32⟩
  | .hbm, ⟨32, _⟩ => ⟨S2x8192x32x128, .f32⟩
  | .hbm, ⟨33, _⟩ => ⟨S_, .f32⟩
  | .hbm, ⟨34, _⟩ => ⟨S2x8192x32x128, .f32⟩
  | .hbm, ⟨35, _⟩ => ⟨S2x8192x32x128, .f32⟩
  | .hbm, ⟨36, _⟩ => ⟨S2x8192x32x128, .f32⟩
  | .hbm, ⟨37, _⟩ => ⟨S2x8192x32x128, .f32⟩
  | .hbm, ⟨38, _⟩ => ⟨S2x8192x4096, .f32⟩
  | .hbm, ⟨39, _⟩ => ⟨S2x8192x4096, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== FfnAct.lean ====
abbrev S2x8192x22528 : Shape := ⟨3, ![2, 8192, 22528]⟩
abbrev S3x3x11264 : Shape := ⟨3, ![3, 3, 11264]⟩
abbrev S11264 : Shape := ⟨1, ![11264]⟩
abbrev S9x11264 : Shape := ⟨2, ![9, 11264]⟩
abbrev S1x11264 : Shape := ⟨2, ![1, 11264]⟩
abbrev S2x8192x11264 : Shape := ⟨3, ![2, 8192, 11264]⟩
abbrev S1x1024x1024 : Shape := ⟨3, ![1, 1024, 1024]⟩
abbrev S1x64x1024 : Shape := ⟨3, ![1, 64, 1024]⟩
abbrev S9x1024 : Shape := ⟨2, ![9, 1024]⟩
abbrev S1x1024 : Shape := ⟨2, ![1, 1024]⟩
abbrev S64x1024 : Shape := ⟨2, ![64, 1024]⟩
abbrev S1024x1024 : Shape := ⟨2, ![1024, 1024]⟩
abbrev S1152x1024 : Shape := ⟨2, ![1152, 1024]⟩

abbrev nBuf : Space → Nat
  | .hbm => 6
  | .vmem => 14
  | .smem => 0
  | _ => 0

abbrev bufTy : (tb : Table) → Fin (tcTables nBuf tb) → BufTy
  | .hbm, ⟨0, _⟩ => ⟨S2x8192x22528, .bf16⟩
  | .hbm, ⟨1, _⟩ => ⟨S3x3x11264, .f32⟩
  | .hbm, ⟨2, _⟩ => ⟨S11264, .f32⟩
  | .hbm, ⟨3, _⟩ => ⟨S9x11264, .f32⟩
  | .hbm, ⟨4, _⟩ => ⟨S1x11264, .f32⟩
  | .hbm, ⟨5, _⟩ => ⟨S2x8192x11264, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S9x1024, .f32⟩
  | .local _ .vmem, ⟨9, _⟩ => ⟨S9x1024, .f32⟩
  | .local _ .vmem, ⟨10, _⟩ => ⟨S1x1024, .f32⟩
  | .local _ .vmem, ⟨11, _⟩ => ⟨S1x1024, .f32⟩
  | .local _ .vmem, ⟨12, _⟩ => ⟨S1x1024x1024, .bf16⟩
  | .local _ .vmem, ⟨13, _⟩ => ⟨S1x1024x1024, .bf16⟩
  | _, _ => ⟨S2x8192x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 11, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  ![arg0.toNat, v2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FfnActRefIdeal.lean ====
abbrev S2x8192x22528 : Shape := ⟨3, ![2, 8192, 22528]⟩
abbrev S3x3x11264 : Shape := ⟨3, ![3, 3, 11264]⟩
abbrev S11264 : Shape := ⟨1, ![11264]⟩
abbrev S2x8192x11264 : Shape := ⟨3, ![2, 8192, 11264]⟩
abbrev S2x128x64x11264 : Shape := ⟨4, ![2, 128, 64, 11264]⟩
abbrev S_ : Shape := ⟨0, ![]⟩
abbrev S2x130x66x11264 : Shape := ⟨4, ![2, 130, 66, 11264]⟩
abbrev S1x1x11264 : Shape := ⟨3, ![1, 1, 11264]⟩
abbrev S1x1x1x11264 : Shape := ⟨4, ![1, 1, 1, 11264]⟩

abbrev nBuf : Space → Nat
  | .hbm => 90
  | .vmem => 0
  | .smem => 0
  | _ => 0

abbrev bufTy : (tb : Table) → Fin (tcTables nBuf tb) → BufTy
  | .hbm, ⟨0, _⟩ => ⟨S2x8192x22528, .bf16⟩
  | .hbm, ⟨1, _⟩ => ⟨S3x3x11264, .f32⟩
  | .hbm, ⟨2, _⟩ => ⟨S11264, .f32⟩
  | .hbm, ⟨3, _⟩ => ⟨S2x8192x22528, .f32⟩
  | .hbm, ⟨4, _⟩ => ⟨S2x8192x11264, .f32⟩
  | .hbm, ⟨5, _⟩ => ⟨S2x8192x11264, .f32⟩
  | .hbm, ⟨6, _⟩ => ⟨S2x128x64x11264, .f32⟩
  | .hbm, ⟨7, _⟩ => ⟨S_, .i32⟩
  | .hbm, ⟨8, _⟩ => ⟨S_, .f32⟩
  | .hbm, ⟨9, _⟩ => ⟨S2x130x66x11264, .f32⟩
  | .hbm, ⟨10, _⟩ => ⟨S2x128x64x11264, .f32⟩
  | .hbm, ⟨11, _⟩ => ⟨S1x1x11264, .f32⟩
  | .hbm, ⟨12, _⟩ => ⟨S11264, .f32⟩
  | .hbm, ⟨13, _⟩ => ⟨S1x1x1x11264, .f32⟩
  | .hbm, ⟨14, _⟩ => ⟨S2x128x64x11264, .f32⟩
  | .hbm, ⟨15, _⟩ => ⟨S2x128x64x11264, .f32⟩
  | .hbm, ⟨16, _⟩ => ⟨S_, .f32⟩
  | .hbm, ⟨17, _⟩ => ⟨S2x128x64x11264, .f32⟩
  | .hbm, ⟨18, _⟩ => ⟨S2x128x64x11264, .f32⟩
  | .hbm, ⟨19, _⟩ => ⟨S2x128x64x11264, .f32⟩
  | .hbm, ⟨20, _⟩ => ⟨S1x1x11264, .f32⟩
  | .hbm, ⟨21, _⟩ => ⟨S11264, .f32⟩
  | .hbm, ⟨22, _⟩ => ⟨S1x1x1x11264, .f32⟩
  | .hbm, ⟨23, _⟩ => ⟨S2x128x64x11264, .f32⟩
  | .hbm, ⟨24, _⟩ => ⟨S2x128x64x11264, .f32⟩
  | .hbm, ⟨25, _⟩ => ⟨S2x128x64x11264, .f32⟩
  | .hbm, ⟨26, _⟩ => ⟨S2x128x64x11264, .f32⟩
  | .hbm, ⟨27, _⟩ => ⟨S1x1x11264, .f32⟩
  | .hbm, ⟨28, _⟩ => ⟨S11264, .f32⟩
  | .hbm, ⟨29, _⟩ => ⟨S1x1x1x11264, .f32⟩
  | .hbm, ⟨30, _⟩ => ⟨S2x128x64x11264, .f32⟩
  | .hbm, ⟨31, _⟩ => ⟨S2x128x64x11264, .f32⟩
  | .hbm, ⟨32, _⟩ => ⟨S2x128x64x11264, .f32⟩
  | .hbm, ⟨33, _⟩ => ⟨S2x128x64x11264, .f32⟩
  | .hbm, ⟨34, _⟩ => ⟨S1x1x11264, .f32⟩
  | .hbm, ⟨35, _⟩ => ⟨S11264, .f32⟩
  | .hbm, ⟨36, _⟩ => ⟨S1x1x1x11264, .f32⟩
  | .hbm, ⟨37, _⟩ => ⟨S2x128x64x11264, .f32⟩
  | .hbm, ⟨38, _⟩ => ⟨S2x128x64x11264, .f32⟩
  | .hbm, ⟨39, _⟩ => ⟨S2x128x64x11264, .f32⟩
  | .hbm, ⟨40, _⟩ => ⟨S2x128x64x11264, .f32⟩
  | .hbm, ⟨41, _⟩ => ⟨S1x1x11264, .f32⟩
  | .hbm, ⟨42, _⟩ => ⟨S11264, .f32⟩
  | .hbm, ⟨43, _⟩ => ⟨S1x1x1x11264, .f32⟩
  | .hbm, ⟨44, _⟩ => ⟨S2x128x64x11264, .f32⟩
  | .hbm, ⟨45, _⟩ => ⟨S2x128x64x11264, .f32⟩
  | .hbm, ⟨46, _⟩ => ⟨S2x128x64x11264, .f32⟩
  | .hbm, ⟨47, _⟩ => ⟨S2x128x64x11264, .f32⟩
  | .hbm, ⟨48, _⟩ => ⟨S1x1x11264, .f32⟩
  | .hbm, ⟨49, _⟩ => ⟨S11264, .f32⟩
  | .hbm, ⟨50, _⟩ => ⟨S1x1x1x11264, .f32⟩
  | .hbm, ⟨51, _⟩ => ⟨S2x128x64x11264, .f32⟩
  | .hbm, ⟨52, _⟩ => ⟨S2x128x64x11264, .f32⟩
  | .hbm, ⟨53, _⟩ => ⟨S2x128x64x11264, .f32⟩
  | .hbm, ⟨54, _⟩ => ⟨S2x128x64x11264, .f32⟩
  | .hbm, ⟨55, _⟩ => ⟨S1x1x11264, .f32⟩
  | .hbm, ⟨56, _⟩ => ⟨S11264, .f32⟩
  | .hbm, ⟨57, _⟩ => ⟨S1x1x1x11264, .f32⟩
  | .hbm, ⟨58, _⟩ => ⟨S2x128x64x11264, .f32⟩
  | .hbm, ⟨59, _⟩ => ⟨S2x128x64x11264, .f32⟩
  | .hbm, ⟨60, _⟩ => ⟨S2x128x64x11264, .f32⟩
  | .hbm, ⟨61, _⟩ => ⟨S2x128x64x11264, .f32⟩
  | .hbm, ⟨62, _⟩ => ⟨S1x1x11264, .f32⟩
  | .hbm, ⟨63, _⟩ => ⟨S11264, .f32⟩
  | .hbm, ⟨64, _⟩ => ⟨S1x1x1x11264, .f32⟩
  | .hbm, ⟨65, _⟩ => ⟨S2x128x64x11264, .f32⟩
  | .hbm, ⟨66, _⟩ => ⟨S2x128x64x11264, .f32⟩
  | .hbm, ⟨67, _⟩ => ⟨S2x128x64x11264, .f32⟩
  | .hbm, ⟨68, _⟩ => ⟨S2x128x64x11264, .f32⟩
  | .hbm, ⟨69, _⟩ => ⟨S1x1x11264, .f32⟩
  | .hbm, ⟨70, _⟩ => ⟨S11264, .f32⟩
  | .hbm, ⟨71, _⟩ => ⟨S1x1x1x11264, .f32⟩
  | .hbm, ⟨72, _⟩ => ⟨S2x128x64x11264, .f32⟩
  | .hbm, ⟨73, _⟩ => ⟨S2x128x64x11264, .f32⟩
  | .hbm, ⟨74, _⟩ => ⟨S2x128x64x11264, .f32⟩
  | .hbm, ⟨75, _⟩ => ⟨S2x8192x11264, .f32⟩
  | .hbm, ⟨76, _⟩ => ⟨S1x1x11264, .f32⟩
  | .hbm, ⟨77, _⟩ => ⟨S2x8192x11264, .f32⟩
  | .hbm, ⟨78, _⟩ => ⟨S2x8192x11264, .f32⟩
  | .hbm, ⟨79, _⟩ => ⟨S_, .f32⟩
  | .hbm, ⟨80, _⟩ => ⟨S2x8192x11264, .f32⟩
  | .hbm, ⟨81, _⟩ => ⟨S2x8192x11264, .f32⟩
  | .hbm, ⟨82, _⟩ => ⟨S2x8192x11264, .f32⟩
  | .hbm, ⟨83, _⟩ => ⟨S_, .f32⟩
  | .hbm, ⟨84, _⟩ => ⟨S2x8192x11264, .f32⟩
  | .hbm, ⟨85, _⟩ => ⟨S2x8192x11264, .f32⟩
  | .hbm, ⟨86, _⟩ => ⟨S2x8192x11264, .f32⟩
  | .hbm, ⟨87, _⟩ => ⟨S2x8192x11264, .f32⟩
  | .hbm, ⟨88, _⟩ => ⟨S2x8192x11264, .f32⟩
  | .hbm, ⟨89, _⟩ => ⟨S2x8192x11264, .bf16⟩
  | _, _ => ⟨S2x8192x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_cst_0 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_cst_1 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩

abbrev nD : Nat := 1
abbrev τ : Topo := Topo.v7x

variable {F : FTy → Type} [FloatOps F]
-- ==== Proof.GdnRun.lean ====
/- What the runs of the gated delta rule's kernel share: when its conditions hold, its staging and scratch memrefs, and the
   region's invariant over them. -/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Gdn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The body's condition 0, from the grid's coordinates. -/
abbrev cond0_0 (i : grid0.Coords) : Prop := (Scalar.cmpi .ne (Scalar.extui (Scalar.cmpi .eq (BitVec.ofNat 32 (i 2).val) 0#32)) 0#32) = 1#1
/-- It holds at the points that are 0 modulo 16. -/
theorem hcond0_0 : ∀ t : Fin cfg0.N, cond0_0 (grid0.coords t) ↔ t.val % 16 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 16 % 8 := Pipeline.Grid.coords_val t 1 (by decide) rfl
    have e2 : (grid0.coords t 2).val = t.val / 1 % 16 := Pipeline.Grid.coords_val t 2 (by decide) rfl
    simp only [cond0_0, e0, e1, e2]
    word_cmp
   : ∀ t : Fin grid0.N, cond0_0 (grid0.coords t) ↔ t.val % 16 = 0)

/-- The body's condition 1, from the grid's coordinates. -/
abbrev cond0_1 (i : grid0.Coords) : Prop := k0_cond2 i = 1#1
/-- It holds at the points that are 15 modulo 16. -/
theorem hcond0_1 : ∀ t : Fin cfg0.N, cond0_1 (grid0.coords t) ↔ t.val % 16 = 15 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 16 % 8 := Pipeline.Grid.coords_val t 1 (by decide) rfl
    have e2 : (grid0.coords t 2).val = t.val / 1 % 16 := Pipeline.Grid.coords_val t 2 (by decide) rfl
    simp only [cond0_1, k0_cond2, e0, e1, e2]
    word_cmp
   : ∀ t : Fin grid0.N, cond0_1 (grid0.coords t) ↔ t.val % 16 = 15)

/-! ## Where the windows are idle  -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
/-! ## The kernel body on any staging memrefs: any staging memrefs -/

/-- Each window's staging memref at a point, and that it is whole. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x512x32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x4x4x1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x4x4x1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x4x128x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x512 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x2x4x128x128 .f32 := win0_15.stage (cfg0.slots t 15)
abbrev hs0_15 (t : Fin cfg0.N) : (ms0_15 t).IsWhole := hstage0_15 ((cfg0.slots t 15).cast nbuf0_15)
/-- The scratch memrefs. -/
abbrev scM0_0 : Memref sig .tc .vmem S2x4x128x128 .f32 := Memref.whole cc0_scratch0
abbrev scM0_1 : Memref sig .tc .vmem S2x4x4x128x128 .f32 := Memref.whole cc0_scratch1
abbrev scM0_2 : Memref sig .tc .vmem S2x4x4x128x128 .f32 := Memref.whole cc0_scratch2
abbrev scM0_3 : Memref sig .tc .vmem S2x4x4x128x128 .f32 := Memref.whole cc0_scratch3
abbrev scM0_4 : Memref sig .tc .vmem S2x4x4x128x128 .f32 := Memref.whole cc0_scratch4
abbrev scM0_5 : Memref sig .tc .vmem S2x4x4x8x128 .f32 := Memref.whole cc0_scratch5
abbrev scM0_6 : Memref sig .tc .vmem S2x4x4x128x128 .f32 := Memref.whole cc0_scratch6
abbrev scM0_7 : Memref sig .tc .vmem S2x4x4x128x128 .f32 := Memref.whole cc0_scratch7
abbrev scM0_8 : Memref sig .tc .vmem S2x4x4x128x128 .f32 := Memref.whole cc0_scratch8
/-- The carried state's scratch, as a view. -/
abbrev VS0_0 : View sig .tc .vmem S2x4x128x128 .f32 := scM0_0.view

/-- The invariant with each scratch memref owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Gdn

end
-- ==== Proof.GdnRunA.lean ====
/- The whole run of the gated delta rule's kernel body at one kind of grid point. -/
module

public import proofs.«01_k».proof.Proof.GdnRun

@[expose] public section

set_option maxRecDepth 16384

noncomputable section

namespace Cert.KernelIdeal.Gdn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run at a first point of a sequence: the entry state is copied in. The pieces it stores into the outputs and the carried
    state are found by the run; `x27` is what the loop's record of states holds before it. -/
noncomputable def runA (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x1x512x32 .f32) (harg9 : arg9.IsWhole) (arg10 : Memref sig .tc .vmem S1x1x512x32 .f32) (harg10 : arg10.IsWhole) (arg11 : Memref sig .tc .vmem S1x1x512x32 .f32) (harg11 : arg11.IsWhole) (arg12 : Memref sig .tc .vmem S1x1x512x32 .f32) (harg12 : arg12.IsWhole) (arg13 : Memref sig .tc .vmem S1x1x4x4x1x128 .f32) (harg13 : arg13.IsWhole) (arg14 : Memref sig .tc .vmem S1x1x4x4x1x128 .f32) (harg14 : arg14.IsWhole) (arg15 : Memref sig .tc .vmem S1x2x4x128x128 .f32) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x2x4x128x128 .f32) (harg18 : arg18.IsWhole) (arg19 : Memref sig .tc .vmem S2x4x128x128 .f32) (harg19 : arg19.IsWhole) (arg20 : Memref sig .tc .vmem S2x4x4x128x128 .f32) (harg20 : arg20.IsWhole) (arg21 : Memref sig .tc .vmem S2x4x4x128x128 .f32) (harg21 : arg21.IsWhole) (arg22 : Memref sig .tc .vmem S2x4x4x128x128 .f32) (harg22 : arg22.IsWhole) (arg23 : Memref sig .tc .vmem S2x4x4x128x128 .f32) (harg23 : arg23.IsWhole) (arg24 : Memref sig .tc .vmem S2x4x4x8x128 .f32) (harg24 : arg24.IsWhole) (arg25 : Memref sig .tc .vmem S2x4x4x128x128 .f32) (harg25 : arg25.IsWhole) (arg26 : Memref sig .tc .vmem S2x4x4x128x128 .f32) (harg26 : arg26.IsWhole) (arg27 : Memref sig .tc .vmem S2x4x4x128x128 .f32) (harg27 : arg27.IsWhole) (hc0 : cond0_0 i) (hc1 : ¬cond0_1 i)
    (x0 : Vec F S1x512x512 .bf16) (x1 : Vec F S1x512x512 .bf16) (x2 : Vec F S1x512x512 .bf16) (x3 : Vec F S1x512x512 .bf16) (x4 : Vec F S1x512x512 .bf16) (x5 : Vec F S1x512x512 .bf16) (x6 : Vec F S1x1x512x32 .f32) (x7 : Vec F S1x1x512x32 .f32) (x8 : Vec F S1x1x512x32 .f32) (x9 : Vec F S1x1x512x32 .f32) (x10 : Vec F S1x1x4x4x1x128 .f32) (x11 : Vec F S1x1x4x4x1x128 .f32) (x12 : Vec F S1x2x4x128x128 .f32) (x15 : Vec F S1x2x4x128x128 .f32) (x27 : Vec F S2x4x4x128x128 .f32) :
    Σ' (L13 : List (View.Piece (Elt F) S1x512x512 .bf16)) (L14 : List (View.Piece (Elt F) S1x512x512 .bf16)), { LS : List (View.Piece (Elt F) S2x4x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare x27
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ owns (c : Thread nD τ) arg18 fullShare x15 ∗ (∃ f, arg19.view.loc (c : Thread nD τ) ↦[arg19.view.set]{fullShare} arg19.view.writes (Elt F) f LS) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_gdn_scan i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, fun E K => ?run⟩
  case run =>
    simp only [cc0_gdn_scan_eq_skeleton]; unfold cc0_gdn_scan_skel
    simp only [k0_part28_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%fs8, %hfs8, HS8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg18.eq_unread hf15; obtain rfl := harg27.eq_unread hfs8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]; · iexists _; iexact H13
    isplitl [H14]; · iexists _; iexact H14
    isplitl [H15]
    · iexists _; isplitr; · ipureintro; exact harg18.read_unread _
      iexact H15
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Gdn

end
-- ==== Proof.GdnRunB.lean ====
/- The whole run of the gated delta rule's kernel body at one kind of grid point. -/
module

public import proofs.«01_k».proof.Proof.GdnRun

@[expose] public section

set_option maxRecDepth 16384

noncomputable section

namespace Cert.KernelIdeal.Gdn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run at a inner point of a sequence. The pieces it stores into the outputs and the carried
    state are found by the run; `x27` is what the loop's record of states holds before it. -/
noncomputable def runB (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x1x512x32 .f32) (harg9 : arg9.IsWhole) (arg10 : Memref sig .tc .vmem S1x1x512x32 .f32) (harg10 : arg10.IsWhole) (arg11 : Memref sig .tc .vmem S1x1x512x32 .f32) (harg11 : arg11.IsWhole) (arg12 : Memref sig .tc .vmem S1x1x512x32 .f32) (harg12 : arg12.IsWhole) (arg13 : Memref sig .tc .vmem S1x1x4x4x1x128 .f32) (harg13 : arg13.IsWhole) (arg14 : Memref sig .tc .vmem S1x1x4x4x1x128 .f32) (harg14 : arg14.IsWhole) (arg15 : Memref sig .tc .vmem S1x2x4x128x128 .f32) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x2x4x128x128 .f32) (harg18 : arg18.IsWhole) (arg19 : Memref sig .tc .vmem S2x4x128x128 .f32) (harg19 : arg19.IsWhole) (arg20 : Memref sig .tc .vmem S2x4x4x128x128 .f32) (harg20 : arg20.IsWhole) (arg21 : Memref sig .tc .vmem S2x4x4x128x128 .f32) (harg21 : arg21.IsWhole) (arg22 : Memref sig .tc .vmem S2x4x4x128x128 .f32) (harg22 : arg22.IsWhole) (arg23 : Memref sig .tc .vmem S2x4x4x128x128 .f32) (harg23 : arg23.IsWhole) (arg24 : Memref sig .tc .vmem S2x4x4x8x128 .f32) (harg24 : arg24.IsWhole) (arg25 : Memref sig .tc .vmem S2x4x4x128x128 .f32) (harg25 : arg25.IsWhole) (arg26 : Memref sig .tc .vmem S2x4x4x128x128 .f32) (harg26 : arg26.IsWhole) (arg27 : Memref sig .tc .vmem S2x4x4x128x128 .f32) (harg27 : arg27.IsWhole) (hc0 : ¬cond0_0 i) (hc1 : ¬cond0_1 i)
    (x0 : Vec F S1x512x512 .bf16) (x1 : Vec F S1x512x512 .bf16) (x2 : Vec F S1x512x512 .bf16) (x3 : Vec F S1x512x512 .bf16) (x4 : Vec F S1x512x512 .bf16) (x5 : Vec F S1x512x512 .bf16) (x6 : Vec F S1x1x512x32 .f32) (x7 : Vec F S1x1x512x32 .f32) (x8 : Vec F S1x1x512x32 .f32) (x9 : Vec F S1x1x512x32 .f32) (x10 : Vec F S1x1x4x4x1x128 .f32) (x11 : Vec F S1x1x4x4x1x128 .f32) (x12 : Vec F S1x2x4x128x128 .f32) (x15 : Vec F S1x2x4x128x128 .f32) (xs : Vec F S2x4x128x128 .f32) (x27 : Vec F S2x4x4x128x128 .f32) :
    Σ' (L13 : List (View.Piece (Elt F) S1x512x512 .bf16)) (L14 : List (View.Piece (Elt F) S1x512x512 .bf16)), { LS : List (View.Piece (Elt F) S2x4x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ owns (c : Thread nD τ) arg18 fullShare x15 ∗ owns (c : Thread nD τ) arg19 fullShare xs ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare x27
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ owns (c : Thread nD τ) arg18 fullShare x15 ∗ (∃ f, arg19.view.loc (c : Thread nD τ) ↦[arg19.view.set]{fullShare} arg19.view.writes (Elt F) f LS) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_gdn_scan i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, fun E K => ?run⟩
  case run =>
    simp only [cc0_gdn_scan_eq_skeleton]; unfold cc0_gdn_scan_skel
    simp only [k0_part28_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%f15, %hf15, H15⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%fs8, %hfs8, HS8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg18.eq_unread hf15; obtain rfl := harg19.eq_unread hfs0; obtain rfl := harg27.eq_unread hfs8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]; · iexists _; iexact H13
    isplitl [H14]; · iexists _; iexact H14
    isplitl [H15]
    · iexists _; isplitr; · ipureintro; exact harg18.read_unread _
      iexact H15
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Gdn

end
-- ==== Proof.GdnRunC.lean ====
/- The whole run of the gated delta rule's kernel body at one kind of grid point. -/
module

public import proofs.«01_k».proof.Proof.GdnRun

@[expose] public section

set_option maxRecDepth 16384

noncomputable section

namespace Cert.KernelIdeal.Gdn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body's run at a last point of a sequence: the state is handed out. The pieces it stores into the outputs and the carried
    state are found by the run; `x27` is what the loop's record of states holds before it. -/
noncomputable def runC (c : Dev nD) (i : grid0.Coords) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x1x512x32 .f32) (harg9 : arg9.IsWhole) (arg10 : Memref sig .tc .vmem S1x1x512x32 .f32) (harg10 : arg10.IsWhole) (arg11 : Memref sig .tc .vmem S1x1x512x32 .f32) (harg11 : arg11.IsWhole) (arg12 : Memref sig .tc .vmem S1x1x512x32 .f32) (harg12 : arg12.IsWhole) (arg13 : Memref sig .tc .vmem S1x1x4x4x1x128 .f32) (harg13 : arg13.IsWhole) (arg14 : Memref sig .tc .vmem S1x1x4x4x1x128 .f32) (harg14 : arg14.IsWhole) (arg15 : Memref sig .tc .vmem S1x2x4x128x128 .f32) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x2x4x128x128 .f32) (harg18 : arg18.IsWhole) (arg19 : Memref sig .tc .vmem S2x4x128x128 .f32) (harg19 : arg19.IsWhole) (arg20 : Memref sig .tc .vmem S2x4x4x128x128 .f32) (harg20 : arg20.IsWhole) (arg21 : Memref sig .tc .vmem S2x4x4x128x128 .f32) (harg21 : arg21.IsWhole) (arg22 : Memref sig .tc .vmem S2x4x4x128x128 .f32) (harg22 : arg22.IsWhole) (arg23 : Memref sig .tc .vmem S2x4x4x128x128 .f32) (harg23 : arg23.IsWhole) (arg24 : Memref sig .tc .vmem S2x4x4x8x128 .f32) (harg24 : arg24.IsWhole) (arg25 : Memref sig .tc .vmem S2x4x4x128x128 .f32) (harg25 : arg25.IsWhole) (arg26 : Memref sig .tc .vmem S2x4x4x128x128 .f32) (harg26 : arg26.IsWhole) (arg27 : Memref sig .tc .vmem S2x4x4x128x128 .f32) (harg27 : arg27.IsWhole) (hc0 : ¬cond0_0 i) (hc1 : cond0_1 i)
    (x0 : Vec F S1x512x512 .bf16) (x1 : Vec F S1x512x512 .bf16) (x2 : Vec F S1x512x512 .bf16) (x3 : Vec F S1x512x512 .bf16) (x4 : Vec F S1x512x512 .bf16) (x5 : Vec F S1x512x512 .bf16) (x6 : Vec F S1x1x512x32 .f32) (x7 : Vec F S1x1x512x32 .f32) (x8 : Vec F S1x1x512x32 .f32) (x9 : Vec F S1x1x512x32 .f32) (x10 : Vec F S1x1x4x4x1x128 .f32) (x11 : Vec F S1x1x4x4x1x128 .f32) (x12 : Vec F S1x2x4x128x128 .f32) (xs : Vec F S2x4x128x128 .f32) (x27 : Vec F S2x4x4x128x128 .f32) :
    Σ' (L13 : List (View.Piece (Elt F) S1x512x512 .bf16)) (L14 : List (View.Piece (Elt F) S1x512x512 .bf16)) (L15 : List (View.Piece (Elt F) S1x2x4x128x128 .f32)), { LS : List (View.Piece (Elt F) S2x4x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare x27
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f LS) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_gdn_scan i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, fun E K => ?run⟩
  case run =>
    simp only [cc0_gdn_scan_eq_skeleton]; unfold cc0_gdn_scan_skel
    simp only [k0_part28_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%fs8, %hfs8, HS8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg19.eq_unread hfs0; obtain rfl := harg27.eq_unread hfs8
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]; · iexists _; iexact H13
    isplitl [H14]; · iexists _; iexact H14
    isplitl [H15]; · iexists _; iexact H15
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Gdn

end
-- ==== Proof.GdnFrame.lean ====
/- The frame of the gated delta rule's kernel: at any float operations, every run ends with the arguments as they were and the
   counters at zero. -/
module

public import proofs.«01_k».proof.Proof.GdnRunA
public import proofs.«01_k».proof.Proof.GdnRunB
public import proofs.«01_k».proof.Proof.GdnRunC

@[expose] public section

set_option maxRecDepth 16384

noncomputable section

namespace Cert.KernelIdeal.Gdn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The outputs, whose contents the frame does not name. -/
def forgets0 : Fin 16 → Bool := fun w => w.val == 13 || w.val == 14 || w.val == 15

/-- The proof data: the inputs stay at their blocks, nothing of the outputs or of the scratch is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

/-- The proof data's arrays are the contents the region is entered with. -/
theorem A_eq (c : Dev nD) (w : Fin cfg0.W) : (dats m 0 c).A w = V m c (Pipeline.arrRef spec0 w) := by
  dsimp only [dats]

/-- Every input is left at its block, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

/-- and found at it. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- So the window's buffer ends at its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 16000000 in
/-- The body at any point: its conditions say which run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, leaves0_0, leaves0_1, leaves0_2, leaves0_3, leaves0_4, leaves0_5, leaves0_6, leaves0_7, leaves0_8, leaves0_9, leaves0_10, leaves0_11, leaves0_12]
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, PhiA0_eq]
  have hN : t.val < 256 := lt_of_lt_of_eq t.isLt (show cfg0.N = 256 from N_0)
  by_cases h0 : t.val % 16 = 0
  · have h1 : ¬ t.val % 16 = 15 := by omega
    iintro ⟨⟨⟨HS0, HS1, HS2, HS3, HS4, HS5, HS6, HS7, ⟨%ds8, HS8⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, ⟨%d15, H15⟩⟩
    iapply ((runA c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d15 ds8).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, H12, ⟨%e13, H13⟩, ⟨%e14, H14⟩, H15, ⟨%es0, HS0⟩, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]
        · unfold owns; iexists _, _; isplitr; swap; · iexact HS0
          ipureintro; rfl
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _, _; isplitr; swap; · iexact H13
      ipureintro; rfl
    isplitl [H14]
    · unfold owns; iexists _, _; isplitr; swap; · iexact H14
      ipureintro; rfl
    iexists _; iexact H15
  · by_cases h1 : t.val % 16 = 15
    · skip
      iintro ⟨⟨⟨⟨%ds0, HS0⟩, HS1, HS2, HS3, HS4, HS5, HS6, HS7, ⟨%ds8, HS8⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, ⟨%d15, H15⟩⟩
      iapply ((runC c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ds0 ds8).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, ⟨%e13, H13⟩, ⟨%e14, H14⟩, ⟨%e15, H15⟩, ⟨%es0, HS0⟩, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]
          · unfold owns; iexists _, _; isplitr; swap; · iexact HS0
            ipureintro; rfl
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _, _; isplitr; swap; · iexact H13
        ipureintro; rfl
      isplitl [H14]
      · unfold owns; iexists _, _; isplitr; swap; · iexact H14
        ipureintro; rfl
      unfold owns; iexists _, _; isplitr; swap; · iexact H15
      ipureintro; rfl
    · skip
      iintro ⟨⟨⟨⟨%ds0, HS0⟩, HS1, HS2, HS3, HS4, HS5, HS6, HS7, ⟨%ds8, HS8⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, ⟨%d15, H15⟩⟩
      iapply ((runB c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d15 ds0 ds8).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iintro ⟨H0, H1, H2, H3, H4, H5, H6, H7, H8, H9, H10, H11, H12, ⟨%e13, H13⟩, ⟨%e14, H14⟩, H15, ⟨%es0, HS0⟩, HS1, HS2, HS3, HS4, HS5, HS6, HS7, HS8⟩
      isplitl [HS0 HS1 HS2 HS3 HS4 HS5 HS6 HS7 HS8 Hg]
      · isplitl [HS0 HS1 HS2 HS3 HS4 HS5 HS6 HS7 HS8]
        · isplitl [HS0]
          · unfold owns; iexists _, _; isplitr; swap; · iexact HS0
            ipureintro; rfl
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _, _; isplitr; swap; · iexact H13
        ipureintro; rfl
      isplitl [H14]
      · unfold owns; iexists _, _; isplitr; swap; · iexact H14
        ipureintro; rfl
      iexists _; iexact H15

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every run ends with the staged arrays as the frame says and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h.1 c 5 rfl).trans ((A_eq m c 5).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 12 rfl).trans ((A_eq m c 12).trans (V_main_arg3 m c))⟩) (run_main_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gdn

end
-- ==== Proof.GdnSame.lean ====
/- The gated delta rule's kernel and the kernel idealized are one program. -/
module

public import proofs.«01_k».proof.Defs
public import proofs.«01_k».proof.Proof.Gen.Kernel
public import proofs.«01_k».proof.Proof.Gen.KernelIdeal

@[expose] public section

set_option maxRecDepth 16384

noncomputable section

open Idealize.ShloMosaic Idealize.ShloMosaic.TcCoe Idealize.SL.Sem

namespace Cert.KernelIdeal.Gdn

variable {F : FTy → Type} [FloatOps F]

set_option maxHeartbeats 8000000 in
/-- The two kernel bodies are the same text, -/
theorem same_body : @Cert.Kernel.cc0_gdn_scan F _ _ = @Cert.KernelIdeal.cc0_gdn_scan F _ _ := rfl

set_option maxHeartbeats 8000000 in
/-- so are the two body tables, -/
theorem same_table : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

set_option maxHeartbeats 8000000 in
/-- the tables of the whole programs -/
theorem same_defs : Cert.Kernel.defs (F := F) = Cert.KernelIdeal.defs (F := F) := by
  unfold Cert.Kernel.defs Cert.KernelIdeal.defs
  exact congrArg (Pipeline.defs Cert.KernelIdeal.pcfgs) same_table

set_option maxHeartbeats 8000000 in
/-- and the programs. -/
theorem same_main : Cert.Kernel.main (F := F) = Cert.KernelIdeal.main (F := F) := rfl

end Cert.KernelIdeal.Gdn

end
-- ==== Proof.GdnClaim.lean ====
/- The gated delta rule: what is claimed of its kernel, of the kernel idealized and of its reference. -/
module

public import proofs.«01_k».proof.Defs
public import proofs.«01_k».proof.Proof.GdnFrame
public import proofs.«01_k».proof.Proof.GdnSame
public import proofs.«01_k».proof.Proof.Gen.Kernel
public import proofs.«01_k».proof.Proof.Gen.RefIdeal.Run
public import proofs.«01_k».proof.Proof.Gen.RefIdeal.Step

@[expose] public section

noncomputable section

open Idealize.ShloMosaic Idealize.ShloMosaic.TcCoe Idealize.SL.Sem

namespace Cert.KernelIdeal.Gdn

/-- The kernel runs and leaves its arguments and every counter as they were: its text is the idealized kernel's. -/
theorem kernelFrame : Cert.quiescent_Kernel := fun m ρ _ => by
  have h := frame (F := Bits) m ρ
  rw [← same_defs, ← same_main] at h
  exact h

/-- So does the kernel idealized. -/
theorem idealFrame : Cert.quiescent_KernelIdeal := fun m ρ _ => frame m ρ

/-- So does the reference. -/
theorem refFrame : Cert.quiescent_RefIdeal := fun m ρ _ =>
  (θ_run _ _ _).mono (fun _ h => ⟨fun c => (h c).2.2.2, funext fun ⟨_, s⟩ => by cases s <;> exact Fin.elim0 ‹_›⟩)
    (Cert.RefIdeal.Value.run m ρ)

end Cert.KernelIdeal.Gdn

end
-- ==== Proof.NormRow.lean ====
module

public import Idealize.ShloMosaic.Lib.Pipeline.ValueKit
public import Idealize.ShloMosaic.Lib.Pointwise

@[expose] public section

noncomputable section

namespace Cert.Norm

open Idealize.ShloMosaic

/-- The layer normalisation of a row of 4096 entries at one of them: less the mean, over the root of the variance and the small constant, scaled and shifted. -/
def row (v : Fin 4096 → EReal) (g b : EReal) (k : Fin 4096) : EReal :=
  (v k - Ideal.div (∑ j, v j) (Ideal.ofBits FTy.f32 0x45800000#32))
    * Ideal.rsqrt (Ideal.div (∑ j, (v j - Ideal.div (∑ l, v l) (Ideal.ofBits FTy.f32 0x45800000#32))
        * (v j - Ideal.div (∑ l, v l) (Ideal.ofBits FTy.f32 0x45800000#32))) (Ideal.ofBits FTy.f32 0x45800000#32)
      + Ideal.ofBits FTy.f32 0x3727C5AC#32) * g + b

/-- One entry of the residual: the stream times its constant, plus the gated branch. -/
def res (x y gate : EReal) : EReal := Ideal.ofBits FTy.f32 0x3FB504F3#32 * x + gate * y

end Cert.Norm
-- ==== Proof.PostNormValue.lean ====
module

public import proofs.«01_k».proof.Proof.Gen.PostNormIdeal.Value
public import proofs.«01_k».proof.Proof.NormRow

@[expose] public section

set_option maxRecDepth 16384

noncomputable section

namespace Cert.PostNormIdeal.Norm

open Cert.PostNormIdeal Cert.PostNormIdeal.Gen Idealize.ShloMosaic Idealize.ShloMosaic.TcCoe Idealize.SL.Sem
open Idealize.ShloMosaic.Pipeline (Dat)
open Cert.Norm (row res)

variable (m : (ℓ : Loc nD τ sig) → Buf (Elt Ideal) ℓ)

/-- The normalised residual at one entry. -/
def out (x : Vec Ideal S2x8192x4096 .f32) (y : Vec Ideal S2x8192x4096 .bf16) (gate : Vec Ideal S2x1x4096 .f32) (g b : Vec Ideal S4096 .f32) :
    Vec Ideal S2x8192x4096 .f32 := fun i =>
  row (fun k => res (x (ix3 (i 0) (i 1) k)) (y (ix3 (i 0) (i 1) k)) (gate (ix3 (i 0) 0 k))) (g (ix1 (i 2))) (b (ix1 (i 2))) (i 2)

theorem idx : ∀ t : Fin cfg0.N, win0_0.index t = ![t.val / 32, t.val % 32, 0] ∧ win0_1.index t = ![t.val / 32, t.val % 32, 0]
    ∧ win0_2.index t = ![t.val / 32, 0, 0] ∧ win0_3.index t = ![0, 0] ∧ win0_4.index t = ![0, 0] ∧ win0_7.index t = ![t.val / 32, t.val % 32, 0] :=
  (by decide +kernel : ∀ t : Fin grid0.N, _)

theorem pay (x : Vec Ideal S1x256x4096 .f32) (gate : Vec Ideal S1x1x4096 .f32) (y : Vec Ideal S1x256x4096 .bf16) (g b : Vec Ideal S1x4096 .f32)
    (r : Fin 256) (k : Fin 4096) : k0_pay1 (k0_pay2 x gate y g b) (ix3 0 r k)
      = row (fun j => res (x (ix3 0 r j)) (y (ix3 0 r j)) (gate (ix3 0 0 j))) (g (ix2 0 k)) (b (ix2 0 k)) k := by
  pointwise [k0_pay1, k0_pay2, row, res]

theorem blk0 (c : Dev nD) (t : Fin cfg0.N) (r : Fin 256) (k : Fin 4096) (a : Fin 2) (l : Fin 8192)
    (ha : a.val = t.val / 32) (hl : l.val = t.val % 32 * 256 + r.val) :
    iblk m c 0 t (ix3 0 r k) = m ((c : Thread nD τ).loc main_arg0) (ix3 a l k) := by
  blk_simp [iblk, idx t]
  entry_read
  blk_ext [idx t, ha, hl]

theorem blk1 (c : Dev nD) (t : Fin cfg0.N) (r : Fin 256) (k : Fin 4096) (a : Fin 2) (l : Fin 8192)
    (ha : a.val = t.val / 32) (hl : l.val = t.val % 32 * 256 + r.val) :
    iblk m c 1 t (ix3 0 r k) = m ((c : Thread nD τ).loc main_arg1) (ix3 a l k) := by
  blk_simp [iblk, idx t]
  entry_read
  blk_ext [idx t, ha, hl]

theorem blk2 (c : Dev nD) (t : Fin cfg0.N) (k : Fin 4096) (a : Fin 2) (ha : a.val = t.val / 32) :
    iblk m c 2 t (ix3 0 0 k) = m ((c : Thread nD τ).loc main_arg2) (ix3 a 0 k) := by
  blk_simp [iblk, idx t]
  entry_read
  blk_ext [idx t, ha]

theorem blk3 (c : Dev nD) (t : Fin cfg0.N) (k : Fin 4096) :
    iblk m c 3 t (ix2 0 k) = m ((c : Thread nD τ).loc main_arg3) (ix1 k) := by
  blk_simp [iblk, idx t]
  entry_read
  pointwise
  blk_ext [idx t]

theorem blk4 (c : Dev nD) (t : Fin cfg0.N) (k : Fin 4096) :
    iblk m c 4 t (ix2 0 k) = m ((c : Thread nD τ).loc main_arg4) (ix1 k) := by
  blk_simp [iblk, idx t]
  entry_read
  pointwise
  blk_ext [idx t]

/-- A row of the block, normalised. -/
theorem block (c : Dev nD) (t : Fin cfg0.N) (r : Fin 256) (k : Fin 4096) (i : S2x8192x4096.Idx)
    (h0 : (i 0).val = t.val / 32) (h1 : (i 1).val = t.val % 32 * 256 + r.val) (h2 : i 2 = k) :
    row (fun j => res (iblk m c 0 t (ix3 0 r j)) (iblk m c 1 t (ix3 0 r j)) (iblk m c 2 t (ix3 0 0 j))) (iblk m c 3 t (ix2 0 k)) (iblk m c 4 t (ix2 0 k)) k
      = out (m ((c : Thread nD τ).loc main_arg0)) (m ((c : Thread nD τ).loc main_arg1)) (m ((c : Thread nD τ).loc main_arg2)) (m ((c : Thread nD τ).loc main_arg3)) (m ((c : Thread nD τ).loc main_arg4)) i := by
  unfold out
  rw [blk3, blk4, h2, funext fun j => congr (congr (congrArg res (blk0 m c t r j (i 0) (i 1) h0 h1)) (blk1 m c t r j (i 0) (i 1) h0 h1)) (blk2 m c t j (i 0) h0)]

theorem final (c : Dev nD) : (dats m 0 c).arrAt 7 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  unfold out0_7
  frame_out
  idx_vars y
  have e0 : ((((View.whole main_v7).slice (win0_7.rect t)).emb (ix3 y0 y1 y2)) 0).val = t.val / 32 := by
    blk_simp [idx t]
  have e1 : ((((View.whole main_v7).slice (win0_7.rect t)).emb (ix3 y0 y1 y2)) 1).val = t.val % 32 * 256 + y1.val := by
    blk_simp [idx t]
  have e2 : ((((View.whole main_v7).slice (win0_7.rect t)).emb (ix3 y0 y1 y2)) 2).val = y2.val := by
    blk_simp [idx t]
  generalize ((View.whole main_v7).slice (win0_7.rect t)).emb (ix3 y0 y1 y2) = i at e0 e1 e2 ⊢
  obtain rfl : y0 = 0 := Subsingleton.elim _ _
  exact (pay _ _ _ _ _ y1 y2).trans (block m c t y1 y2 i e0 e1 (Fin.ext e2))

end Cert.PostNormIdeal.Norm
-- ==== Proof.PostNormClaim.lean ====
module

public import proofs.«01_k».proof.Defs
public import proofs.«01_k».proof.Proof.Gen.PostNormRefIdeal.Run
public import proofs.«01_k».proof.Proof.PostNormValue

@[expose] public section

set_option maxRecDepth 16384

noncomputable section

open Idealize.ShloMosaic Idealize.ShloMosaic.TcCoe Idealize.SL.Sem

namespace Cert.PostNormRefIdeal.Norm

open Cert.PostNormRefIdeal.Gen

/-- The reference's operations composed, entry by entry. -/
theorem ref_eq (x : Vec Ideal Cert.PostNormRefIdeal.S2x8192x4096 .f32) (w : Vec Ideal Cert.PostNormRefIdeal.S2x8192x4096 .bf16) (b : Vec Ideal Cert.PostNormRefIdeal.S2x1x4096 .f32) (d : Vec Ideal Cert.PostNormRefIdeal.S4096 .f32) (e : Vec Ideal Cert.PostNormRefIdeal.S4096 .f32) :
    addf (mulf (mulf (subf (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (broadcastInDim S2x8192x4096 ![0, 1, 2] bcast_S2x8192x1_S2x8192x4096_0_1_2 (Host.divf (F := Ideal) (broadcastInDim S2x8192x1 ![0, 1] bcast_S2x8192_S2x8192x1_0_1 (Host.reduceAdd (F := Ideal) (φ := .f32) (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (constant (F := Ideal) S_ .f32 0x00000000#32) reducesTo_S2x8192x4096_S2x8192_d2 h_S_)) (broadcastInDim S2x8192x1 ![] bcast_S_S2x8192x1 (constant (F := Ideal) S_ .f32 0x45800000#32))))) (broadcastInDim S2x8192x4096 ![0, 1, 2] bcast_S2x8192x1_S2x8192x4096_0_1_2 (Host.rsqrt (addf (Host.divf (F := Ideal) (broadcastInDim S2x8192x1 ![0, 1] bcast_S2x8192_S2x8192x1_0_1 (Host.reduceAdd (F := Ideal) (φ := .f32) (mulf (subf (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (broadcastInDim S2x8192x4096 ![0, 1, 2] bcast_S2x8192x1_S2x8192x4096_0_1_2 (Host.divf (F := Ideal) (broadcastInDim S2x8192x1 ![0, 1] bcast_S2x8192_S2x8192x1_0_1 (Host.reduceAdd (F := Ideal) (φ := .f32) (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (constant (F := Ideal) S_ .f32 0x00000000#32) reducesTo_S2x8192x4096_S2x8192_d2 h_S_)) (broadcastInDim S2x8192x1 ![] bcast_S_S2x8192x1 (constant (F := Ideal) S_ .f32 0x45800000#32))))) (subf (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (broadcastInDim S2x8192x4096 ![0, 1, 2] bcast_S2x8192x1_S2x8192x4096_0_1_2 (Host.divf (F := Ideal) (broadcastInDim S2x8192x1 ![0, 1] bcast_S2x8192_S2x8192x1_0_1 (Host.reduceAdd (F := Ideal) (φ := .f32) (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (constant (F := Ideal) S_ .f32 0x00000000#32) reducesTo_S2x8192x4096_S2x8192_d2 h_S_)) (broadcastInDim S2x8192x1 ![] bcast_S_S2x8192x1 (constant (F := Ideal) S_ .f32 0x45800000#32)))))) (constant (F := Ideal) S_ .f32 0x00000000#32) reducesTo_S2x8192x4096_S2x8192_d2 h_S_)) (broadcastInDim S2x8192x1 ![] bcast_S_S2x8192x1 (constant (F := Ideal) S_ .f32 0x45800000#32))) (broadcastInDim S2x8192x1 ![] bcast_S_S2x8192x1 (constant (F := Ideal) S_ .f32 0x3727C5AC#32)))))) (broadcastInDim S2x8192x4096 ![0, 1, 2] bcast_S1x1x4096_S2x8192x4096_0_1_2 (broadcastInDim S1x1x4096 ![2] bcast_S4096_S1x1x4096_2 d))) (broadcastInDim S2x8192x4096 ![0, 1, 2] bcast_S1x1x4096_S2x8192x4096_0_1_2 (broadcastInDim S1x1x4096 ![2] bcast_S4096_S1x1x4096_2 e)) = Cert.PostNormIdeal.Norm.out x w b d e := by
  funext i
  idx_vars i
  pointwise [Cert.PostNormIdeal.Norm.out, Cert.Norm.row, Cert.Norm.res]

end Cert.PostNormRefIdeal.Norm

namespace Cert.PostNormIdeal.Norm

/-- The reference's result is the same array. -/
theorem ref (m : (ℓ : Loc Cert.PostNormRefIdeal.nD Cert.PostNormRefIdeal.τ Cert.PostNormRefIdeal.sig) → Buf (Elt Ideal) ℓ) (ρ : Dev Cert.PostNormRefIdeal.nD → PrngReg) :
    θ_run (Cert.PostNormRefIdeal.defs (F := Ideal)) (onTc (τ := Cert.PostNormRefIdeal.τ) (Cert.PostNormRefIdeal.main (F := Ideal))) ⟨m, fun _ => 0, ρ⟩ fun r => ∀ c : Dev Cert.PostNormRefIdeal.nD,
      r.2.mem ((c.tc : Thread Cert.PostNormRefIdeal.nD Cert.PostNormRefIdeal.τ).loc Cert.PostNormRefIdeal.main_v29)
        = out (m ((c.tc : Thread Cert.PostNormRefIdeal.nD Cert.PostNormRefIdeal.τ).loc Cert.PostNormRefIdeal.main_arg0)) (m ((c.tc : Thread Cert.PostNormRefIdeal.nD Cert.PostNormRefIdeal.τ).loc Cert.PostNormRefIdeal.main_arg1)) (m ((c.tc : Thread Cert.PostNormRefIdeal.nD Cert.PostNormRefIdeal.τ).loc Cert.PostNormRefIdeal.main_arg2)) (m ((c.tc : Thread Cert.PostNormRefIdeal.nD Cert.PostNormRefIdeal.τ).loc Cert.PostNormRefIdeal.main_arg3)) (m ((c.tc : Thread Cert.PostNormRefIdeal.nD Cert.PostNormRefIdeal.τ).loc Cert.PostNormRefIdeal.main_arg4))
      ∧ r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2)
      ∧ r.2.mem ((c.tc : Thread Cert.PostNormRefIdeal.nD Cert.PostNormRefIdeal.τ).loc Cert.PostNormRefIdeal.main_arg3) = m ((c.tc : Thread Cert.PostNormRefIdeal.nD Cert.PostNormRefIdeal.τ).loc Cert.PostNormRefIdeal.main_arg3)
      ∧ r.2.mem ((c.tc : Thread Cert.PostNormRefIdeal.nD Cert.PostNormRefIdeal.τ).loc Cert.PostNormRefIdeal.main_arg4) = m ((c.tc : Thread Cert.PostNormRefIdeal.nD Cert.PostNormRefIdeal.τ).loc Cert.PostNormRefIdeal.main_arg4) :=
  (θ_run _ _ _).mono (fun _ h c => ⟨(h c).1.trans (Cert.PostNormRefIdeal.Norm.ref_eq _ _ _ _ _), (h c).2⟩) (Cert.PostNormRefIdeal.Value.run m ρ)

/-- The reference runs and leaves its arguments and every counter as they were. -/
theorem refFrame : Cert.quiescent_PostNormRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_PostNormIdeal_PostNormRefIdeal := fun m ρ m' ρ' _ hag =>
  ⟨fun c => out (m ((c.tc : Thread Cert.PostNormIdeal.nD Cert.PostNormIdeal.τ).loc Cert.PostNormIdeal.main_arg0)) (m ((c.tc : Thread Cert.PostNormIdeal.nD Cert.PostNormIdeal.τ).loc Cert.PostNormIdeal.main_arg1)) (m ((c.tc : Thread Cert.PostNormIdeal.nD Cert.PostNormIdeal.τ).loc Cert.PostNormIdeal.main_arg2)) (m ((c.tc : Thread Cert.PostNormIdeal.nD Cert.PostNormIdeal.τ).loc Cert.PostNormIdeal.main_arg3)) (m ((c.tc : Thread Cert.PostNormIdeal.nD Cert.PostNormIdeal.τ).loc Cert.PostNormIdeal.main_arg4)),
    (θ_run _ _ _).mono (fun _ h c => ⟨(h c).1.trans (final m c), (h c).2⟩) (Cert.PostNormIdeal.Value.run_blocks m ρ),
    (θ_run _ _ _).mono (fun _ h c => ⟨(h c).1.trans (by rw [(hag c).1, (hag c).2.1, (hag c).2.2.1, (hag c).2.2.2.1, (hag c).2.2.2.2]), (h c).2⟩) (ref m' ρ')⟩

end Cert.PostNormIdeal.Norm
-- ==== Proof.MidNormValue.lean ====
module

public import proofs.«01_k».proof.Proof.Gen.MidNormIdeal.Value
public import proofs.«01_k».proof.Proof.NormRow

@[expose] public section

set_option maxRecDepth 16384

noncomputable section

namespace Cert.MidNormIdeal.Norm

open Cert.MidNormIdeal Cert.MidNormIdeal.Gen Idealize.ShloMosaic Idealize.ShloMosaic.TcCoe Idealize.SL.Sem
open Idealize.ShloMosaic.Pipeline (Dat)
open Cert.Norm (row res)

variable (m : (ℓ : Loc nD τ sig) → Buf (Elt Ideal) ℓ)

/-- The normalised residual at one entry. -/
def out (x : Vec Ideal S2x8192x4096 .f32) (y : Vec Ideal S2x8192x4096 .bf16) (gate : Vec Ideal S2x1x4096 .f32) (g b : Vec Ideal S4096 .f32) :
    Vec Ideal S2x8192x4096 .f32 := fun i =>
  row (fun k => res (x (ix3 (i 0) (i 1) k)) (y (ix3 (i 0) (i 1) k)) (gate (ix3 (i 0) 0 k))) (g (ix1 (i 2))) (b (ix1 (i 2))) (i 2)

theorem idx : ∀ t : Fin cfg0.N, win0_0.index t = ![t.val / 32, t.val % 32, 0] ∧ win0_1.index t = ![t.val / 32, t.val % 32, 0]
    ∧ win0_2.index t = ![t.val / 32, 0, 0] ∧ win0_3.index t = ![0, 0] ∧ win0_4.index t = ![0, 0]
    ∧ win0_5.index t = ![t.val / 32, 0, 0] ∧ win0_6.index t = ![t.val / 32, 0, 0] ∧ win0_7.index t = ![t.val / 32, t.val % 32, 0] ∧ win0_8.index t = ![t.val / 32, t.val % 32, 0] :=
  (by decide +kernel : ∀ t : Fin grid0.N, _)

theorem pay (x : Vec Ideal S1x256x4096 .f32) (gate : Vec Ideal S1x1x4096 .f32) (y : Vec Ideal S1x256x4096 .bf16) (g b : Vec Ideal S1x4096 .f32)
    (r : Fin 256) (k : Fin 4096) : k0_pay1 (k0_pay3 x gate y g b) (ix3 0 r k)
      = row (fun j => res (x (ix3 0 r j)) (y (ix3 0 r j)) (gate (ix3 0 0 j))) (g (ix2 0 k)) (b (ix2 0 k)) k := by
  pointwise [k0_pay1, k0_pay3, row, res]

theorem blk0 (c : Dev nD) (t : Fin cfg0.N) (r : Fin 256) (k : Fin 4096) (a : Fin 2) (l : Fin 8192)
    (ha : a.val = t.val / 32) (hl : l.val = t.val % 32 * 256 + r.val) :
    iblk m c 0 t (ix3 0 r k) = m ((c : Thread nD τ).loc main_arg0) (ix3 a l k) := by
  blk_simp [iblk, idx t]
  entry_read
  blk_ext [idx t, ha, hl]

theorem blk1 (c : Dev nD) (t : Fin cfg0.N) (r : Fin 256) (k : Fin 4096) (a : Fin 2) (l : Fin 8192)
    (ha : a.val = t.val / 32) (hl : l.val = t.val % 32 * 256 + r.val) :
    iblk m c 1 t (ix3 0 r k) = m ((c : Thread nD τ).loc main_arg1) (ix3 a l k) := by
  blk_simp [iblk, idx t]
  entry_read
  blk_ext [idx t, ha, hl]

theorem blk2 (c : Dev nD) (t : Fin cfg0.N) (k : Fin 4096) (a : Fin 2) (ha : a.val = t.val / 32) :
    iblk m c 2 t (ix3 0 0 k) = m ((c : Thread nD τ).loc main_arg2) (ix3 a 0 k) := by
  blk_simp [iblk, idx t]
  entry_read
  blk_ext [idx t, ha]

theorem blk3 (c : Dev nD) (t : Fin cfg0.N) (k : Fin 4096) :
    iblk m c 3 t (ix2 0 k) = m ((c : Thread nD τ).loc main_arg3) (ix1 k) := by
  blk_simp [iblk, idx t]
  entry_read
  pointwise
  blk_ext [idx t]

theorem blk4 (c : Dev nD) (t : Fin cfg0.N) (k : Fin 4096) :
    iblk m c 4 t (ix2 0 k) = m ((c : Thread nD τ).loc main_arg4) (ix1 k) := by
  blk_simp [iblk, idx t]
  entry_read
  pointwise
  blk_ext [idx t]

/-- A row of the block, normalised. -/
theorem block (c : Dev nD) (t : Fin cfg0.N) (r : Fin 256) (k : Fin 4096) (i : S2x8192x4096.Idx)
    (h0 : (i 0).val = t.val / 32) (h1 : (i 1).val = t.val % 32 * 256 + r.val) (h2 : i 2 = k) :
    row (fun j => res (iblk m c 0 t (ix3 0 r j)) (iblk m c 1 t (ix3 0 r j)) (iblk m c 2 t (ix3 0 0 j))) (iblk m c 3 t (ix2 0 k)) (iblk m c 4 t (ix2 0 k)) k
      = out (m ((c : Thread nD τ).loc main_arg0)) (m ((c : Thread nD τ).loc main_arg1)) (m ((c : Thread nD τ).loc main_arg2)) (m ((c : Thread nD τ).loc main_arg3)) (m ((c : Thread nD τ).loc main_arg4)) i := by
  unfold out
  rw [blk3, blk4, h2, funext fun j => congr (congr (congrArg res (blk0 m c t r j (i 0) (i 1) h0 h1)) (blk1 m c t r j (i 0) (i 1) h0 h1)) (blk2 m c t j (i 0) h0)]

theorem final (c : Dev nD) : (dats m 0 c).arrAt 7 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  unfold out0_7 k0_pay4
  frame_out
  idx_vars y
  have e0 : ((((View.whole main_v2_0).slice (win0_7.rect t)).emb (ix3 y0 y1 y2)) 0).val = t.val / 32 := by
    blk_simp [idx t]
  have e1 : ((((View.whole main_v2_0).slice (win0_7.rect t)).emb (ix3 y0 y1 y2)) 1).val = t.val % 32 * 256 + y1.val := by
    blk_simp [idx t]
  have e2 : ((((View.whole main_v2_0).slice (win0_7.rect t)).emb (ix3 y0 y1 y2)) 2).val = y2.val := by
    blk_simp [idx t]
  generalize ((View.whole main_v2_0).slice (win0_7.rect t)).emb (ix3 y0 y1 y2) = i at e0 e1 e2 ⊢
  obtain rfl : y0 = 0 := Subsingleton.elim _ _
  exact (pay _ _ _ _ _ y1 y2).trans (block m c t y1 y2 i e0 e1 (Fin.ext e2))

/-- The shifted and scaled normalised residual at one entry. -/
def out' (x : Vec Ideal S2x8192x4096 .f32) (y : Vec Ideal S2x8192x4096 .bf16) (gate : Vec Ideal S2x1x4096 .f32) (g b : Vec Ideal S4096 .f32)
    (shift scale : Vec Ideal S2x1x4096 .f32) : Vec Ideal S2x8192x4096 .bf16 := fun i =>
  out x y gate g b i * (Ideal.ofBits FTy.f32 0x3F800000#32 + scale (ix3 (i 0) 0 (i 2))) + shift (ix3 (i 0) 0 (i 2))

theorem pay' (x : Vec Ideal S1x256x4096 .f32) (gate : Vec Ideal S1x1x4096 .f32) (y : Vec Ideal S1x256x4096 .bf16) (g b : Vec Ideal S1x4096 .f32)
    (scale shift : Vec Ideal S1x1x4096 .f32) (r : Fin 256) (k : Fin 4096) : k0_pay2 (k0_pay3 x gate y g b) scale shift (ix3 0 r k)
      = row (fun j => res (x (ix3 0 r j)) (y (ix3 0 r j)) (gate (ix3 0 0 j))) (g (ix2 0 k)) (b (ix2 0 k)) k
        * (Ideal.ofBits FTy.f32 0x3F800000#32 + scale (ix3 0 0 k)) + shift (ix3 0 0 k) := by
  pointwise [k0_pay2, k0_pay3, row, res]

theorem blk5 (c : Dev nD) (t : Fin cfg0.N) (k : Fin 4096) (a : Fin 2) (ha : a.val = t.val / 32) :
    iblk m c 5 t (ix3 0 0 k) = m ((c : Thread nD τ).loc main_arg5) (ix3 a 0 k) := by
  blk_simp [iblk, idx t]
  entry_read
  blk_ext [idx t, ha]

theorem blk6 (c : Dev nD) (t : Fin cfg0.N) (k : Fin 4096) (a : Fin 2) (ha : a.val = t.val / 32) :
    iblk m c 6 t (ix3 0 0 k) = m ((c : Thread nD τ).loc main_arg6) (ix3 a 0 k) := by
  blk_simp [iblk, idx t]
  entry_read
  blk_ext [idx t, ha]

theorem final' (c : Dev nD) : (dats m 0 c).arrAt 8 cfg0.N
    = out' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  unfold out0_8 k0_pay4
  frame_out
  idx_vars y
  have e0 : ((((View.whole main_v2_1).slice (win0_8.rect t)).emb (ix3 y0 y1 y2)) 0).val = t.val / 32 := by
    blk_simp [idx t]
  have e1 : ((((View.whole main_v2_1).slice (win0_8.rect t)).emb (ix3 y0 y1 y2)) 1).val = t.val % 32 * 256 + y1.val := by
    blk_simp [idx t]
  have e2 : ((((View.whole main_v2_1).slice (win0_8.rect t)).emb (ix3 y0 y1 y2)) 2).val = y2.val := by
    blk_simp [idx t]
  generalize ((View.whole main_v2_1).slice (win0_8.rect t)).emb (ix3 y0 y1 y2) = i at e0 e1 e2 ⊢
  obtain rfl : y0 = 0 := Subsingleton.elim _ _
  refine (pay' _ _ _ _ _ _ _ y1 y2).trans ?_
  rw [block m c t y1 y2 i e0 e1 (Fin.ext e2), blk6 m c t y2 (i 0) e0, blk5 m c t y2 (i 0) e0]
  obtain rfl : i 2 = y2 := Fin.ext e2
  rfl

end Cert.MidNormIdeal.Norm
-- ==== Proof.MidNormClaim.lean ====
module

public import proofs.«01_k».proof.Defs
public import proofs.«01_k».proof.Proof.Gen.MidNormRefIdeal.Run
public import proofs.«01_k».proof.Proof.MidNormValue

@[expose] public section

set_option maxRecDepth 16384

noncomputable section

open Idealize.ShloMosaic Idealize.ShloMosaic.TcCoe Idealize.SL.Sem

namespace Cert.MidNormRefIdeal.Norm

open Cert.MidNormRefIdeal.Gen

/-- The reference's operations composed, entry by entry. -/
theorem ref_eq (x : Vec Ideal Cert.MidNormRefIdeal.S2x8192x4096 .f32) (w : Vec Ideal Cert.MidNormRefIdeal.S2x8192x4096 .bf16) (b : Vec Ideal Cert.MidNormRefIdeal.S2x1x4096 .f32) (d : Vec Ideal Cert.MidNormRefIdeal.S4096 .f32) (e : Vec Ideal Cert.MidNormRefIdeal.S4096 .f32) :
    addf (mulf (mulf (subf (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (broadcastInDim S2x8192x4096 ![0, 1, 2] bcast_S2x8192x1_S2x8192x4096_0_1_2 (Host.divf (F := Ideal) (broadcastInDim S2x8192x1 ![0, 1] bcast_S2x8192_S2x8192x1_0_1 (Host.reduceAdd (F := Ideal) (φ := .f32) (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (constant (F := Ideal) S_ .f32 0x00000000#32) reducesTo_S2x8192x4096_S2x8192_d2 h_S_)) (broadcastInDim S2x8192x1 ![] bcast_S_S2x8192x1 (constant (F := Ideal) S_ .f32 0x45800000#32))))) (broadcastInDim S2x8192x4096 ![0, 1, 2] bcast_S2x8192x1_S2x8192x4096_0_1_2 (Host.rsqrt (addf (Host.divf (F := Ideal) (broadcastInDim S2x8192x1 ![0, 1] bcast_S2x8192_S2x8192x1_0_1 (Host.reduceAdd (F := Ideal) (φ := .f32) (mulf (subf (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (broadcastInDim S2x8192x4096 ![0, 1, 2] bcast_S2x8192x1_S2x8192x4096_0_1_2 (Host.divf (F := Ideal) (broadcastInDim S2x8192x1 ![0, 1] bcast_S2x8192_S2x8192x1_0_1 (Host.reduceAdd (F := Ideal) (φ := .f32) (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (constant (F := Ideal) S_ .f32 0x00000000#32) reducesTo_S2x8192x4096_S2x8192_d2 h_S_)) (broadcastInDim S2x8192x1 ![] bcast_S_S2x8192x1 (constant (F := Ideal) S_ .f32 0x45800000#32))))) (subf (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (broadcastInDim S2x8192x4096 ![0, 1, 2] bcast_S2x8192x1_S2x8192x4096_0_1_2 (Host.divf (F := Ideal) (broadcastInDim S2x8192x1 ![0, 1] bcast_S2x8192_S2x8192x1_0_1 (Host.reduceAdd (F := Ideal) (φ := .f32) (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (constant (F := Ideal) S_ .f32 0x00000000#32) reducesTo_S2x8192x4096_S2x8192_d2 h_S_)) (broadcastInDim S2x8192x1 ![] bcast_S_S2x8192x1 (constant (F := Ideal) S_ .f32 0x45800000#32)))))) (constant (F := Ideal) S_ .f32 0x00000000#32) reducesTo_S2x8192x4096_S2x8192_d2 h_S_)) (broadcastInDim S2x8192x1 ![] bcast_S_S2x8192x1 (constant (F := Ideal) S_ .f32 0x45800000#32))) (broadcastInDim S2x8192x1 ![] bcast_S_S2x8192x1 (constant (F := Ideal) S_ .f32 0x3727C5AC#32)))))) (broadcastInDim S2x8192x4096 ![0, 1, 2] bcast_S1x1x4096_S2x8192x4096_0_1_2 (broadcastInDim S1x1x4096 ![2] bcast_S4096_S1x1x4096_2 d))) (broadcastInDim S2x8192x4096 ![0, 1, 2] bcast_S1x1x4096_S2x8192x4096_0_1_2 (broadcastInDim S1x1x4096 ![2] bcast_S4096_S1x1x4096_2 e)) = Cert.MidNormIdeal.Norm.out x w b d e := by
  funext i
  idx_vars i
  pointwise [Cert.MidNormIdeal.Norm.out, Cert.Norm.row, Cert.Norm.res]

/-- The reference's operations of the second result composed, entry by entry. -/
theorem ref_eq' (x : Vec Ideal Cert.MidNormRefIdeal.S2x8192x4096 .f32) (w : Vec Ideal Cert.MidNormRefIdeal.S2x8192x4096 .bf16) (b : Vec Ideal Cert.MidNormRefIdeal.S2x1x4096 .f32) (d : Vec Ideal Cert.MidNormRefIdeal.S4096 .f32) (e : Vec Ideal Cert.MidNormRefIdeal.S4096 .f32) (f g : Vec Ideal Cert.MidNormRefIdeal.S2x1x4096 .f32) :
    truncf (F := Ideal) .bf16 (addf (mulf (addf (mulf (mulf (subf (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (broadcastInDim S2x8192x4096 ![0, 1, 2] bcast_S2x8192x1_S2x8192x4096_0_1_2 (Host.divf (F := Ideal) (broadcastInDim S2x8192x1 ![0, 1] bcast_S2x8192_S2x8192x1_0_1 (Host.reduceAdd (F := Ideal) (φ := .f32) (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (constant (F := Ideal) S_ .f32 0x00000000#32) reducesTo_S2x8192x4096_S2x8192_d2 h_S_)) (broadcastInDim S2x8192x1 ![] bcast_S_S2x8192x1 (constant (F := Ideal) S_ .f32 0x45800000#32))))) (broadcastInDim S2x8192x4096 ![0, 1, 2] bcast_S2x8192x1_S2x8192x4096_0_1_2 (Host.rsqrt (addf (Host.divf (F := Ideal) (broadcastInDim S2x8192x1 ![0, 1] bcast_S2x8192_S2x8192x1_0_1 (Host.reduceAdd (F := Ideal) (φ := .f32) (mulf (subf (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (broadcastInDim S2x8192x4096 ![0, 1, 2] bcast_S2x8192x1_S2x8192x4096_0_1_2 (Host.divf (F := Ideal) (broadcastInDim S2x8192x1 ![0, 1] bcast_S2x8192_S2x8192x1_0_1 (Host.reduceAdd (F := Ideal) (φ := .f32) (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (constant (F := Ideal) S_ .f32 0x00000000#32) reducesTo_S2x8192x4096_S2x8192_d2 h_S_)) (broadcastInDim S2x8192x1 ![] bcast_S_S2x8192x1 (constant (F := Ideal) S_ .f32 0x45800000#32))))) (subf (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (broadcastInDim S2x8192x4096 ![0, 1, 2] bcast_S2x8192x1_S2x8192x4096_0_1_2 (Host.divf (F := Ideal) (broadcastInDim S2x8192x1 ![0, 1] bcast_S2x8192_S2x8192x1_0_1 (Host.reduceAdd (F := Ideal) (φ := .f32) (addf (mulf (broadcastInDim S2x8192x4096 ![] bcast_S_S2x8192x4096 (constant (F := Ideal) S_ .f32 0x3FB504F3#32)) x) (mulf (broadcastInDim S2x8192x4096 ![0, 1, 2] bcast_S2x1x4096_S2x8192x4096_0_1_2 b) (extf .f32 w bitsLt_bf16_f32))) (constant (F := Ideal) S_ .f32 0x00000000#32) reducesTo_S2x8192x4096_S2x8192_d2 h_S_)) (broadcastInDim S2x8192x1 ![] bcast_S_S2x8192x1 (constant (F := Ideal) S_ .f32 0x45800000#32)))))) (constant (F := Ideal) S_ .f32 0x00000000#32) reducesTo_S2x8192x4096_S2x8192_d2 h_S_)) (broadcastInDim S2x8192x1 ![] bcast_S_S2x8192x1 (constant (F := Ideal) S_ .f32 0x45800000#32))) (broadcastInDim S2x8192x1 ![] bcast_S_S2x8192x1 (constant (F := Ideal) S_ .f32 0x3727C5AC#32)))))) (broadcastInDim S2x8192x4096 ![0, 1, 2] bcast_S1x1x4096_S2x8192x4096_0_1_2 (broadcastInDim S1x1x4096 ![2] bcast_S4096_S1x1x4096_2 d))) (broadcastInDim S2x8192x4096 ![0, 1, 2] bcast_S1x1x4096_S2x8192x4096_0_1_2 (broadcastInDim S1x1x4096 ![2] bcast_S4096_S1x1x4096_2 e))) (broadcastInDim S2x8192x4096 ![0, 1, 2] bcast_S2x1x4096_S2x8192x4096_0_1_2 (addf (broadcastInDim S2x1x4096 ![] bcast_S_S2x1x4096 (constant (F := Ideal) S_ .f32 0x3F800000#32)) g))) (broadcastInDim S2x8192x4096 ![0, 1, 2] bcast_S2x1x4096_S2x8192x4096_0_1_2 f)) bitsLt_bf16_f32 = Cert.MidNormIdeal.Norm.out' x w b d e f g := by
  funext i
  idx_vars i
  pointwise [Cert.MidNormIdeal.Norm.out', Cert.MidNormIdeal.Norm.out, Cert.Norm.row, Cert.Norm.res]

end Cert.MidNormRefIdeal.Norm

namespace Cert.MidNormIdeal.Norm

/-- The reference's result is the same array. -/
theorem ref (m : (ℓ : Loc Cert.MidNormRefIdeal.nD Cert.MidNormRefIdeal.τ Cert.MidNormRefIdeal.sig) → Buf (Elt Ideal) ℓ) (ρ : Dev Cert.MidNormRefIdeal.nD → PrngReg) :
    θ_run (Cert.MidNormRefIdeal.defs (F := Ideal)) (onTc (τ := Cert.MidNormRefIdeal.τ) (Cert.MidNormRefIdeal.main (F := Ideal))) ⟨m, fun _ => 0, ρ⟩ fun r => ∀ c : Dev Cert.MidNormRefIdeal.nD,
      r.2.mem ((c.tc : Thread Cert.MidNormRefIdeal.nD Cert.MidNormRefIdeal.τ).loc Cert.MidNormRefIdeal.main_v29)
        = out (m ((c.tc : Thread Cert.MidNormRefIdeal.nD Cert.MidNormRefIdeal.τ).loc Cert.MidNormRefIdeal.main_arg0)) (m ((c.tc : Thread Cert.MidNormRefIdeal.nD Cert.MidNormRefIdeal.τ).loc Cert.MidNormRefIdeal.main_arg1)) (m ((c.tc : Thread Cert.MidNormRefIdeal.nD Cert.MidNormRefIdeal.τ).loc Cert.MidNormRefIdeal.main_arg2)) (m ((c.tc : Thread Cert.MidNormRefIdeal.nD Cert.MidNormRefIdeal.τ).loc Cert.MidNormRefIdeal.main_arg3)) (m ((c.tc : Thread Cert.MidNormRefIdeal.nD Cert.MidNormRefIdeal.τ).loc Cert.MidNormRefIdeal.main_arg4))
      ∧ r.2.mem ((c.tc : Thread Cert.MidNormRefIdeal.nD Cert.MidNormRefIdeal.τ).loc Cert.MidNormRefIdeal.main_v36)
        = out' (m ((c.tc : Thread Cert.MidNormRefIdeal.nD Cert.MidNormRefIdeal.τ).loc Cert.MidNormRefIdeal.main_arg0)) (m ((c.tc : Thread Cert.MidNormRefIdeal.nD Cert.MidNormRefIdeal.τ).loc Cert.MidNormRefIdeal.main_arg1)) (m ((c.tc : Thread Cert.MidNormRefIdeal.nD Cert.MidNormRefIdeal.τ).loc Cert.MidNormRefIdeal.main_arg2)) (m ((c.tc : Thread Cert.MidNormRefIdeal.nD Cert.MidNormRefIdeal.τ).loc Cert.MidNormRefIdeal.main_arg3)) (m ((c.tc : Thread Cert.MidNormRefIdeal.nD Cert.MidNormRefIdeal.τ).loc Cert.MidNormRefIdeal.main_arg4)) (m ((c.tc : Thread Cert.MidNormRefIdeal.nD Cert.MidNormRefIdeal.τ).loc Cert.MidNormRefIdeal.main_arg5)) (m ((c.tc : Thread Cert.MidNormRefIdeal.nD Cert.MidNormRefIdeal.τ).loc Cert.MidNormRefIdeal.main_arg6))
      ∧ r.2.mem ((c.tc : Thread Cert.MidNormRefIdeal.nD Cert.MidNormRefIdeal.τ).loc Cert.MidNormRefIdeal.main_arg0) = m ((c.tc : Thread Cert.MidNormRefIdeal.nD Cert.MidNormRefIdeal.τ).loc Cert.MidNormRefIdeal.main_arg0)
      ∧ r.2.mem ((c.tc : Thread Cert.MidNormRefIdeal.nD Cert.MidNormRefIdeal.τ).loc Cert.MidNormRefIdeal.main_arg1) = m ((c.tc : Thread Cert.MidNormRefIdeal.nD Cert.MidNormRefIdeal.τ).loc Cert.MidNormRefIdeal.main_arg1)
      ∧ r.2.mem ((c.tc : Thread Cert.MidNormRefIdeal.nD Cert.MidNormRefIdeal.τ).loc Cert.MidNormRefIdeal.main_arg2) = m ((c.tc : Thread Cert.MidNormRefIdeal.nD Cert.MidNormRefIdeal.τ).loc Cert.MidNormRefIdeal.main_arg2)
      ∧ r.2.mem ((c.tc : Thread Cert.MidNormRefIdeal.nD Cert.MidNormRefIdeal.τ).loc Cert.MidNormRefIdeal.main_arg3) = m ((c.tc : Thread Cert.MidNormRefIdeal.nD Cert.MidNormRefIdeal.τ).loc Cert.MidNormRefIdeal.main_arg3)
      ∧ r.2.mem ((c.tc : Thread Cert.MidNormRefIdeal.nD Cert.MidNormRefIdeal.τ).loc Cert.MidNormRefIdeal.main_arg4) = m ((c.tc : Thread Cert.MidNormRefIdeal.nD Cert.MidNormRefIdeal.τ).loc Cert.MidNormRefIdeal.main_arg4)
      ∧ r.2.mem ((c.tc : Thread Cert.MidNormRefIdeal.nD Cert.MidNormRefIdeal.τ).loc Cert.MidNormRefIdeal.main_arg5) = m ((c.tc : Thread Cert.MidNormRefIdeal.nD Cert.MidNormRefIdeal.τ).loc Cert.MidNormRefIdeal.main_arg5)
      ∧ r.2.mem ((c.tc : Thread Cert.MidNormRefIdeal.nD Cert.MidNormRefIdeal.τ).loc Cert.MidNormRefIdeal.main_arg6) = m ((c.tc : Thread Cert.MidNormRefIdeal.nD Cert.MidNormRefIdeal.τ).loc Cert.MidNormRefIdeal.main_arg6) :=
  (θ_run _ _ _).mono (fun _ h c => ⟨(h c).1.trans (Cert.MidNormRefIdeal.Norm.ref_eq _ _ _ _ _), (h c).2.1.trans (Cert.MidNormRefIdeal.Norm.ref_eq' _ _ _ _ _ _ _), (h c).2.2⟩) (Cert.MidNormRefIdeal.Value.run m ρ)

/-- The reference runs and leaves its arguments and every counter as they were. -/
theorem refFrame : Cert.quiescent_MidNormRefIdeal := fun m ρ _ =>
  (θ_run _ _ _).mono (fun _ h => ⟨fun c => (h c).2.2, funext fun ⟨_, s⟩ => by cases s <;> exact Fin.elim0 ‹_›⟩) (ref m ρ)

/-- The kernel and the reference compute the same array. -/
theorem algebraic : Cert.algebraic_MidNormIdeal_MidNormRefIdeal := fun m ρ m' ρ' _ hag =>
  ⟨fun c => out (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)) (m ((c.tc : Thread Cert.MidNormIdeal.nD Cert.MidNormIdeal.τ).loc Cert.MidNormIdeal.main_arg4)), fun c => out' (m ((c.tc : Thread Cert.MidNormIdeal.nD Cert.MidNormIdeal.τ).loc Cert.MidNormIdeal.main_arg0)) (m ((c.tc : Thread Cert.MidNormIdeal.nD Cert.MidNormIdeal.τ).loc Cert.MidNormIdeal.main_arg1)) (m ((c.tc : Thread Cert.MidNormIdeal.nD Cert.MidNormIdeal.τ).loc Cert.MidNormIdeal.main_arg2)) (m ((c.tc : Thread Cert.MidNormIdeal.nD Cert.MidNormIdeal.τ).loc Cert.MidNormIdeal.main_arg3)) (m ((c.tc : Thread Cert.MidNormIdeal.nD Cert.MidNormIdeal.τ).loc Cert.MidNormIdeal.main_arg4)) (m ((c.tc : Thread Cert.MidNormIdeal.nD Cert.MidNormIdeal.τ).loc Cert.MidNormIdeal.main_arg5)) (m ((c.tc : Thread Cert.MidNormIdeal.nD Cert.MidNormIdeal.τ).loc Cert.MidNormIdeal.main_arg6)),
    (θ_run _ _ _).mono (fun _ h c => ⟨(h c).1.trans (final m c), (h c).2.1.trans (final' m c), (h c).2.2⟩) (Cert.MidNormIdeal.Value.run_blocks m ρ),
    (θ_run _ _ _).mono (fun _ h c => ⟨(h c).1.trans (by rw [(hag c).1, (hag c).2.1, (hag c).2.2.1, (hag c).2.2.2.1, (hag c).2.2.2.2.1]), (h c).2.1.trans (by rw [(hag c).1, (hag c).2.1, (hag c).2.2.1, (hag c).2.2.2.1, (hag c).2.2.2.2.1, (hag c).2.2.2.2.2.1, (hag c).2.2.2.2.2.2]), (h c).2.2⟩) (ref m' ρ')⟩

end Cert.MidNormIdeal.Norm
-- ==== Proof.FfnUpValue.lean ====
module

public import proofs.«01_k».proof.Proof.Gen.FfnUpIdeal.Value
public import Idealize.ShloMosaic.Lib.Pipeline.ValueKit
public import Idealize.ShloMosaic.Lib.Pointwise

@[expose] public section

set_option maxRecDepth 16384

noncomputable section

namespace Cert.FfnUpIdeal.Up

open Cert.FfnUpIdeal Cert.FfnUpIdeal.Gen Idealize.ShloMosaic Idealize.ShloMosaic.TcCoe Idealize.SL.Sem
open Idealize.ShloMosaic.Pipeline (Dat)

variable (m : (ℓ : Loc nD τ sig) → Buf (Elt Ideal) ℓ)

/-- Row `r` of the tokens against column `j` of the weights' gate half (`o = 0`) or value half (`o = 11008`); zero past
    the half's last column. -/
def half (x : Vec Ideal S2x8192x4096 .bf16) (w : Vec Ideal S4096x22016 .f32) (o : ℕ) (ho : o ≤ 11008) (r : Fin 16384) (j : ℕ) : EReal :=
  if h : j < 11008 then ∑ k : Fin 4096, x (ix3 ⟨r.val / 8192, by omega⟩ ⟨r.val % 8192, by omega⟩ k) * w (ix2 k ⟨o + j, by omega⟩) else 0

/-- The up projection at one entry. -/
def out (x : Vec Ideal S2x8192x4096 .bf16) (w : Vec Ideal S4096x22016 .f32) : Vec Ideal S16384x22528 .bf16 := fun i =>
  if (i 1).val < 11264 then half x w 0 (by omega) (i 0) (i 1).val else half x w 11008 (by omega) (i 0) ((i 1).val - 11264)

/-- The padded weights at one entry. -/
def wide (w : Vec Ideal S4096x22016 .f32) (k : Fin 4096) (j : ℕ) : EReal :=
  if j < 11264 then (if h : j < 11008 then w (ix2 k ⟨j, by omega⟩) else 0)
  else (if h : j - 11264 < 11008 then w (ix2 k ⟨11008 + (j - 11264), by omega⟩) else 0)

/-- The projection is the product with the padded weights. -/
theorem out_wide (x : Vec Ideal S2x8192x4096 .bf16) (w : Vec Ideal S4096x22016 .f32) (i : S16384x22528.Idx) :
    out x w i = ∑ k : Fin 4096, x (ix3 ⟨(i 0).val / 8192, by have := (i 0).isLt; change (i 0).val < 16384 at this; omega⟩ ⟨(i 0).val % 8192, Nat.mod_lt _ (by decide)⟩ k) * wide w k (i 1).val := by
  unfold out half wide
  split_ifs
  · simp only [Nat.zero_add]
  · simp only [mul_zero, Finset.sum_const_zero]
  · rfl
  · simp only [mul_zero, Finset.sum_const_zero]

theorem idx : ∀ t : Fin cfg0.N, win0_0.index t = ![t.val / 22, 0] ∧ win0_1.index t = ![0, t.val % 22]
    ∧ win0_2.index t = ![0, t.val % 22] ∧ win0_3.index t = ![t.val / 22, t.val % 22] :=
  (by decide +kernel : ∀ t : Fin grid0.N, _)

theorem tokens_eq (c : Dev nD) (r : Fin 16384) (k : Fin 4096) (a : Fin 2) (b : Fin 8192) (h : r.val = a.val * 8192 + b.val) :
    V m c main_v6 (ix2 r k) = m ((c : Thread nD τ).loc main_arg0) (ix3 a b k) := by
  unfold V
  simp only [hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results
  pointwise
  blk_ext

theorem weights_eq (c : Dev nD) (k : Fin 4096) (j : Fin 22528) :
    V m c main_v5 (ix2 k j) = wide (m ((c : Thread nD τ).loc main_arg1)) k j.val := by
  unfold V
  simp only [hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results
  pointwise [wide]
  have hz : FloatOps.sitofp (F := Ideal) FTy.bf16 (0#32) = (0 : EReal) := by
    show (((0#32 : BitVec 32).toInt : ℝ) : EReal) = 0
    simp
  split_ifs <;> first | rfl | exact hz

theorem bias_eq (c : Dev nD) (j : Fin 22528) : V m c main_v8 (ix2 0 j) = (0 : EReal) := by
  unfold V
  simp only [hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results
  pointwise

theorem blk0 (c : Dev nD) (t : Fin cfg0.N) (y : Fin 1024) (k : Fin 4096) (a : Fin 2) (b : Fin 8192)
    (h : t.val / 22 * 1024 + y.val = a.val * 8192 + b.val) :
    iblk m c 0 t (ix2 y k) = m ((c : Thread nD τ).loc main_arg0) (ix3 a b k) := by
  rw [← tokens_eq m c ⟨t.val / 22 * 1024 + y.val, by omega⟩ k a b h]
  blk_ext [iblk, idx t]

theorem blk1 (c : Dev nD) (t : Fin cfg0.N) (k : Fin 4096) (y : Fin 1024) :
    iblk m c 1 t (ix2 k y) = wide (m ((c : Thread nD τ).loc main_arg1)) k (t.val % 22 * 1024 + y.val) := by
  rw [← weights_eq m c k ⟨t.val % 22 * 1024 + y.val, by omega⟩]
  blk_ext [iblk, idx t]

theorem blk2 (c : Dev nD) (t : Fin cfg0.N) (y : Fin 1024) :
    iblk m c 2 t (ix2 0 y) = (0 : EReal) := by
  rw [← bias_eq m c ⟨t.val % 22 * 1024 + y.val, by omega⟩]
  blk_ext [iblk, idx t]

theorem final (c : Dev nD) : (dats m 0 c).arrAt 3 cfg0.N
    = out (m ((c : Thread nD τ).loc main_arg0)) (m ((c : Thread nD τ).loc main_arg1)) := by
  refine (dats m 0 c).arrAt_eq_of_covers 3 _ (by decide +kernel) fun t hf y => ?_
  blk_simp
  rw [after0_3]
  unfold outsAt0 out0_A_3
  frame_out
  idx_vars y
  pointwise [k0_pay1]
  have e0 : ((((View.whole main_v9).slice (win0_3.rect t)).emb (ix2 y0 y1)) 0).val = t.val / 22 * 1024 + y0.val := by
    blk_simp [idx t]
  have e1 : ((((View.whole main_v9).slice (win0_3.rect t)).emb (ix2 y0 y1)) 1).val = t.val % 22 * 1024 + y1.val := by
    blk_simp [idx t]
  generalize ((View.whole main_v9).slice (win0_3.rect t)).emb (ix2 y0 y1) = i at e0 e1 ⊢
  have h0 : (i 0).val < 16384 := (i 0).isLt
  rw [out_wide]
  refine (congrArg₂ (· + ·) rfl (blk2 m c t y1)).trans ((add_zero (_ : EReal)).trans ?_)
  refine Finset.sum_congr rfl fun k _ => congrArg₂ (· * ·) (blk0 m c t y0 k _ _ ?_) ((blk1 m c t k y1).trans (by rw [e1]))
  dsimp only
  rw [e0]
  omega

end Cert.FfnUpIdeal.Up
-- ==== Proof.FfnUpClaim.lean ====
module

public import proofs.«01_k».proof.Defs
public import proofs.«01_k».proof.Proof.Gen.FfnUpRefIdeal.Run
public import proofs.«01_k».proof.Proof.FfnUpValue

@[expose] public section

set_option maxRecDepth 16384

noncomputable section

open Idealize.ShloMosaic Idealize.ShloMosaic.TcCoe Idealize.SL.Sem

namespace Cert.FfnUpRefIdeal.Up

open Cert.FfnUpRefIdeal.Gen

/-- The reference's operations composed, entry by entry. -/
theorem ref_eq (x : Vec Ideal Cert.FfnUpRefIdeal.S2x8192x4096 .bf16) (w : Vec Ideal Cert.FfnUpRefIdeal.S4096x22016 .f32) :
    truncf (F := Ideal) .bf16 (concatenate S16384x22528 1 [⟨S16384x11264, (pad S16384x11264 ![0, 0] ![0, 256] ![0, 0] (extractStridedSlice S16384x11008 ![0, 0] (Host.dotGeneral (F := Ideal) (φ₁ := .f32) (φ₂ := .f32) dot_S16384x4096_S4096x22016_S16384x22016_1_0_0_1_n_n none (extf .f32 (shapeCast _ x shapeCasts_S2x8192x4096_S16384x4096) bitsLt_bf16_f32) w) slices_S16384x22016_S16384x11008_0_0) (sitofp .f32 (constantI S_ 32 0#32)) pads_S16384x11008_S16384x11264_000_02560 h_S_)⟩, ⟨S16384x11264, (pad S16384x11264 ![0, 0] ![0, 256] ![0, 0] (extractStridedSlice S16384x11008 ![0, 11008] (Host.dotGeneral (F := Ideal) (φ₁ := .f32) (φ₂ := .f32) dot_S16384x4096_S4096x22016_S16384x22016_1_0_0_1_n_n none (extf .f32 (shapeCast _ x shapeCasts_S2x8192x4096_S16384x4096) bitsLt_bf16_f32) w) slices_S16384x22016_S16384x11008_0_11008) (sitofp .f32 (constantI S_ 32 0#32)) pads_S16384x11008_S16384x11264_000_02560 h_S_)⟩] concatenates_S16384x11264_S16384x11264_S16384x22528_d1) bitsLt_bf16_f32 = Cert.FfnUpIdeal.Up.out x w := by
  funext i
  idx_vars i
  pointwise [Cert.FfnUpIdeal.Up.out, Cert.FfnUpIdeal.Up.half]
  have hz : FloatOps.sitofp (F := Ideal) FTy.f32 (0#32) = (0 : EReal) := by
    show (((0#32 : BitVec 32).toInt : ℝ) : EReal) = 0
    simp
  split_ifs <;> first | rfl | exact hz

end Cert.FfnUpRefIdeal.Up

namespace Cert.FfnUpIdeal.Up

/-- The reference's result is the same array. -/
theorem ref (m : (ℓ : Loc Cert.FfnUpRefIdeal.nD Cert.FfnUpRefIdeal.τ Cert.FfnUpRefIdeal.sig) → Buf (Elt Ideal) ℓ) (ρ : Dev Cert.FfnUpRefIdeal.nD → PrngReg) :
    θ_run (Cert.FfnUpRefIdeal.defs (F := Ideal)) (onTc (τ := Cert.FfnUpRefIdeal.τ) (Cert.FfnUpRefIdeal.main (F := Ideal))) ⟨m, fun _ => 0, ρ⟩ fun r => ∀ c : Dev Cert.FfnUpRefIdeal.nD,
      r.2.mem ((c.tc : Thread Cert.FfnUpRefIdeal.nD Cert.FfnUpRefIdeal.τ).loc Cert.FfnUpRefIdeal.main_v8)
        = out (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1))
      ∧ r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1) :=
  (θ_run _ _ _).mono (fun _ h c => ⟨(h c).1.trans (Cert.FfnUpRefIdeal.Up.ref_eq _ _), (h c).2⟩) (Cert.FfnUpRefIdeal.Value.run m ρ)

/-- The reference runs and leaves its arguments and every counter as they were. -/
theorem refFrame : Cert.quiescent_FfnUpRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_FfnUpIdeal_FfnUpRefIdeal := fun m ρ m' ρ' _ hag =>
  ⟨fun c => out (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)),
    (θ_run _ _ _).mono (fun _ h c => ⟨(h c).1.trans (final m c), (h c).2⟩) (Cert.FfnUpIdeal.Value.run_blocks m ρ),
    (θ_run _ _ _).mono (fun _ h c => ⟨(h c).1.trans (by rw [(hag c).1, (hag c).2]), (h c).2⟩) (ref m' ρ')⟩

end Cert.FfnUpIdeal.Up
-- ==== Proof.FfnDownValue.lean ====
module

public import proofs.«01_k».proof.Proof.Gen.FfnDownIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnDownIdeal.Down

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ)

/-- The down projection at one entry. -/
def out (x : Vec Ideal S2x8192x11264 .bf16) (w : Vec Ideal S11008x4096 .f32) : Vec Ideal S16384x4096 .bf16 := fun i =>
  ∑ k : Fin 11008, x (ix3 ⟨(i 0).val / 8192, by have := (i 0).isLt; change (i 0).val < 16384 at this; omega⟩ ⟨(i 0).val % 8192, Nat.mod_lt _ (by decide)⟩ ⟨k.val, by omega⟩) * w (ix2 k (i 1))

/-- The weights with zero rows up to 11264, at one entry. -/
def tall (w : Vec Ideal S11008x4096 .f32) (k : ℕ) (j : Fin 4096) : EReal :=
  if h : k < 11008 then w (ix2 ⟨k, h⟩ j) else 0

/-- The zero rows add nothing. -/
theorem out_tall (x : Vec Ideal S2x8192x11264 .bf16) (w : Vec Ideal S11008x4096 .f32) (i : S16384x4096.Idx) :
    out x w i = ∑ k : Fin 11264, x (ix3 ⟨(i 0).val / 8192, by have := (i 0).isLt; change (i 0).val < 16384 at this; omega⟩ ⟨(i 0).val % 8192, Nat.mod_lt _ (by decide)⟩ k) * tall w k.val (i 1) := by
  have e := Fin.sum_univ_add (M := EReal) (a := 11008) (b := 256) fun k => x (ix3 ⟨(i 0).val / 8192, by have := (i 0).isLt; change (i 0).val < 16384 at this; omega⟩ ⟨(i 0).val % 8192, Nat.mod_lt _ (by decide)⟩ k) * tall w k.val (i 1)
  refine Eq.trans ?_ e.symm
  unfold out
  rw [Finset.sum_eq_zero (s := (Finset.univ : Finset (Fin 256))), add_zero]
  · refine Finset.sum_congr rfl fun k _ => congrArg₂ (· * ·) rfl ?_
    unfold tall
    rw [dif_pos (show (Fin.castAdd 256 k).val < 11008 from k.isLt)]
    rfl
  · intro k _
    unfold tall
    rw [dif_neg (show ¬ (Fin.natAdd 11008 k).val < 11008 by simp), mul_zero]

theorem idx : ∀ t : Fin cfg0.N, win0_0.index t = ![t.val / 16, t.val % 4] ∧ win0_1.index t = ![t.val % 4, t.val / 4 % 4]
    ∧ win0_2.index t = ![0, t.val / 4 % 4] ∧ win0_3.index t = ![t.val / 16, t.val / 4 % 4] :=
  (by decide +kernel : ∀ t : Fin grid0.N, _)

theorem tokens_eq (c : Dev nD) (r : Fin 16384) (k : Fin 11264) (a : Fin 2) (b : Fin 8192) (h : r.val = a.val * 8192 + b.val) :
    V m c main_v2 (ix2 r k) = m ((c : Thread nD τ).loc main_arg0) (ix3 a b k) := by
  unfold V
  simp only [hostOps0, hostOps0_1, hostOps0_2, List.flatten_cons, List.flatten_nil, List.append_nil,
    List.cons_append, List.nil_append, StableHlo.TRef.binary, StableHlo.TRef.unary, StableHlo.TRef.toBuf, StableHlo.TRef.ofBuf, cast_eq]
  after_results
  pointwise
  blk_ext

theorem weights_eq (c : Dev nD) (k : Fin 11264) (j : Fin 4096) :
    V m c main_v1 (ix2 k j) = tall (m ((c : Thread nD τ).loc main_arg1)) k.val j := by
  unfold V
  simp only [hostOps0, hostOps0_1, hostOps0_2, List.flatten_cons, List.flatten_nil, List.append_nil,
    List.cons_append, List.nil_append, StableHlo.TRef.binary, StableHlo.TRef.unary, StableHlo.TRef.toBuf, StableHlo.TRef.ofBuf, cast_eq]
  after_results
  pointwise [tall]
  have hz : FloatOps.sitofp (F := Ideal) FTy.bf16 (0#32) = (0 : EReal) := by
    show (((0#32 : BitVec 32).toInt : ℝ) : EReal) = 0
    simp
  split_ifs <;> first | rfl | exact hz

theorem bias_eq (c : Dev nD) (j : Fin 4096) : V m c main_v4 (ix2 0 j) = (0 : EReal) := by
  unfold V
  simp only [hostOps0, hostOps0_1, hostOps0_2, List.flatten_cons, List.flatten_nil, List.append_nil,
    List.cons_append, List.nil_append, StableHlo.TRef.binary, StableHlo.TRef.unary, StableHlo.TRef.toBuf, StableHlo.TRef.ofBuf, cast_eq]
  after_results
  pointwise

theorem blk0 (c : Dev nD) (t : Fin cfg0.N) (y : Fin 1024) (k : Fin 2816) (a : Fin 2) (b : Fin 8192) (l : Fin 11264)
    (h : t.val / 16 * 1024 + y.val = a.val * 8192 + b.val) (hl : t.val % 4 * 2816 + k.val = l.val) :
    iblk m c 0 t (ix2 y k) = m ((c : Thread nD τ).loc main_arg0) (ix3 a b l) := by
  rw [← tokens_eq m c ⟨t.val / 16 * 1024 + y.val, by omega⟩ l a b h]
  blk_ext [iblk, idx t]

theorem blk1 (c : Dev nD) (t : Fin cfg0.N) (k : Fin 2816) (y : Fin 1024) (j : Fin 4096) (h : t.val / 4 % 4 * 1024 + y.val = j.val) :
    iblk m c 1 t (ix2 k y) = tall (m ((c : Thread nD τ).loc main_arg1)) (t.val % 4 * 2816 + k.val) j := by
  rw [← weights_eq m c ⟨t.val % 4 * 2816 + k.val, by omega⟩]
  blk_ext [iblk, idx t]

theorem blk2 (c : Dev nD) (t : Fin cfg0.N) (y : Fin 1024) :
    iblk m c 2 t (ix2 0 y) = (0 : EReal) := by
  rw [← bias_eq m c ⟨t.val / 4 % 4 * 1024 + y.val, by omega⟩]
  blk_ext [iblk, idx t]

/-- The product of two blocks at an entry. -/
def prod (x : Vec Ideal S1024x2816 .bf16) (w : Vec Ideal S2816x1024 .bf16) (i : S1024x1024.Idx) : EReal :=
  ∑ k : Fin 2816, x (ix2 (i 0) k) * w (ix2 k (i 1))

/-- One step's product at an entry of its block. -/
def part (c : Dev nD) (t : Fin cfg0.N) (i : S1024x1024.Idx) : EReal := prod (iblk m c 0 t) (iblk m c 1 t) i

/-- The accumulator when a block is written back. -/
theorem acc_eq (c : Dev nD) (t : Fin cfg0.N) (ht : t.val % 4 = 3) (i : S1024x1024.Idx) :
    ((outsAt0 m c t.val t.isLt).2 i : EReal)
      = 0 + ∑ s : Fin 4, part m c ⟨4 * (t.val / 4) + s.val, Pipeline.run_point_lt_of_flush t ht s⟩ i := by
  refine Pipeline.eq_sum_fin_of_reset_step_apply_of_flush (M := EReal) (fun n h i => (outsAt0 m c n h).2 i) 4 (fun _ => 0) (part m c) (fun t h i => ?_) (fun t h i => ?_) t ht i
  · rw [outsAt0_A m c t h (by omega) (by omega)]
    frame_out
    idx_vars i
    pointwise [k0_pay2, k0_pay1, part, prod]
  · by_cases h3 : t.val % 4 = 3
    · rw [outsAt0_C m c t h (by omega) h3]
      frame_out
      simp only [read_unread_whole]
      idx_vars i
      pointwise [k0_pay3, k0_pay1, part, prod]
    · rw [outsAt0_B m c t h (by omega) h3]
      frame_out
      simp only [read_unread_whole]
      idx_vars i
      pointwise [k0_pay3, k0_pay1, part, prod]

theorem final (c : Dev nD) : (dats m 0 c).arrAt 3 cfg0.N
    = out (m ((c : Thread nD τ).loc main_arg0)) (m ((c : Thread nD τ).loc main_arg1)) := by
  refine (dats m 0 c).arrAt_eq_of_covers 3 _ (by decide +kernel) fun t hf y => ?_
  have ht := (flush0_3 t).mp hf
  blk_simp
  rw [after0_3]
  have hy : ((outsAt0 m c t.val t.isLt).1 y : EReal) = (outsAt0 m c t.val t.isLt).2 y := by
    rw [outsAt0_C m c t (by omega) (by omega) ht]
    frame_out
    idx_vars y
    pointwise [k0_pay4]
    refine (congrArg₂ (· + ·) rfl (blk2 m c t y1)).trans (add_zero (_ : EReal))
  have e0 : ((((View.whole main_v5).slice (win0_3.rect t)).emb y) 0).val = t.val / 16 * 1024 + (y 0).val := by
    blk_simp [idx t]
  have e1 : ((((View.whole main_v5).slice (win0_3.rect t)).emb y) 1).val = t.val / 4 % 4 * 1024 + (y 1).val := by
    blk_simp [idx t]
  refine hy.trans ?_
  generalize ((View.whole main_v5).slice (win0_3.rect t)).emb y = i at e0 e1 ⊢
  have h0 : (i 0).val < 16384 := (i 0).isLt
  rw [acc_eq m c t ht y, out_tall]
  refine (zero_add (_ : EReal)).trans ?_
  refine Fin.sum_mul_add_congr fun s k hl => ?_
  have hN : t.val < 256 := lt_of_lt_of_eq t.isLt N_0
  have q : (4 * (t.val / 4) + s.val) % 4 = s.val := by omega
  refine congrArg₂ (· * ·) (blk0 m c _ (y 0) k _ _ _ ?_ ?_) ((blk1 m c _ k (y 1) (i 1) ?_).trans ?_)
  · dsimp only
    rw [e0]
    omega
  · dsimp only
    rw [q]
  · dsimp only
    rw [e1]
    omega
  · dsimp only
    rw [q]

end Cert.FfnDownIdeal.Down
-- ==== Proof.FfnDownClaim.lean ====
module

public import proofs.«01_k».proof.Defs
public import proofs.«01_k».proof.Proof.Gen.FfnDownRefIdeal.Run
public import proofs.«01_k».proof.Proof.FfnDownValue

@[expose] public section

set_option maxRecDepth 16384

noncomputable section

open Idealize.ShloMosaic Idealize.ShloMosaic.TcCoe Idealize.SL.Sem

namespace Cert.FfnDownRefIdeal.Down

open Cert.FfnDownRefIdeal.Gen

/-- The reference's operations composed, entry by entry. -/
theorem ref_eq (x : Vec Ideal Cert.FfnDownRefIdeal.S2x8192x11264 .bf16) (w : Vec Ideal Cert.FfnDownRefIdeal.S11008x4096 .f32) :
    truncf (F := Ideal) .bf16 (Host.dotGeneral (F := Ideal) (φ₁ := .f32) (φ₂ := .f32) dot_S16384x11008_S11008x4096_S16384x4096_1_0_0_1_n_n none (extractStridedSlice S16384x11008 ![0, 0] (extf .f32 (shapeCast _ x shapeCasts_S2x8192x11264_S16384x11264) bitsLt_bf16_f32) slices_S16384x11264_S16384x11008_0_0) w) bitsLt_bf16_f32 = Cert.FfnDownIdeal.Down.out x w := by
  funext i
  idx_vars i
  pointwise [Cert.FfnDownIdeal.Down.out]

end Cert.FfnDownRefIdeal.Down

namespace Cert.FfnDownIdeal.Down

/-- The reference's result is the same array. -/
theorem ref (m : (ℓ : Loc Cert.FfnDownRefIdeal.nD Cert.FfnDownRefIdeal.τ Cert.FfnDownRefIdeal.sig) → Buf (Elt Ideal) ℓ) (ρ : Dev Cert.FfnDownRefIdeal.nD → PrngReg) :
    θ_run (Cert.FfnDownRefIdeal.defs (F := Ideal)) (onTc (τ := Cert.FfnDownRefIdeal.τ) (Cert.FfnDownRefIdeal.main (F := Ideal))) ⟨m, fun _ => 0, ρ⟩ fun r => ∀ c : Dev Cert.FfnDownRefIdeal.nD,
      r.2.mem ((c.tc : Thread Cert.FfnDownRefIdeal.nD Cert.FfnDownRefIdeal.τ).loc Cert.FfnDownRefIdeal.main_v4)
        = out (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1))
      ∧ r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1) :=
  (θ_run _ _ _).mono (fun _ h c => ⟨(h c).1.trans (Cert.FfnDownRefIdeal.Down.ref_eq _ _), (h c).2⟩) (Cert.FfnDownRefIdeal.Value.run m ρ)

/-- The reference runs and leaves its arguments and every counter as they were. -/
theorem refFrame : Cert.quiescent_FfnDownRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_FfnDownIdeal_FfnDownRefIdeal := fun m ρ m' ρ' _ hag =>
  ⟨fun c => out (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)),
    (θ_run _ _ _).mono (fun _ h c => ⟨(h c).1.trans (final m c), (h c).2⟩) (Cert.FfnDownIdeal.Value.run_blocks m ρ),
    (θ_run _ _ _).mono (fun _ h c => ⟨(h c).1.trans (by rw [(hag c).1, (hag c).2]), (h c).2⟩) (ref m' ρ')⟩

end Cert.FfnDownIdeal.Down
-- ==== Proof.HyInValue.lean ====
module

public import proofs.«01_k».proof.Proof.Gen.HyInIdeal.Value
public import Idealize.ShloMosaic.Lib.Pipeline.ValueKit
public import Idealize.ShloMosaic.Lib.Pointwise

@[expose] public section

set_option maxRecDepth 16384

noncomputable section

namespace Cert.HyInIdeal.Proj

open Cert.HyInIdeal Cert.HyInIdeal.Gen Idealize.ShloMosaic Idealize.ShloMosaic.TcCoe Idealize.SL.Sem
open Idealize.ShloMosaic.Pipeline (Dat)

variable (m : (ℓ : Loc nD τ sig) → Buf (Elt Ideal) ℓ)

/-- The projection at one entry. -/
def out (x : Vec Ideal S2x8192x4096 .bf16) (w : Vec Ideal S4096x12288 .f32) (b : Vec Ideal S12288 .f32) : Vec Ideal S16384x12288 .bf16 := fun i =>
  (∑ k : Fin 4096, x (ix3 ⟨(i 0).val / 8192, by have := (i 0).isLt; change (i 0).val < 16384 at this; omega⟩ ⟨(i 0).val % 8192, Nat.mod_lt _ (by decide)⟩ k) * w (ix2 k (i 1))) + b (ix1 (i 1))

theorem idx : ∀ t : Fin cfg0.N, win0_0.index t = ![t.val / 12, 0] ∧ win0_1.index t = ![0, t.val % 12]
    ∧ win0_2.index t = ![0, t.val % 12] ∧ win0_3.index t = ![t.val / 12, t.val % 12] :=
  (by decide +kernel : ∀ t : Fin grid0.N, _)

theorem blk0 (c : Dev nD) (t : Fin cfg0.N) (y : Fin 1024) (k : Fin 4096) (a : Fin 2) (b : Fin 8192)
    (h : t.val / 12 * 1024 + y.val = a.val * 8192 + b.val) :
    iblk m c 0 t (ix2 y k) = m ((c : Thread nD τ).loc main_arg0) (ix3 a b k) := by
  blk_simp [iblk, idx t]
  entry_read
  pointwise
  blk_ext [idx t]

theorem blk1 (c : Dev nD) (t : Fin cfg0.N) (k : Fin 4096) (y : Fin 1024) (b : Fin 12288)
    (h : t.val % 12 * 1024 + y.val = b.val) :
    iblk m c 1 t (ix2 k y) = m ((c : Thread nD τ).loc main_arg1) (ix2 k b) := by
  blk_simp [iblk, idx t]
  entry_read
  pointwise
  blk_ext [idx t]

theorem blk2 (c : Dev nD) (t : Fin cfg0.N) (y : Fin 1024) (b : Fin 12288)
    (h : t.val % 12 * 1024 + y.val = b.val) :
    iblk m c 2 t (ix2 0 y) = m ((c : Thread nD τ).loc main_arg2) (ix1 b) := by
  blk_simp [iblk, idx t]
  entry_read
  pointwise
  blk_ext [idx t]

theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0 out0_A_3
  frame_out
  idx_vars y
  pointwise [k0_pay1, out]
  have e0 : ((((View.whole main_v3).slice (win0_3.rect t)).emb (ix2 y0 y1)) 0).val = t.val / 12 * 1024 + y0.val := by
    blk_simp [idx t]
  have e1 : ((((View.whole main_v3).slice (win0_3.rect t)).emb (ix2 y0 y1)) 1).val = t.val % 12 * 1024 + y1.val := by
    blk_simp [idx t]
  generalize ((View.whole main_v3).slice (win0_3.rect t)).emb (ix2 y0 y1) = i at e0 e1 ⊢
  refine congrArg₂ (· + ·) (Finset.sum_congr rfl fun k _ => congrArg₂ (· * ·) (blk0 m c t y0 k _ _ ?_) (blk1 m c t k y1 _ e1.symm)) (blk2 m c t y1 _ e1.symm)
  dsimp only
  rw [e0]
  omega

end Cert.HyInIdeal.Proj
-- ==== Proof.HyInClaim.lean ====
module

public import proofs.«01_k».proof.Defs
public import proofs.«01_k».proof.Proof.Gen.HyInRefIdeal.Run
public import proofs.«01_k».proof.Proof.HyInValue

@[expose] public section

set_option maxRecDepth 16384

noncomputable section

open Idealize.ShloMosaic Idealize.ShloMosaic.TcCoe Idealize.SL.Sem

namespace Cert.HyInRefIdeal.Proj

open Cert.HyInRefIdeal.Gen

/-- The reference's operations composed, entry by entry. -/
theorem ref_eq (x : Vec Ideal Cert.HyInRefIdeal.S2x8192x4096 .bf16) (w : Vec Ideal Cert.HyInRefIdeal.S4096x12288 .f32) (b : Vec Ideal Cert.HyInRefIdeal.S12288 .f32) :
    truncf (F := Ideal) .bf16 (addf (Host.dotGeneral (F := Ideal) (φ₁ := .f32) (φ₂ := .f32) dot_S16384x4096_S4096x12288_S16384x12288_1_0_0_1_n_n none (extf .f32 (shapeCast _ x shapeCasts_S2x8192x4096_S16384x4096) bitsLt_bf16_f32) w) (broadcastInDim S16384x12288 ![0, 1] bcast_S1x12288_S16384x12288_0_1 (broadcastInDim S1x12288 ![1] bcast_S12288_S1x12288_1 b))) bitsLt_bf16_f32 = Cert.HyInIdeal.Proj.out x w b := by
  funext i
  idx_vars i
  pointwise [Cert.HyInIdeal.Proj.out]

end Cert.HyInRefIdeal.Proj

namespace Cert.HyInIdeal.Proj

/-- The reference's result is the same array. -/
theorem ref (m : (ℓ : Loc Cert.HyInRefIdeal.nD Cert.HyInRefIdeal.τ Cert.HyInRefIdeal.sig) → Buf (Elt Ideal) ℓ) (ρ : Dev Cert.HyInRefIdeal.nD → PrngReg) :
    θ_run (Cert.HyInRefIdeal.defs (F := Ideal)) (onTc (τ := Cert.HyInRefIdeal.τ) (Cert.HyInRefIdeal.main (F := Ideal))) ⟨m, fun _ => 0, ρ⟩ fun r => ∀ c : Dev Cert.HyInRefIdeal.nD,
      r.2.mem ((c.tc : Thread Cert.HyInRefIdeal.nD Cert.HyInRefIdeal.τ).loc Cert.HyInRefIdeal.main_v6)
        = out (m ((c.tc : Thread Cert.HyInRefIdeal.nD Cert.HyInRefIdeal.τ).loc Cert.HyInRefIdeal.main_arg0)) (m ((c.tc : Thread Cert.HyInRefIdeal.nD Cert.HyInRefIdeal.τ).loc Cert.HyInRefIdeal.main_arg1)) (m ((c.tc : Thread Cert.HyInRefIdeal.nD Cert.HyInRefIdeal.τ).loc Cert.HyInRefIdeal.main_arg2))
      ∧ r.2.mem ((c.tc : Thread Cert.HyInRefIdeal.nD Cert.HyInRefIdeal.τ).loc Cert.HyInRefIdeal.main_arg0) = m ((c.tc : Thread Cert.HyInRefIdeal.nD Cert.HyInRefIdeal.τ).loc Cert.HyInRefIdeal.main_arg0)
      ∧ r.2.mem ((c.tc : Thread Cert.HyInRefIdeal.nD Cert.HyInRefIdeal.τ).loc Cert.HyInRefIdeal.main_arg1) = m ((c.tc : Thread Cert.HyInRefIdeal.nD Cert.HyInRefIdeal.τ).loc Cert.HyInRefIdeal.main_arg1)
      ∧ r.2.mem ((c.tc : Thread Cert.HyInRefIdeal.nD Cert.HyInRefIdeal.τ).loc Cert.HyInRefIdeal.main_arg2) = m ((c.tc : Thread Cert.HyInRefIdeal.nD Cert.HyInRefIdeal.τ).loc Cert.HyInRefIdeal.main_arg2) :=
  (θ_run _ _ _).mono (fun _ h c => ⟨(h c).1.trans (Cert.HyInRefIdeal.Proj.ref_eq _ _ _), (h c).2⟩) (Cert.HyInRefIdeal.Value.run m ρ)

/-- The reference runs and leaves its arguments and every counter as they were. -/
theorem refFrame : Cert.quiescent_HyInRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_HyInIdeal_HyInRefIdeal := fun m ρ m' ρ' _ hag =>
  ⟨fun c => out (m ((c.tc : Thread Cert.HyInIdeal.nD Cert.HyInIdeal.τ).loc Cert.HyInIdeal.main_arg0)) (m ((c.tc : Thread Cert.HyInIdeal.nD Cert.HyInIdeal.τ).loc Cert.HyInIdeal.main_arg1)) (m ((c.tc : Thread Cert.HyInIdeal.nD Cert.HyInIdeal.τ).loc Cert.HyInIdeal.main_arg2)),
    (θ_run _ _ _).mono (fun _ h c => ⟨(h c).1.trans (final m c), (h c).2⟩) (Cert.HyInIdeal.Value.run_blocks m ρ),
    (θ_run _ _ _).mono (fun _ h c => ⟨(h c).1.trans (by rw [(hag c).1, (hag c).2.1, (hag c).2.2]), (h c).2⟩) (ref m' ρ')⟩

end Cert.HyInIdeal.Proj
-- ==== Proof.HyOutValue.lean ====
module

public import proofs.«01_k».proof.Proof.Gen.HyOutIdeal.Value
public import Idealize.ShloMosaic.Lib.Pipeline.ValueKit
public import Idealize.ShloMosaic.Lib.Pointwise

@[expose] public section

set_option maxRecDepth 16384

noncomputable section

namespace Cert.HyOutIdeal.Proj

open Cert.HyOutIdeal Cert.HyOutIdeal.Gen Idealize.ShloMosaic Idealize.ShloMosaic.TcCoe Idealize.SL.Sem
open Idealize.ShloMosaic.Pipeline (Dat)

variable (m : (ℓ : Loc nD τ sig) → Buf (Elt Ideal) ℓ)

/-- The projection at one entry. -/
def out (x : Vec Ideal S2x8192x4096 .bf16) (w : Vec Ideal S4096x4096 .f32) (b : Vec Ideal S4096 .f32) : Vec Ideal S16384x4096 .bf16 := fun i =>
  (∑ k : Fin 4096, x (ix3 ⟨(i 0).val / 8192, by have := (i 0).isLt; change (i 0).val < 16384 at this; omega⟩ ⟨(i 0).val % 8192, Nat.mod_lt _ (by decide)⟩ k) * w (ix2 k (i 1))) + b (ix1 (i 1))

theorem idx : ∀ t : Fin cfg0.N, win0_0.index t = ![t.val / 4, 0] ∧ win0_1.index t = ![0, t.val % 4]
    ∧ win0_2.index t = ![0, t.val % 4] ∧ win0_3.index t = ![t.val / 4, t.val % 4] :=
  (by decide +kernel : ∀ t : Fin grid0.N, _)

theorem blk0 (c : Dev nD) (t : Fin cfg0.N) (y : Fin 1024) (k : Fin 4096) (a : Fin 2) (b : Fin 8192)
    (h : t.val / 4 * 1024 + y.val = a.val * 8192 + b.val) :
    iblk m c 0 t (ix2 y k) = m ((c : Thread nD τ).loc main_arg0) (ix3 a b k) := by
  blk_simp [iblk, idx t]
  entry_read
  pointwise
  blk_ext [idx t]

theorem blk1 (c : Dev nD) (t : Fin cfg0.N) (k : Fin 4096) (y : Fin 1024) (b : Fin 4096)
    (h : t.val % 4 * 1024 + y.val = b.val) :
    iblk m c 1 t (ix2 k y) = m ((c : Thread nD τ).loc main_arg1) (ix2 k b) := by
  blk_simp [iblk, idx t]
  entry_read
  pointwise
  blk_ext [idx t]

theorem blk2 (c : Dev nD) (t : Fin cfg0.N) (y : Fin 1024) (b : Fin 4096)
    (h : t.val % 4 * 1024 + y.val = b.val) :
    iblk m c 2 t (ix2 0 y) = m ((c : Thread nD τ).loc main_arg2) (ix1 b) := by
  blk_simp [iblk, idx t]
  entry_read
  pointwise
  blk_ext [idx t]

theorem final (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0 out0_A_3
  frame_out
  idx_vars y
  pointwise [k0_pay1, out]
  have e0 : ((((View.whole main_v3).slice (win0_3.rect t)).emb (ix2 y0 y1)) 0).val = t.val / 4 * 1024 + y0.val := by
    blk_simp [idx t]
  have e1 : ((((View.whole main_v3).slice (win0_3.rect t)).emb (ix2 y0 y1)) 1).val = t.val % 4 * 1024 + y1.val := by
    blk_simp [idx t]
  generalize ((View.whole main_v3).slice (win0_3.rect t)).emb (ix2 y0 y1) = i at e0 e1 ⊢
  refine congrArg₂ (· + ·) (Finset.sum_congr rfl fun k _ => congrArg₂ (· * ·) (blk0 m c t y0 k _ _ ?_) (blk1 m c t k y1 _ e1.symm)) (blk2 m c t y1 _ e1.symm)
  dsimp only
  rw [e0]
  omega

end Cert.HyOutIdeal.Proj
-- ==== Proof.HyOutClaim.lean ====
module

public import proofs.«01_k».proof.Defs
public import proofs.«01_k».proof.Proof.Gen.HyOutRefIdeal.Run
public import proofs.«01_k».proof.Proof.HyOutValue

@[expose] public section

set_option maxRecDepth 16384

noncomputable section

open Idealize.ShloMosaic Idealize.ShloMosaic.TcCoe Idealize.SL.Sem

namespace Cert.HyOutRefIdeal.Proj

open Cert.HyOutRefIdeal.Gen

/-- The reference's operations composed, entry by entry. -/
theorem ref_eq (x : Vec Ideal Cert.HyOutRefIdeal.S2x8192x4096 .bf16) (w : Vec Ideal Cert.HyOutRefIdeal.S4096x4096 .f32) (b : Vec Ideal Cert.HyOutRefIdeal.S4096 .f32) :
    truncf (F := Ideal) .bf16 (addf (Host.dotGeneral (F := Ideal) (φ₁ := .f32) (φ₂ := .f32) dot_S16384x4096_S4096x4096_S16384x4096_1_0_0_1_n_n none (extf .f32 (shapeCast _ x shapeCasts_S2x8192x4096_S16384x4096) bitsLt_bf16_f32) w) (broadcastInDim S16384x4096 ![0, 1] bcast_S1x4096_S16384x4096_0_1 (broadcastInDim S1x4096 ![1] bcast_S4096_S1x4096_1 b))) bitsLt_bf16_f32 = Cert.HyOutIdeal.Proj.out x w b := by
  funext i
  idx_vars i
  pointwise [Cert.HyOutIdeal.Proj.out]

end Cert.HyOutRefIdeal.Proj

namespace Cert.HyOutIdeal.Proj

/-- The reference's result is the same array. -/
theorem ref (m : (ℓ : Loc Cert.HyOutRefIdeal.nD Cert.HyOutRefIdeal.τ Cert.HyOutRefIdeal.sig) → Buf (Elt Ideal) ℓ) (ρ : Dev Cert.HyOutRefIdeal.nD → PrngReg) :
    θ_run (Cert.HyOutRefIdeal.defs (F := Ideal)) (onTc (τ := Cert.HyOutRefIdeal.τ) (Cert.HyOutRefIdeal.main (F := Ideal))) ⟨m, fun _ => 0, ρ⟩ fun r => ∀ c : Dev Cert.HyOutRefIdeal.nD,
      r.2.mem ((c.tc : Thread Cert.HyOutRefIdeal.nD Cert.HyOutRefIdeal.τ).loc Cert.HyOutRefIdeal.main_v6)
        = out (m ((c.tc : Thread Cert.HyOutRefIdeal.nD Cert.HyOutRefIdeal.τ).loc Cert.HyOutRefIdeal.main_arg0)) (m ((c.tc : Thread Cert.HyOutRefIdeal.nD Cert.HyOutRefIdeal.τ).loc Cert.HyOutRefIdeal.main_arg1)) (m ((c.tc : Thread Cert.HyOutRefIdeal.nD Cert.HyOutRefIdeal.τ).loc Cert.HyOutRefIdeal.main_arg2))
      ∧ r.2.mem ((c.tc : Thread Cert.HyOutRefIdeal.nD Cert.HyOutRefIdeal.τ).loc Cert.HyOutRefIdeal.main_arg0) = m ((c.tc : Thread Cert.HyOutRefIdeal.nD Cert.HyOutRefIdeal.τ).loc Cert.HyOutRefIdeal.main_arg0)
      ∧ r.2.mem ((c.tc : Thread Cert.HyOutRefIdeal.nD Cert.HyOutRefIdeal.τ).loc Cert.HyOutRefIdeal.main_arg1) = m ((c.tc : Thread Cert.HyOutRefIdeal.nD Cert.HyOutRefIdeal.τ).loc Cert.HyOutRefIdeal.main_arg1)
      ∧ r.2.mem ((c.tc : Thread Cert.HyOutRefIdeal.nD Cert.HyOutRefIdeal.τ).loc Cert.HyOutRefIdeal.main_arg2) = m ((c.tc : Thread Cert.HyOutRefIdeal.nD Cert.HyOutRefIdeal.τ).loc Cert.HyOutRefIdeal.main_arg2) :=
  (θ_run _ _ _).mono (fun _ h c => ⟨(h c).1.trans (Cert.HyOutRefIdeal.Proj.ref_eq _ _ _), (h c).2⟩) (Cert.HyOutRefIdeal.Value.run m ρ)

/-- The reference runs and leaves its arguments and every counter as they were. -/
theorem refFrame : Cert.quiescent_HyOutRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_HyOutIdeal_HyOutRefIdeal := fun m ρ m' ρ' _ hag =>
  ⟨fun c => out (m ((c.tc : Thread Cert.HyOutIdeal.nD Cert.HyOutIdeal.τ).loc Cert.HyOutIdeal.main_arg0)) (m ((c.tc : Thread Cert.HyOutIdeal.nD Cert.HyOutIdeal.τ).loc Cert.HyOutIdeal.main_arg1)) (m ((c.tc : Thread Cert.HyOutIdeal.nD Cert.HyOutIdeal.τ).loc Cert.HyOutIdeal.main_arg2)),
    (θ_run _ _ _).mono (fun _ h c => ⟨(h c).1.trans (final m c), (h c).2⟩) (Cert.HyOutIdeal.Value.run_blocks m ρ),
    (θ_run _ _ _).mono (fun _ h c => ⟨(h c).1.trans (by rw [(hag c).1, (hag c).2.1, (hag c).2.2]), (h c).2⟩) (ref m' ρ')⟩

end Cert.HyOutIdeal.Proj
-- ==== Proof.GdnInValue.lean ====
module

public import proofs.«01_k».proof.Proof.Gen.GdnInIdeal.Value
public import Idealize.ShloMosaic.Lib.Pipeline.ValueKit
public import Idealize.ShloMosaic.Lib.Pointwise

@[expose] public section

set_option maxRecDepth 16384

noncomputable section

namespace Cert.GdnInIdeal.Proj

open Cert.GdnInIdeal Cert.GdnInIdeal.Gen Idealize.ShloMosaic Idealize.ShloMosaic.TcCoe Idealize.SL.Sem
open Idealize.ShloMosaic.Pipeline (Dat)

variable (m : (ℓ : Loc nD τ sig) → Buf (Elt Ideal) ℓ)

/-- The projection at one entry. -/
def out (x : Vec Ideal S2x8192x4096 .bf16) (w : Vec Ideal S4096x16512 .f32) : Vec Ideal S16384x16384 .bf16 := fun i =>
  (∑ k : Fin 4096, x (ix3 ⟨(i 0).val / 8192, by have := (i 0).isLt; change (i 0).val < 16384 at this; omega⟩ ⟨(i 0).val % 8192, Nat.mod_lt _ (by decide)⟩ k) * w (ix2 k ⟨(i 1).val, by have := (i 1).isLt; change (i 1).val < 16384 at this; omega⟩))

theorem idx : ∀ t : Fin cfg0.N, win0_0.index t = ![t.val / 16, 0] ∧ win0_1.index t = ![0, t.val % 16]
    ∧ win0_2.index t = ![0, t.val % 16] ∧ win0_3.index t = ![t.val / 16, t.val % 16] :=
  (by decide +kernel : ∀ t : Fin grid0.N, _)

theorem blk0 (c : Dev nD) (t : Fin cfg0.N) (y : Fin 1024) (k : Fin 4096) (a : Fin 2) (b : Fin 8192)
    (h : t.val / 16 * 1024 + y.val = a.val * 8192 + b.val) :
    iblk m c 0 t (ix2 y k) = m ((c : Thread nD τ).loc main_arg0) (ix3 a b k) := by
  blk_simp [iblk, idx t]
  entry_read
  pointwise
  blk_ext [idx t]

theorem blk1 (c : Dev nD) (t : Fin cfg0.N) (k : Fin 4096) (y : Fin 1024) (b : Fin 16512)
    (h : t.val % 16 * 1024 + y.val = b.val) :
    iblk m c 1 t (ix2 k y) = m ((c : Thread nD τ).loc main_arg1) (ix2 k b) := by
  blk_simp [iblk, idx t]
  entry_read
  pointwise
  blk_ext [idx t]

theorem blk2 (c : Dev nD) (t : Fin cfg0.N) (y : Fin 1024) : iblk m c 2 t (ix2 0 y) = (0 : EReal) := by
  blk_simp [iblk, idx t]
  entry_read
  pointwise

theorem final (c : Dev nD) : (dats m 0 c).arrAt 3 cfg0.N
    = out (m ((c : Thread nD τ).loc main_arg0)) (m ((c : Thread nD τ).loc main_arg1)) := by
  refine (dats m 0 c).arrAt_eq_of_covers 3 _ (by decide +kernel) fun t hf y => ?_
  blk_simp
  rw [after0_3]
  unfold outsAt0 out0_A_3
  frame_out
  idx_vars y
  pointwise [k0_pay1, out]
  have e0 : ((((View.whole main_v5).slice (win0_3.rect t)).emb (ix2 y0 y1)) 0).val = t.val / 16 * 1024 + y0.val := by
    blk_simp [idx t]
  have e1 : ((((View.whole main_v5).slice (win0_3.rect t)).emb (ix2 y0 y1)) 1).val = t.val % 16 * 1024 + y1.val := by
    blk_simp [idx t]
  generalize ((View.whole main_v5).slice (win0_3.rect t)).emb (ix2 y0 y1) = i at e0 e1 ⊢
  refine Eq.trans ?_ (add_zero (_ : EReal))
  refine congrArg₂ (· + ·) (Finset.sum_congr rfl fun k _ => congrArg₂ (· * ·) (blk0 m c t y0 k _ _ ?_) (blk1 m c t k y1 _ ?_)) (blk2 m c t y1)
  · dsimp only
    rw [e0]
    omega
  · dsimp only
    rw [e1]

end Cert.GdnInIdeal.Proj
-- ==== Proof.GdnInClaim.lean ====
module

public import proofs.«01_k».proof.Defs
public import proofs.«01_k».proof.Proof.Gen.GdnInRefIdeal.Run
public import proofs.«01_k».proof.Proof.GdnInValue

@[expose] public section

set_option maxRecDepth 16384

noncomputable section

open Idealize.ShloMosaic Idealize.ShloMosaic.TcCoe Idealize.SL.Sem

namespace Cert.GdnInRefIdeal.Proj

open Cert.GdnInRefIdeal.Gen

/-- The reference's operations composed, entry by entry. -/
theorem ref_eq (x : Vec Ideal Cert.GdnInRefIdeal.S2x8192x4096 .bf16) (w : Vec Ideal Cert.GdnInRefIdeal.S4096x16512 .f32) :
    truncf (F := Ideal) .bf16 (extractStridedSlice S16384x16384 ![0, 0] (Host.dotGeneral (F := Ideal) (φ₁ := .f32) (φ₂ := .f32) dot_S16384x4096_S4096x16512_S16384x16512_1_0_0_1_n_n none (extf .f32 (shapeCast _ x shapeCasts_S2x8192x4096_S16384x4096) bitsLt_bf16_f32) w) slices_S16384x16512_S16384x16384_0_0) bitsLt_bf16_f32 = Cert.GdnInIdeal.Proj.out x w := by
  funext i
  idx_vars i
  pointwise [Cert.GdnInIdeal.Proj.out]

end Cert.GdnInRefIdeal.Proj

namespace Cert.GdnInIdeal.Proj

/-- The reference's result is the same array. -/
theorem ref (m : (ℓ : Loc Cert.GdnInRefIdeal.nD Cert.GdnInRefIdeal.τ Cert.GdnInRefIdeal.sig) → Buf (Elt Ideal) ℓ) (ρ : Dev Cert.GdnInRefIdeal.nD → PrngReg) :
    θ_run (Cert.GdnInRefIdeal.defs (F := Ideal)) (onTc (τ := Cert.GdnInRefIdeal.τ) (Cert.GdnInRefIdeal.main (F := Ideal))) ⟨m, fun _ => 0, ρ⟩ fun r => ∀ c : Dev Cert.GdnInRefIdeal.nD,
      r.2.mem ((c.tc : Thread Cert.GdnInRefIdeal.nD Cert.GdnInRefIdeal.τ).loc Cert.GdnInRefIdeal.main_v4)
        = out (m ((c.tc : Thread Cert.GdnInRefIdeal.nD Cert.GdnInRefIdeal.τ).loc Cert.GdnInRefIdeal.main_arg0)) (m ((c.tc : Thread Cert.GdnInRefIdeal.nD Cert.GdnInRefIdeal.τ).loc Cert.GdnInRefIdeal.main_arg1))
      ∧ r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1) :=
  (θ_run _ _ _).mono (fun _ h c => ⟨(h c).1.trans (Cert.GdnInRefIdeal.Proj.ref_eq _ _), (h c).2⟩) (Cert.GdnInRefIdeal.Value.run m ρ)

/-- The reference runs and leaves its arguments and every counter as they were. -/
theorem refFrame : Cert.quiescent_GdnInRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_GdnInIdeal_GdnInRefIdeal := fun m ρ m' ρ' _ hag =>
  ⟨fun c => out (m ((c.tc : Thread Cert.GdnInIdeal.nD Cert.GdnInIdeal.τ).loc Cert.GdnInIdeal.main_arg0)) (m ((c.tc : Thread Cert.GdnInIdeal.nD Cert.GdnInIdeal.τ).loc Cert.GdnInIdeal.main_arg1)),
    (θ_run _ _ _).mono (fun _ h c => ⟨(h c).1.trans (final m c), (h c).2⟩) (Cert.GdnInIdeal.Value.run_blocks m ρ),
    (θ_run _ _ _).mono (fun _ h c => ⟨(h c).1.trans (by rw [(hag c).1, (hag c).2]), (h c).2⟩) (ref m' ρ')⟩

end Cert.GdnInIdeal.Proj
-- ==== Proof.GdnAbValue.lean ====
module

public import proofs.«01_k».proof.Proof.Gen.GdnAbIdeal.Value
public import Idealize.ShloMosaic.Lib.Pipeline.ValueKit
public import Idealize.ShloMosaic.Lib.Pointwise

@[expose] public section

set_option maxRecDepth 16384

noncomputable section

namespace Cert.GdnAbIdeal.Proj

open Cert.GdnAbIdeal Cert.GdnAbIdeal.Gen Idealize.ShloMosaic Idealize.ShloMosaic.TcCoe Idealize.SL.Sem
open Idealize.ShloMosaic.Pipeline (Dat)

variable (m : (ℓ : Loc nD τ sig) → Buf (Elt Ideal) ℓ)

/-- The projection at one entry. -/
def out (x : Vec Ideal S2x8192x4096 .bf16) (w : Vec Ideal S4096x16512 .f32) : Vec Ideal S16384x128 .f32 := fun i =>
  (∑ k : Fin 4096, x (ix3 ⟨(i 0).val / 8192, by have := (i 0).isLt; change (i 0).val < 16384 at this; omega⟩ ⟨(i 0).val % 8192, Nat.mod_lt _ (by decide)⟩ k) * w (ix2 k ⟨16384 + (i 1).val, by have := (i 1).isLt; change (i 1).val < 128 at this; omega⟩))

theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

theorem blk0 (c : Dev nD) (t : Fin cfg0.N) (y : Fin 1024) (k : Fin 4096) (a : Fin 2) (b : Fin 8192)
    (h : t.val * 1024 + y.val = a.val * 8192 + b.val) :
    iblk m c 0 t (ix2 y k) = m ((c : Thread nD τ).loc main_arg0) (ix3 a b k) := by
  blk_simp [iblk, idx t]
  entry_read
  pointwise
  blk_ext [idx t]

theorem blk1 (c : Dev nD) (t : Fin cfg0.N) (k : Fin 4096) (y : Fin 128) (b : Fin 16512)
    (h : 16384 + y.val = b.val) :
    iblk m c 1 t (ix2 k y) = m ((c : Thread nD τ).loc main_arg1) (ix2 k b) := by
  blk_simp [iblk, idx t]
  entry_read
  pointwise
  blk_ext [idx t]

theorem blk2 (c : Dev nD) (t : Fin cfg0.N) (y : Fin 128) : iblk m c 2 t (ix2 0 y) = (0 : EReal) := by
  blk_simp [iblk, idx t]
  entry_read
  pointwise

theorem final (c : Dev nD) : (dats m 0 c).arrAt 3 cfg0.N
    = out (m ((c : Thread nD τ).loc main_arg0)) (m ((c : Thread nD τ).loc main_arg1)) := by
  refine (dats m 0 c).arrAt_eq_of_covers 3 _ (by decide +kernel) fun t hf y => ?_
  blk_simp
  rw [after0_3]
  unfold outsAt0 out0_A_3
  frame_out
  idx_vars y
  pointwise [k0_pay1, out]
  have e0 : ((((View.whole main_v5).slice (win0_3.rect t)).emb (ix2 y0 y1)) 0).val = t.val * 1024 + y0.val := by
    blk_simp [idx t]
  have e1 : ((((View.whole main_v5).slice (win0_3.rect t)).emb (ix2 y0 y1)) 1).val = y1.val := by
    blk_simp [idx t]
  generalize ((View.whole main_v5).slice (win0_3.rect t)).emb (ix2 y0 y1) = i at e0 e1 ⊢
  refine Eq.trans ?_ (add_zero (_ : EReal))
  refine congrArg₂ (· + ·) (Finset.sum_congr rfl fun k _ => congrArg₂ (· * ·) (blk0 m c t y0 k _ _ ?_) (blk1 m c t k y1 _ ?_)) (blk2 m c t y1)
  · dsimp only
    rw [e0]
    omega
  · dsimp only
    rw [e1]

end Cert.GdnAbIdeal.Proj
-- ==== Proof.GdnAbClaim.lean ====
module

public import proofs.«01_k».proof.Defs
public import proofs.«01_k».proof.Proof.Gen.GdnAbRefIdeal.Run
public import proofs.«01_k».proof.Proof.GdnAbValue

@[expose] public section

set_option maxRecDepth 16384

noncomputable section

open Idealize.ShloMosaic Idealize.ShloMosaic.TcCoe Idealize.SL.Sem

namespace Cert.GdnAbRefIdeal.Proj

open Cert.GdnAbRefIdeal.Gen

/-- The reference's operations composed, entry by entry. -/
theorem ref_eq (x : Vec Ideal Cert.GdnAbRefIdeal.S2x8192x4096 .bf16) (w : Vec Ideal Cert.GdnAbRefIdeal.S4096x16512 .f32) :
    extractStridedSlice S16384x128 ![0, 16384] (Host.dotGeneral (F := Ideal) (φ₁ := .f32) (φ₂ := .f32) dot_S16384x4096_S4096x16512_S16384x16512_1_0_0_1_n_n none (extf .f32 (shapeCast _ x shapeCasts_S2x8192x4096_S16384x4096) bitsLt_bf16_f32) w) slices_S16384x16512_S16384x128_0_16384 = Cert.GdnAbIdeal.Proj.out x w := by
  funext i
  idx_vars i
  pointwise [Cert.GdnAbIdeal.Proj.out]

end Cert.GdnAbRefIdeal.Proj

namespace Cert.GdnAbIdeal.Proj

/-- The reference's result is the same array. -/
theorem ref (m : (ℓ : Loc Cert.GdnAbRefIdeal.nD Cert.GdnAbRefIdeal.τ Cert.GdnAbRefIdeal.sig) → Buf (Elt Ideal) ℓ) (ρ : Dev Cert.GdnAbRefIdeal.nD → PrngReg) :
    θ_run (Cert.GdnAbRefIdeal.defs (F := Ideal)) (onTc (τ := Cert.GdnAbRefIdeal.τ) (Cert.GdnAbRefIdeal.main (F := Ideal))) ⟨m, fun _ => 0, ρ⟩ fun r => ∀ c : Dev Cert.GdnAbRefIdeal.nD,
      r.2.mem ((c.tc : Thread Cert.GdnAbRefIdeal.nD Cert.GdnAbRefIdeal.τ).loc Cert.GdnAbRefIdeal.main_v3)
        = out (m ((c.tc : Thread Cert.GdnAbRefIdeal.nD Cert.GdnAbRefIdeal.τ).loc Cert.GdnAbRefIdeal.main_arg0)) (m ((c.tc : Thread Cert.GdnAbRefIdeal.nD Cert.GdnAbRefIdeal.τ).loc Cert.GdnAbRefIdeal.main_arg1))
      ∧ r.2.mem ((c.tc : Thread Cert.GdnAbRefIdeal.nD Cert.GdnAbRefIdeal.τ).loc Cert.GdnAbRefIdeal.main_arg0) = m ((c.tc : Thread Cert.GdnAbRefIdeal.nD Cert.GdnAbRefIdeal.τ).loc Cert.GdnAbRefIdeal.main_arg0)
      ∧ r.2.mem ((c.tc : Thread Cert.GdnAbRefIdeal.nD Cert.GdnAbRefIdeal.τ).loc Cert.GdnAbRefIdeal.main_arg1) = m ((c.tc : Thread Cert.GdnAbRefIdeal.nD Cert.GdnAbRefIdeal.τ).loc Cert.GdnAbRefIdeal.main_arg1) :=
  (θ_run _ _ _).mono (fun _ h c => ⟨(h c).1.trans (Cert.GdnAbRefIdeal.Proj.ref_eq _ _), (h c).2⟩) (Cert.GdnAbRefIdeal.Value.run m ρ)

/-- The reference runs and leaves its arguments and every counter as they were. -/
theorem refFrame : Cert.quiescent_GdnAbRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_GdnAbIdeal_GdnAbRefIdeal := fun m ρ m' ρ' _ hag =>
  ⟨fun c => out (m ((c.tc : Thread Cert.GdnAbIdeal.nD Cert.GdnAbIdeal.τ).loc Cert.GdnAbIdeal.main_arg0)) (m ((c.tc : Thread Cert.GdnAbIdeal.nD Cert.GdnAbIdeal.τ).loc Cert.GdnAbIdeal.main_arg1)),
    (θ_run _ _ _).mono (fun _ h c => ⟨(h c).1.trans (final m c), (h c).2⟩) (Cert.GdnAbIdeal.Value.run_blocks m ρ),
    (θ_run _ _ _).mono (fun _ h c => ⟨(h c).1.trans (by rw [(hag c).1, (hag c).2]), (h c).2⟩) (ref m' ρ')⟩

end Cert.GdnAbIdeal.Proj
-- ==== Proof.GdnOutValue.lean ====
module

public import proofs.«01_k».proof.Proof.Gen.GdnOutIdeal.Value
public import Idealize.ShloMosaic.Lib.Pipeline.ValueKit
public import Idealize.ShloMosaic.Lib.Pointwise

@[expose] public section

set_option maxRecDepth 16384

noncomputable section

namespace Cert.GdnOutIdeal.Proj

open Cert.GdnOutIdeal Cert.GdnOutIdeal.Gen Idealize.ShloMosaic Idealize.ShloMosaic.TcCoe Idealize.SL.Sem
open Idealize.ShloMosaic.Pipeline (Dat)

variable (m : (ℓ : Loc nD τ sig) → Buf (Elt Ideal) ℓ)

/-- The projection at one entry. -/
def out (x : Vec Ideal S2x8192x4096 .bf16) (w : Vec Ideal S4096x4096 .f32) : Vec Ideal S16384x4096 .bf16 := fun i =>
  (∑ k : Fin 4096, x (ix3 ⟨(i 0).val / 8192, by have := (i 0).isLt; change (i 0).val < 16384 at this; omega⟩ ⟨(i 0).val % 8192, Nat.mod_lt _ (by decide)⟩ k) * w (ix2 k (i 1)))

theorem idx : ∀ t : Fin cfg0.N, win0_0.index t = ![t.val / 4, 0] ∧ win0_1.index t = ![0, t.val % 4]
    ∧ win0_2.index t = ![0, t.val % 4] ∧ win0_3.index t = ![t.val / 4, t.val % 4] :=
  (by decide +kernel : ∀ t : Fin grid0.N, _)

theorem blk0 (c : Dev nD) (t : Fin cfg0.N) (y : Fin 1024) (k : Fin 4096) (a : Fin 2) (b : Fin 8192)
    (h : t.val / 4 * 1024 + y.val = a.val * 8192 + b.val) :
    iblk m c 0 t (ix2 y k) = m ((c : Thread nD τ).loc main_arg0) (ix3 a b k) := by
  blk_simp [iblk, idx t]
  entry_read
  pointwise
  blk_ext [idx t]

theorem blk1 (c : Dev nD) (t : Fin cfg0.N) (k : Fin 4096) (y : Fin 1024) (b : Fin 4096)
    (h : t.val % 4 * 1024 + y.val = b.val) :
    iblk m c 1 t (ix2 k y) = m ((c : Thread nD τ).loc main_arg1) (ix2 k b) := by
  blk_simp [iblk, idx t]
  entry_read
  pointwise
  blk_ext [idx t]

theorem blk2 (c : Dev nD) (t : Fin cfg0.N) (y : Fin 1024) : iblk m c 2 t (ix2 0 y) = (0 : EReal) := by
  blk_simp [iblk, idx t]
  entry_read
  pointwise

theorem final (c : Dev nD) : (dats m 0 c).arrAt 3 cfg0.N
    = out (m ((c : Thread nD τ).loc main_arg0)) (m ((c : Thread nD τ).loc main_arg1)) := by
  refine (dats m 0 c).arrAt_eq_of_covers 3 _ (by decide +kernel) fun t hf y => ?_
  blk_simp
  rw [after0_3]
  unfold outsAt0 out0_A_3
  frame_out
  idx_vars y
  pointwise [k0_pay1, out]
  have e0 : ((((View.whole main_v4).slice (win0_3.rect t)).emb (ix2 y0 y1)) 0).val = t.val / 4 * 1024 + y0.val := by
    blk_simp [idx t]
  have e1 : ((((View.whole main_v4).slice (win0_3.rect t)).emb (ix2 y0 y1)) 1).val = t.val % 4 * 1024 + y1.val := by
    blk_simp [idx t]
  generalize ((View.whole main_v4).slice (win0_3.rect t)).emb (ix2 y0 y1) = i at e0 e1 ⊢
  refine Eq.trans ?_ (add_zero (_ : EReal))
  refine congrArg₂ (· + ·) (Finset.sum_congr rfl fun k _ => congrArg₂ (· * ·) (blk0 m c t y0 k _ _ ?_) (blk1 m c t k y1 _ ?_)) (blk2 m c t y1)
  · dsimp only
    rw [e0]
    omega
  · rw [e1]

end Cert.GdnOutIdeal.Proj
-- ==== Proof.GdnOutClaim.lean ====
module

public import proofs.«01_k».proof.Defs
public import proofs.«01_k».proof.Proof.Gen.GdnOutRefIdeal.Run
public import proofs.«01_k».proof.Proof.GdnOutValue

@[expose] public section

set_option maxRecDepth 16384

noncomputable section

open Idealize.ShloMosaic Idealize.ShloMosaic.TcCoe Idealize.SL.Sem

namespace Cert.GdnOutRefIdeal.Proj

open Cert.GdnOutRefIdeal.Gen

/-- The reference's operations composed, entry by entry. -/
theorem ref_eq (x : Vec Ideal Cert.GdnOutRefIdeal.S2x8192x4096 .bf16) (w : Vec Ideal Cert.GdnOutRefIdeal.S4096x4096 .f32) :
    truncf (F := Ideal) .bf16 (Host.dotGeneral (F := Ideal) (φ₁ := .f32) (φ₂ := .f32) dot_S16384x4096_S4096x4096_S16384x4096_1_0_0_1_n_n none (extf .f32 (shapeCast _ x shapeCasts_S2x8192x4096_S16384x4096) bitsLt_bf16_f32) w) bitsLt_bf16_f32 = Cert.GdnOutIdeal.Proj.out x w := by
  funext i
  idx_vars i
  pointwise [Cert.GdnOutIdeal.Proj.out]

end Cert.GdnOutRefIdeal.Proj

namespace Cert.GdnOutIdeal.Proj

/-- The reference's result is the same array. -/
theorem ref (m : (ℓ : Loc Cert.GdnOutRefIdeal.nD Cert.GdnOutRefIdeal.τ Cert.GdnOutRefIdeal.sig) → Buf (Elt Ideal) ℓ) (ρ : Dev Cert.GdnOutRefIdeal.nD → PrngReg) :
    θ_run (Cert.GdnOutRefIdeal.defs (F := Ideal)) (onTc (τ := Cert.GdnOutRefIdeal.τ) (Cert.GdnOutRefIdeal.main (F := Ideal))) ⟨m, fun _ => 0, ρ⟩ fun r => ∀ c : Dev Cert.GdnOutRefIdeal.nD,
      r.2.mem ((c.tc : Thread Cert.GdnOutRefIdeal.nD Cert.GdnOutRefIdeal.τ).loc Cert.GdnOutRefIdeal.main_v3)
        = out (m ((c.tc : Thread Cert.GdnOutRefIdeal.nD Cert.GdnOutRefIdeal.τ).loc Cert.GdnOutRefIdeal.main_arg0)) (m ((c.tc : Thread Cert.GdnOutRefIdeal.nD Cert.GdnOutRefIdeal.τ).loc Cert.GdnOutRefIdeal.main_arg1))
      ∧ r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1) :=
  (θ_run _ _ _).mono (fun _ h c => ⟨(h c).1.trans (Cert.GdnOutRefIdeal.Proj.ref_eq _ _), (h c).2⟩) (Cert.GdnOutRefIdeal.Value.run m ρ)

/-- The reference runs and leaves its arguments and every counter as they were. -/
theorem refFrame : Cert.quiescent_GdnOutRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_GdnOutIdeal_GdnOutRefIdeal := fun m ρ m' ρ' _ hag =>
  ⟨fun c => out (m ((c.tc : Thread Cert.GdnOutIdeal.nD Cert.GdnOutIdeal.τ).loc Cert.GdnOutIdeal.main_arg0)) (m ((c.tc : Thread Cert.GdnOutIdeal.nD Cert.GdnOutIdeal.τ).loc Cert.GdnOutIdeal.main_arg1)),
    (θ_run _ _ _).mono (fun _ h c => ⟨(h c).1.trans (final m c), (h c).2⟩) (Cert.GdnOutIdeal.Value.run_blocks m ρ),
    (θ_run _ _ _).mono (fun _ h c => ⟨(h c).1.trans (by rw [(hag c).1, (hag c).2]), (h c).2⟩) (ref m' ρ')⟩

end Cert.GdnOutIdeal.Proj
-- ==== Proof.ModValue.lean ====
module

public import proofs.«01_k».proof.Proof.Gen.ModIdeal.Value
public import Idealize.ShloMosaic.Lib.Pipeline.ValueKit
public import Idealize.ShloMosaic.Lib.Pointwise

@[expose] public section

set_option maxRecDepth 16384

noncomputable section

namespace Cert.ModIdeal.Mod

open Cert.ModIdeal Cert.ModIdeal.Gen Idealize.ShloMosaic Idealize.ShloMosaic.TcCoe Idealize.SL.Sem
open Idealize.ShloMosaic.Pipeline (Dat)

variable (m : (ℓ : Loc nD τ sig) → Buf (Elt Ideal) ℓ)

/-- The modulated stream at one entry. -/
def out (x : Vec Ideal S2x8192x4096 .f32) (shift scale : Vec Ideal S2x1x4096 .f32) : Vec Ideal S2x8192x4096 .bf16 := fun i =>
  x (ix3 (i 0) (i 1) (i 2)) * (1 + scale (ix3 (i 0) 0 (i 2))) + shift (ix3 (i 0) 0 (i 2))

theorem idx : ∀ t : Fin cfg0.N, win0_0.index t = ![t.val / 32, t.val % 32, 0] ∧ win0_1.index t = ![t.val / 32, 0, 0]
    ∧ win0_2.index t = ![t.val / 32, 0, 0] ∧ win0_3.index t = ![t.val / 32, t.val % 32, 0] :=
  (by decide +kernel : ∀ t : Fin grid0.N, _)

theorem pay (x : Vec Ideal S1x256x4096 .f32) (scale shift : Vec Ideal S1x1x4096 .f32) (r : Fin 256) (k : Fin 4096) :
    k0_pay1 x scale shift (ix3 0 r k) = x (ix3 0 r k) * (1 + scale (ix3 0 0 k)) + shift (ix3 0 0 k) := by
  pointwise [k0_pay1]

theorem blk0 (c : Dev nD) (t : Fin cfg0.N) (r : Fin 256) (k : Fin 4096) (a : Fin 2) (l : Fin 8192)
    (ha : a.val = t.val / 32) (hl : l.val = t.val % 32 * 256 + r.val) :
    iblk m c 0 t (ix3 0 r k) = m ((c : Thread nD τ).loc main_arg0) (ix3 a l k) := by
  blk_simp [iblk, idx t]
  entry_read
  blk_ext [idx t, ha, hl]

theorem blk1 (c : Dev nD) (t : Fin cfg0.N) (k : Fin 4096) (a : Fin 2) (ha : a.val = t.val / 32) :
    iblk m c 1 t (ix3 0 0 k) = m ((c : Thread nD τ).loc main_arg1) (ix3 a 0 k) := by
  blk_simp [iblk, idx t]
  entry_read
  blk_ext [idx t, ha]

theorem blk2 (c : Dev nD) (t : Fin cfg0.N) (k : Fin 4096) (a : Fin 2) (ha : a.val = t.val / 32) :
    iblk m c 2 t (ix3 0 0 k) = m ((c : Thread nD τ).loc main_arg2) (ix3 a 0 k) := by
  blk_simp [iblk, idx t]
  entry_read
  blk_ext [idx t, ha]

theorem final (c : Dev nD) : (dats m 0 c).arrAt 3 cfg0.N = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  idx_vars y
  have e0 : ((((View.whole main_v0).slice (win0_3.rect t)).emb (ix3 y0 y1 y2)) 0).val = t.val / 32 := by
    blk_simp [idx t]
  have e1 : ((((View.whole main_v0).slice (win0_3.rect t)).emb (ix3 y0 y1 y2)) 1).val = t.val % 32 * 256 + y1.val := by
    blk_simp [idx t]
  have e2 : ((((View.whole main_v0).slice (win0_3.rect t)).emb (ix3 y0 y1 y2)) 2).val = y2.val := by
    blk_simp [idx t]
  generalize ((View.whole main_v0).slice (win0_3.rect t)).emb (ix3 y0 y1 y2) = i at e0 e1 e2 ⊢
  obtain rfl : y0 = 0 := Subsingleton.elim _ _
  refine (pay _ _ _ y1 y2).trans ?_
  rw [blk0 m c t y1 y2 (i 0) (i 1) e0 e1, blk1 m c t y2 (i 0) e0, blk2 m c t y2 (i 0) e0, ← (Fin.ext e2 : i 2 = y2)]
  rfl

end Cert.ModIdeal.Mod
-- ==== Proof.ModClaim.lean ====
module

public import proofs.«01_k».proof.Defs
public import proofs.«01_k».proof.Proof.Gen.ModRefIdeal.Run
public import proofs.«01_k».proof.Proof.ModValue

@[expose] public section

set_option maxRecDepth 16384

noncomputable section

open Idealize.ShloMosaic Idealize.ShloMosaic.TcCoe Idealize.SL.Sem

namespace Cert.ModRefIdeal.Mod

open Cert.ModRefIdeal.Gen

/-- The reference's operations composed, entry by entry. -/
theorem ref_eq (x : Vec Ideal Cert.ModRefIdeal.S2x8192x4096 .f32) (w : Vec Ideal Cert.ModRefIdeal.S2x1x4096 .f32) (b : Vec Ideal Cert.ModRefIdeal.S2x1x4096 .f32) :
    truncf (F := Ideal) .bf16 (addf (mulf x (broadcastInDim S2x8192x4096 ![0, 1, 2] bcast_S2x1x4096_S2x8192x4096_0_1_2 (addf (broadcastInDim S2x1x4096 ![] bcast_S_S2x1x4096 (constant S_ .f32 0x3F800000#32)) b))) (broadcastInDim S2x8192x4096 ![0, 1, 2] bcast_S2x1x4096_S2x8192x4096_0_1_2 w)) bitsLt_bf16_f32 = Cert.ModIdeal.Mod.out x w b := by
  funext i
  idx_vars i
  pointwise [Cert.ModIdeal.Mod.out]

end Cert.ModRefIdeal.Mod

namespace Cert.ModIdeal.Mod

/-- The reference's result is the same array. -/
theorem ref (m : (ℓ : Loc Cert.ModRefIdeal.nD Cert.ModRefIdeal.τ Cert.ModRefIdeal.sig) → Buf (Elt Ideal) ℓ) (ρ : Dev Cert.ModRefIdeal.nD → PrngReg) :
    θ_run (Cert.ModRefIdeal.defs (F := Ideal)) (onTc (τ := Cert.ModRefIdeal.τ) (Cert.ModRefIdeal.main (F := Ideal))) ⟨m, fun _ => 0, ρ⟩ fun r => ∀ c : Dev Cert.ModRefIdeal.nD,
      r.2.mem ((c.tc : Thread Cert.ModRefIdeal.nD Cert.ModRefIdeal.τ).loc Cert.ModRefIdeal.main_v6)
        = out (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))
      ∧ r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2) :=
  (θ_run _ _ _).mono (fun _ h c => ⟨(h c).1.trans (Cert.ModRefIdeal.Mod.ref_eq _ _ _), (h c).2⟩) (Cert.ModRefIdeal.Value.run m ρ)

/-- The reference runs and leaves its arguments and every counter as they were. -/
theorem refFrame : Cert.quiescent_ModRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_ModIdeal_ModRefIdeal := fun m ρ m' ρ' _ hag =>
  ⟨fun c => out (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)),
    (θ_run _ _ _).mono (fun _ h c => ⟨(h c).1.trans (final m c), (h c).2⟩) (Cert.ModIdeal.Value.run_blocks m ρ),
    (θ_run _ _ _).mono (fun _ h c => ⟨(h c).1.trans (by rw [(hag c).1, (hag c).2.1, (hag c).2.2]), (h c).2⟩) (ref m' ρ')⟩

end Cert.ModIdeal.Mod
-- ==== Proof.Taps.lean ====
/- A row's neighbours and the choice between two values by a comparison of small numbers. -/
module

public import Idealize.ShloMosaic.Lib.Pipeline.ValueKit
public import Idealize.ShloMosaic.Lib.Pointwise

@[expose] public section

noncomputable section

namespace Cert.Taps

open Idealize.ShloMosaic

/-- A choice by equality of two words that hold small numbers is the choice by equality of the numbers. -/
theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  by_cases h : a = b
  · subst h
    rw [if_pos rfl, IntOp.cmpi_eq_self]
    rfl
  · rw [if_neg h]
    refine Scalar.select_of_ne_one (fun hc => h ?_) x y
    have : BitVec.ofNat 32 a = BitVec.ofNat 32 b := by
      by_contra hne
      rw [show IntOp.cmpi .eq (BitVec.ofNat 32 a) (BitVec.ofNat 32 b) = BitVec.ofBool (BitVec.ofNat 32 a == BitVec.ofNat 32 b) from rfl,
        beq_eq_false_iff_ne.mpr hne] at hc
      exact absurd hc (by decide)
    have := congrArg BitVec.toNat this
    rwa [BitVec.toNat_ofNat, BitVec.toNat_ofNat, Nat.mod_eq_of_lt ha, Nat.mod_eq_of_lt hb] at this

/-- A choice by signed order of two words that hold small numbers is the choice by order of the numbers. -/
theorem sel_lt {α : Type} (a b : ℕ) (ha : a < 2 ^ 31) (hb : b < 2 ^ 31) (x y : α) :
    Scalar.select (IntOp.cmpi .slt (BitVec.ofNat 32 a) (BitVec.ofNat 32 b)) x y = if a < b then x else y := by
  have key : (BitVec.ofNat 32 a).slt (BitVec.ofNat 32 b) = decide (a < b) := by
    rw [BitVec.slt_eq_ult, BitVec.ult]
    have h1 : (BitVec.ofNat 32 a).msb = false := by rw [BitVec.msb_eq_false_iff_two_mul_lt]; simp; omega
    have h2 : (BitVec.ofNat 32 b).msb = false := by rw [BitVec.msb_eq_false_iff_two_mul_lt]; simp; omega
    rw [h1, h2]
    simp [Nat.mod_eq_of_lt (show a < 4294967296 by omega), Nat.mod_eq_of_lt (show b < 4294967296 by omega)]
  by_cases h : a < b
  · rw [if_pos h]
    exact Scalar.select_of_eq_one (by simp [IntOp.cmpi, key, h]) x y
  · rw [if_neg h]
    exact Scalar.select_of_eq_zero (by simp [IntOp.cmpi, key, h]) x y

/-- The three taps at one entry: the row before, the row itself and the row after, zero past both ends. -/
def taps (x : Fin 8192 → EReal) (w : Fin 3 → EReal) (l : Fin 8192) : EReal :=
  (if h : l.val = 0 then 0 else x ⟨l.val - 1, by omega⟩) * w 0 + x l * w 1
    + (if h : l.val = 8191 then 0 else x ⟨l.val + 1, by omega⟩) * w 2

theorem zero_word : FloatOps.sitofp (F := Idealize.ShloMosaic.Ideal) FTy.f32 (0#32) = 0 := by
  show (((0#32 : BitVec 32).toInt : ℝ) : EReal) = 0
  simp

/-- The tap before, as the zero-padded array gives it. -/
theorem pad_prev (x : Fin 8192 → EReal) (l : Fin 8192) :
    (if h : 1 ≤ l.val ∧ l.val - 1 < 8192 then x ⟨l.val - 1, h.2⟩ else FloatOps.sitofp (F := Idealize.ShloMosaic.Ideal) FTy.f32 (0#32))
      = if h : l.val = 0 then 0 else x ⟨l.val - 1, by omega⟩ := by
  by_cases h : l.val = 0
  · rw [dif_neg (by omega), dif_pos h]
    exact zero_word
  · rw [dif_pos (by omega), dif_neg h]

/-- The tap after, as the zero-padded array gives it. -/
theorem pad_next (x : Fin 8192 → EReal) (l : Fin 8192) :
    (if h : 1 ≤ 2 + l.val ∧ 2 + l.val - 1 < 8192 then x ⟨2 + l.val - 1, h.2⟩ else FloatOps.sitofp (F := Idealize.ShloMosaic.Ideal) FTy.f32 (0#32))
      = if h : l.val = 8191 then 0 else x ⟨l.val + 1, by omega⟩ := by
  by_cases h : l.val = 8191
  · rw [dif_neg (by omega), dif_pos h]
    exact zero_word
  · rw [dif_pos (by omega), dif_neg h]
    exact congrArg x (Fin.ext (by show 2 + l.val - 1 = l.val + 1; omega))

/-- A store of 128 lanes, read at one of its lanes. -/
theorem lane_hit {n : ℕ} (o : ℕ) (inb) (w : (⟨3, ![1, 512, 128]⟩ : Shape).Idx → EReal) (L : List (View.Piece (Elt Idealize.ShloMosaic.Ideal) ⟨3, ![1, 512, n]⟩ .bf16))
    (r : Fin 512) (k : Fin n) (j : Fin 128) (h : k.val = o + j.val) :
    View.canon (⟨Rect.unit (s := ⟨3, ![1, 512, n]⟩) ![0, 0, o] ![1, 512, 128] inb, w⟩ :: L) (ix3 0 r k) = w (ix3 0 r j) := by
  have e : (ix3 0 r k : (⟨3, ![1, 512, n]⟩ : Shape).Idx) = (Rect.unit (s := ⟨3, ![1, 512, n]⟩) ![0, 0, o] ![1, 512, 128] inb).emb (ix3 0 r j) := by
    funext a
    apply Fin.ext
    rw [Rect.emb_apply]
    fin_cases a
    · rfl
    · show r.val = 0 + 1 * r.val; omega
    · show k.val = o + 1 * j.val; omega
  rw [e]
  exact View.canon_cons_emb _ _ _ _

/-- A store of 128 lanes, read off its lanes. -/
theorem lane_miss {n : ℕ} (o : ℕ) (inb) (w : (⟨3, ![1, 512, 128]⟩ : Shape).Idx → EReal) (L : List (View.Piece (Elt Idealize.ShloMosaic.Ideal) ⟨3, ![1, 512, n]⟩ .bf16))
    (r : Fin 512) (k : Fin n) (h : k.val < o ∨ o + 128 ≤ k.val) :
    View.canon (⟨Rect.unit (s := ⟨3, ![1, 512, n]⟩) ![0, 0, o] ![1, 512, 128] inb, w⟩ :: L) (ix3 0 r k) = View.canon L (ix3 0 r k) := by
  refine View.canon_cons_of_not_mem _ _ fun hm => ?_
  have hm' : ix3 0 r k ∈ (Rect.unit (s := ⟨3, ![1, 512, n]⟩) ![0, 0, o] ![1, 512, 128] inb).set := hm
  rw [Rect.mem_set_unit] at hm'
  have := hm' 2
  change o ≤ k.val ∧ k.val < o + 128 at this
  omega

end Cert.Taps
-- ==== Proof.HyShortValue.lean ====
module

public import proofs.«01_k».proof.Proof.Gen.HyShortIdeal.Value
public import Idealize.ShloMosaic.Lib.Pipeline.ValueKit
public import Idealize.ShloMosaic.Lib.Pointwise
public import proofs.«01_k».proof.Proof.Taps

@[expose] public section

set_option maxRecDepth 16384

noncomputable section

namespace Cert.HyShortIdeal.Short

open Cert.HyShortIdeal Cert.HyShortIdeal.Gen Idealize.ShloMosaic Idealize.ShloMosaic.TcCoe Idealize.SL.Sem
open Idealize.ShloMosaic.Pipeline (Dat)

variable (m : (ℓ : Loc nD τ sig) → Buf (Elt Ideal) ℓ)

open Cert.Taps (taps sel_eq)

/-- The short convolution at one entry. -/
def out (x : Vec Ideal S2x8192x12288 .bf16) (w : Vec Ideal S3x12288 .f32) (b : Vec Ideal S12288 .f32) : Vec Ideal S2x8192x12288 .bf16 := fun i =>
  taps (fun l => x (ix3 (i 0) l (i 2))) (fun d => w (ix2 d (i 2))) (i 1) + b (ix1 (i 2))

theorem idx : ∀ t : Fin cfg0.N, win0_0.index t = ![t.val / 192, t.val % 16, t.val / 16 % 12]
    ∧ win0_1.index t = ![t.val / 192, t.val % 16 * 32 - 1, t.val / 16 % 12]
    ∧ win0_2.index t = ![t.val / 192, min (t.val % 16 * 32 + 32) 511, t.val / 16 % 12]
    ∧ win0_3.index t = ![0, t.val / 16 % 12] ∧ win0_4.index t = ![0, t.val / 16 % 12]
    ∧ win0_5.index t = ![t.val / 192, t.val % 16, t.val / 16 % 12] ∧ (grid0.coords t 2).val = t.val % 16 :=
  (by decide +kernel : ∀ t : Fin grid0.N, _)

theorem pay3 (i : grid0.Coords) (x : Vec Ideal S1x512x1024 .bf16) (n : Vec Ideal S1x1x1024 .bf16) (r : Fin 512) (k : Fin 1024) :
    k0_pay3 i x n (ix2 r k) = if h : r.val = 511 then (if (i 2).val = 15 then 0 else n (ix3 0 0 k)) else x (ix3 0 ⟨r.val + 1, by omega⟩ k) := by
  have hi : (i 2).val < 16 := (i 2).isLt
  pointwise [k0_pay3, k0_pay2]
  refine (sel_eq _ _ (by omega) (by omega) _ _).trans ?_
  by_cases h : r.val = 511
  · rw [if_pos h, dif_pos h]
    exact sel_eq _ _ (by omega) (by omega) _ _
  · rw [if_neg h, dif_neg h]
    exact congrArg (fun j => x (ix3 0 j k)) (Fin.ext (by show (r.val + 512 - 511) % 512 = r.val + 1; omega))

theorem prev (i : grid0.Coords) (x : Vec Ideal S1x512x1024 .bf16) (p : EReal) (r : Fin 512) (k : Fin 1024) :
    Scalar.select (IntOp.cmpi CmpIPredicate.eq (BitVec.ofNat 32 r.val) 0#32) (Scalar.select (Scalar.cmpi CmpIPredicate.eq (BitVec.ofNat 32 (i 2).val) 0#32) 0 p)
        (x (ix3 0 ⟨(r.val + 512 - 1) % 512, Nat.mod_lt _ (by norm_num)⟩ k))
      = if h : r.val = 0 then (if (i 2).val = 0 then 0 else p) else x (ix3 0 ⟨r.val - 1, by omega⟩ k) := by
  have hi : (i 2).val < 16 := (i 2).isLt
  refine (sel_eq _ _ (by omega) (by omega) _ _).trans ?_
  by_cases h : r.val = 0
  · rw [if_pos h, dif_pos h]
    exact sel_eq _ _ (by omega) (by omega) _ _
  · rw [if_neg h, dif_neg h]
    exact congrArg (fun j => x (ix3 0 j k)) (Fin.ext (by show (r.val + 512 - 1) % 512 = r.val - 1; omega))

theorem pay4 (i : grid0.Coords) (x : Vec Ideal S1x512x1024 .bf16) (p : Vec Ideal S1x1x1024 .bf16) (w0 w1 : Vec Ideal S1x1024 .f32) (r : Fin 512) (k : Fin 1024) :
    k0_pay4 i x p w0 w1 (ix2 r k) = (if h : r.val = 0 then (if (i 2).val = 0 then 0 else p (ix3 0 0 k)) else x (ix3 0 ⟨r.val - 1, by omega⟩ k)) * w0 (ix2 0 k) + x (ix3 0 r k) * w1 (ix2 0 k) := by
  rw [← prev]
  pointwise [k0_pay4, k0_pay2]

theorem pay1 (n q : Vec Ideal S512x1024 .f32) (w2 b : Vec Ideal S1x1024 .f32) (r : Fin 512) (k : Fin 1024) :
    k0_pay1 n q w2 b (ix3 0 r k) = q (ix2 r k) + n (ix2 r k) * w2 (ix2 0 k) + b (ix2 0 k) := by
  pointwise [k0_pay1]

theorem blk0 (c : Dev nD) (t : Fin cfg0.N) (r : Fin 512) (k : Fin 1024) (a : Fin 2) (l : Fin 8192) (j : Fin 12288)
    (ha : a.val = t.val / 192) (hl : l.val = t.val % 16 * 512 + r.val) (hj : j.val = t.val / 16 % 12 * 1024 + k.val) :
    iblk m c 0 t (ix3 0 r k) = m ((c : Thread nD τ).loc main_arg0) (ix3 a l j) := by
  blk_simp [iblk, idx t]
  entry_read
  blk_ext [idx t, ha, hl, hj]

theorem blk1 (c : Dev nD) (t : Fin cfg0.N) (k : Fin 1024) (a : Fin 2) (l : Fin 8192) (j : Fin 12288)
    (ha : a.val = t.val / 192) (hl : l.val + 1 = t.val % 16 * 512) (hj : j.val = t.val / 16 % 12 * 1024 + k.val) :
    iblk m c 1 t (ix3 0 15 k) = m ((c : Thread nD τ).loc main_arg0) (ix3 a l j) := by
  blk_simp [iblk, idx t]
  entry_read
  blk_ext [idx t, ha, hj]

theorem blk2 (c : Dev nD) (t : Fin cfg0.N) (k : Fin 1024) (a : Fin 2) (l : Fin 8192) (j : Fin 12288)
    (ha : a.val = t.val / 192) (hl : l.val = t.val % 16 * 512 + 512) (hj : j.val = t.val / 16 % 12 * 1024 + k.val) :
    iblk m c 2 t (ix3 0 0 k) = m ((c : Thread nD τ).loc main_arg0) (ix3 a l j) := by
  blk_simp [iblk, idx t]
  entry_read
  blk_ext [idx t, ha, hj]

theorem blk3 (c : Dev nD) (t : Fin cfg0.N) (d : Fin 3) (k : Fin 1024) (j : Fin 12288) (hj : j.val = t.val / 16 % 12 * 1024 + k.val) :
    iblk m c 3 t (ix2 d k) = m ((c : Thread nD τ).loc main_arg1) (ix2 d j) := by
  blk_simp [iblk, idx t]
  entry_read
  blk_ext [idx t, hj]

theorem blk4 (c : Dev nD) (t : Fin cfg0.N) (k : Fin 1024) (j : Fin 12288) (hj : j.val = t.val / 16 % 12 * 1024 + k.val) :
    iblk m c 4 t (ix2 0 k) = m ((c : Thread nD τ).loc main_arg2) (ix1 j) := by
  blk_simp [iblk, idx t]
  entry_read
  pointwise
  blk_ext [idx t, hj]

theorem ld1 (X : Vec Ideal S1x16x1024 .bf16) (k : Fin 1024) : View.ld (Val := Elt Ideal) (e' := .bf16) X r0_1 (ix3 0 0 k) = X (ix3 0 15 k) :=
  congrArg X (funext fun a => Fin.ext (by fin_cases a <;> first | rfl | (show 0 + 1 * k.val = k.val; omega)))

theorem ld2 (X : Vec Ideal S1x16x1024 .bf16) (k : Fin 1024) : View.ld (Val := Elt Ideal) (e' := .bf16) X r0_2 (ix3 0 0 k) = X (ix3 0 0 k) :=
  congrArg X (funext fun a => Fin.ext (by fin_cases a <;> first | rfl | (show 0 + 1 * k.val = k.val; omega)))

theorem ld3 (X : Vec Ideal S3x1024 .f32) (k : Fin 1024) : View.ld (Val := Elt Ideal) (e' := .f32) X r0_3 (ix2 0 k) = X (ix2 0 k) :=
  congrArg X (funext fun a => Fin.ext (by fin_cases a <;> first | rfl | (show 0 + 1 * k.val = k.val; omega)))

theorem ld4 (X : Vec Ideal S3x1024 .f32) (k : Fin 1024) : View.ld (Val := Elt Ideal) (e' := .f32) X r0_4 (ix2 0 k) = X (ix2 1 k) :=
  congrArg X (funext fun a => Fin.ext (by fin_cases a <;> first | rfl | (show 0 + 1 * k.val = k.val; omega)))

theorem ld5 (X : Vec Ideal S3x1024 .f32) (k : Fin 1024) : View.ld (Val := Elt Ideal) (e' := .f32) X r0_5 (ix2 0 k) = X (ix2 2 k) :=
  congrArg X (funext fun a => Fin.ext (by fin_cases a <;> first | rfl | (show 0 + 1 * k.val = k.val; omega)))

/-- The taps of a block's row are the array's. -/
theorem block (c : Dev nD) (t : Fin cfg0.N) (X0 : Vec Ideal S1x512x1024 .bf16) (X1 X2 : Vec Ideal S1x16x1024 .bf16) (X3 : Vec Ideal S3x1024 .f32)
    (h0 : X0 = iblk m c 0 t) (h1 : X1 = iblk m c 1 t) (h2 : X2 = iblk m c 2 t) (h3 : X3 = iblk m c 3 t) (r : Fin 512) (k : Fin 1024) (a : Fin 2) (l : Fin 8192) (j : Fin 12288) (j' : Fin 12288)
    (ha : a.val = t.val / 192) (hl : l.val = t.val % 16 * 512 + r.val) (hj : j.val = t.val / 16 % 12 * 1024 + k.val)
    (hj' : j'.val = t.val / 16 % 12 * 1024 + k.val) :
    (if h : r.val = 0 then (if (grid0.coords t 2).val = 0 then 0 else X1 (ix3 0 15 k)) else X0 (ix3 0 ⟨r.val - 1, by omega⟩ k)) * X3 (ix2 0 k)
      + X0 (ix3 0 r k) * X3 (ix2 1 k)
      + (if h : r.val = 511 then (if (grid0.coords t 2).val = 15 then 0 else X2 (ix3 0 0 k)) else X0 (ix3 0 ⟨r.val + 1, by omega⟩ k)) * X3 (ix2 2 k)
      = taps (fun l => m ((c : Thread nD τ).loc main_arg0) (ix3 a l j)) (fun d => m ((c : Thread nD τ).loc main_arg1) (ix2 d j')) l := by
  have hr := r.isLt
  have hL := l.isLt
  have hp : (if h : r.val = 0 then (if (grid0.coords t 2).val = 0 then 0 else X1 (ix3 0 15 k)) else X0 (ix3 0 ⟨r.val - 1, by omega⟩ k))
      = (if h : l.val = 0 then 0 else m ((c : Thread nD τ).loc main_arg0) (ix3 a ⟨l.val - 1, by omega⟩ j) : Ideal .bf16) := by
    rw [(idx t).2.2.2.2.2.2]
    by_cases h : r.val = 0
    · rw [dif_pos h]
      by_cases h' : t.val % 16 = 0
      · rw [if_pos h', dif_pos (by omega)]
      · rw [if_neg h', dif_neg (by omega)]
        exact (congrFun h1 _).trans <| blk1 m c t k a _ j ha (by show l.val - 1 + 1 = _; omega) hj
    · rw [dif_neg h, dif_neg (by omega)]
      exact (congrFun h0 _).trans <| blk0 m c t _ k a _ j ha (by show l.val - 1 = t.val % 16 * 512 + (r.val - 1); omega) hj
  have hn : (if h : r.val = 511 then (if (grid0.coords t 2).val = 15 then 0 else X2 (ix3 0 0 k)) else X0 (ix3 0 ⟨r.val + 1, by omega⟩ k))
      = (if h : l.val = 8191 then 0 else m ((c : Thread nD τ).loc main_arg0) (ix3 a ⟨l.val + 1, by omega⟩ j) : Ideal .bf16) := by
    rw [(idx t).2.2.2.2.2.2]
    by_cases h : r.val = 511
    · rw [dif_pos h]
      by_cases h' : t.val % 16 = 15
      · rw [if_pos h', dif_pos (by omega)]
      · rw [if_neg h', dif_neg (by omega)]
        exact (congrFun h2 _).trans <| blk2 m c t k a _ j ha (by show l.val + 1 = _; omega) hj
    · rw [dif_neg h, dif_neg (by omega)]
      exact (congrFun h0 _).trans <| blk0 m c t _ k a _ j ha (by show l.val + 1 = t.val % 16 * 512 + (r.val + 1); omega) hj
  rw [hp, hn, (congrFun h0 _).trans (blk0 m c t r k a l j ha hl hj), (congrFun h3 _).trans (blk3 m c t 0 k j' hj'),
    (congrFun h3 _).trans (blk3 m c t 1 k j' hj'), (congrFun h3 _).trans (blk3 m c t 2 k j' hj')]
  rfl

theorem final (c : Dev nD) : (dats m 0 c).arrAt 5 cfg0.N = out (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold out0_5
  frame_out
  idx_vars y
  have e0 : ((((View.whole main_v1).slice (win0_5.rect t)).emb (ix3 y0 y1 y2)) 0).val = t.val / 192 := by
    blk_simp [idx t]
  have e1 : ((((View.whole main_v1).slice (win0_5.rect t)).emb (ix3 y0 y1 y2)) 1).val = t.val % 16 * 512 + y1.val := by
    blk_simp [idx t]
  have e2 : ((((View.whole main_v1).slice (win0_5.rect t)).emb (ix3 y0 y1 y2)) 2).val = t.val / 16 % 12 * 1024 + y2.val := by
    blk_simp [idx t]
  generalize ((View.whole main_v1).slice (win0_5.rect t)).emb (ix3 y0 y1 y2) = i at e0 e1 e2 ⊢
  obtain rfl : y0 = 0 := Subsingleton.elim _ _
  rw [pay1, pay3, pay4, ld1, ld2, ld3, ld4, ld5]
  exact congr (congrArg HAdd.hAdd (block m c t _ _ _ _ rfl rfl rfl rfl y1 y2 (i 0) (i 1) (i 2) (i 2) e0 e1 e2 e2)) (blk4 m c t y2 (i 2) e2)

end Cert.HyShortIdeal.Short
-- ==== Proof.HyShortClaim.lean ====
module

public import proofs.«01_k».proof.Defs
public import proofs.«01_k».proof.Proof.Gen.HyShortRefIdeal.Run
public import proofs.«01_k».proof.Proof.HyShortValue

@[expose] public section

set_option maxRecDepth 16384

noncomputable section

open Idealize.ShloMosaic Idealize.ShloMosaic.TcCoe Idealize.SL.Sem

namespace Cert.HyShortRefIdeal.Short

open Cert.HyShortRefIdeal.Gen

/-- The reference's operations composed, entry by entry. -/
theorem ref_eq (x : Vec Ideal Cert.HyShortRefIdeal.S2x8192x12288 .bf16) (w : Vec Ideal Cert.HyShortRefIdeal.S3x12288 .f32) (b : Vec Ideal Cert.HyShortRefIdeal.S12288 .f32) :
    truncf (F := Ideal) .bf16 (addf (addf (addf (mulf (extractStridedSlice S2x8192x12288 ![0, 0, 0] (pad S2x8194x12288 ![0, 1, 0] ![0, 1, 0] ![0, 0, 0] (extf .f32 x bitsLt_bf16_f32) (sitofp .f32 (constantI S_ 32 0#32)) pads_S2x8192x12288_S2x8194x12288_000_110_000 h_S_) slices_S2x8194x12288_S2x8192x12288_0_0_0) (broadcastInDim S2x8192x12288 ![0, 1, 2] bcast_S1x1x12288_S2x8192x12288_0_1_2 (broadcastInDim S1x1x12288 ![2] bcast_S12288_S1x1x12288_2 (shapeCast _ (extractStridedSlice S1x12288 ![0, 0] w slices_S3x12288_S1x12288_0_0) shapeCasts_S1x12288_S12288)))) (mulf (extractStridedSlice S2x8192x12288 ![0, 1, 0] (pad S2x8194x12288 ![0, 1, 0] ![0, 1, 0] ![0, 0, 0] (extf .f32 x bitsLt_bf16_f32) (sitofp .f32 (constantI S_ 32 0#32)) pads_S2x8192x12288_S2x8194x12288_000_110_000 h_S_) slices_S2x8194x12288_S2x8192x12288_0_1_0) (broadcastInDim S2x8192x12288 ![0, 1, 2] bcast_S1x1x12288_S2x8192x12288_0_1_2 (broadcastInDim S1x1x12288 ![2] bcast_S12288_S1x1x12288_2 (shapeCast _ (extractStridedSlice S1x12288 ![1, 0] w slices_S3x12288_S1x12288_1_0) shapeCasts_S1x12288_S12288))))) (mulf (extractStridedSlice S2x8192x12288 ![0, 2, 0] (pad S2x8194x12288 ![0, 1, 0] ![0, 1, 0] ![0, 0, 0] (extf .f32 x bitsLt_bf16_f32) (sitofp .f32 (constantI S_ 32 0#32)) pads_S2x8192x12288_S2x8194x12288_000_110_000 h_S_) slices_S2x8194x12288_S2x8192x12288_0_2_0) (broadcastInDim S2x8192x12288 ![0, 1, 2] bcast_S1x1x12288_S2x8192x12288_0_1_2 (broadcastInDim S1x1x12288 ![2] bcast_S12288_S1x1x12288_2 (shapeCast _ (extractStridedSlice S1x12288 ![2, 0] w slices_S3x12288_S1x12288_2_0) shapeCasts_S1x12288_S12288))))) (broadcastInDim S2x8192x12288 ![0, 1, 2] bcast_S1x1x12288_S2x8192x12288_0_1_2 (broadcastInDim S1x1x12288 ![2] bcast_S12288_S1x1x12288_2 b))) bitsLt_bf16_f32 = Cert.HyShortIdeal.Short.out x w b := by
  funext i
  idx_vars i
  pointwise [Cert.HyShortIdeal.Short.out, Cert.Taps.taps]
  refine congrArg (· + b (ix1 i2)) (congr (congrArg HAdd.hAdd (congrArg (· + x (ix3 i0 i1 i2) * w (ix2 1 i2)) (congrArg (· * w (ix2 0 i2)) ?_))) (congrArg (· * w (ix2 2 i2)) ?_))
  · exact Cert.Taps.pad_prev (fun l => x (ix3 i0 l i2)) i1
  · exact Cert.Taps.pad_next (fun l => x (ix3 i0 l i2)) i1

end Cert.HyShortRefIdeal.Short

namespace Cert.HyShortIdeal.Short

/-- The reference's result is the same array. -/
theorem ref (m : (ℓ : Loc Cert.HyShortRefIdeal.nD Cert.HyShortRefIdeal.τ Cert.HyShortRefIdeal.sig) → Buf (Elt Ideal) ℓ) (ρ : Dev Cert.HyShortRefIdeal.nD → PrngReg) :
    θ_run (Cert.HyShortRefIdeal.defs (F := Ideal)) (onTc (τ := Cert.HyShortRefIdeal.τ) (Cert.HyShortRefIdeal.main (F := Ideal))) ⟨m, fun _ => 0, ρ⟩ fun r => ∀ c : Dev Cert.HyShortRefIdeal.nD,
      r.2.mem ((c.tc : Thread Cert.HyShortRefIdeal.nD Cert.HyShortRefIdeal.τ).loc Cert.HyShortRefIdeal.main_v25)
        = out (m ((c.tc : Thread Cert.HyShortRefIdeal.nD Cert.HyShortRefIdeal.τ).loc Cert.HyShortRefIdeal.main_arg0)) (m ((c.tc : Thread Cert.HyShortRefIdeal.nD Cert.HyShortRefIdeal.τ).loc Cert.HyShortRefIdeal.main_arg1)) (m ((c.tc : Thread Cert.HyShortRefIdeal.nD Cert.HyShortRefIdeal.τ).loc Cert.HyShortRefIdeal.main_arg2))
      ∧ r.2.mem ((c.tc : Thread Cert.HyShortRefIdeal.nD Cert.HyShortRefIdeal.τ).loc Cert.HyShortRefIdeal.main_arg0) = m ((c.tc : Thread Cert.HyShortRefIdeal.nD Cert.HyShortRefIdeal.τ).loc Cert.HyShortRefIdeal.main_arg0)
      ∧ r.2.mem ((c.tc : Thread Cert.HyShortRefIdeal.nD Cert.HyShortRefIdeal.τ).loc Cert.HyShortRefIdeal.main_arg1) = m ((c.tc : Thread Cert.HyShortRefIdeal.nD Cert.HyShortRefIdeal.τ).loc Cert.HyShortRefIdeal.main_arg1)
      ∧ r.2.mem ((c.tc : Thread Cert.HyShortRefIdeal.nD Cert.HyShortRefIdeal.τ).loc Cert.HyShortRefIdeal.main_arg2) = m ((c.tc : Thread Cert.HyShortRefIdeal.nD Cert.HyShortRefIdeal.τ).loc Cert.HyShortRefIdeal.main_arg2) :=
  (θ_run _ _ _).mono (fun _ h c => ⟨(h c).1.trans (Cert.HyShortRefIdeal.Short.ref_eq _ _ _), (h c).2⟩) (Cert.HyShortRefIdeal.Value.run m ρ)

/-- The reference runs and leaves its arguments and every counter as they were. -/
theorem refFrame : Cert.quiescent_HyShortRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_HyShortIdeal_HyShortRefIdeal := fun m ρ m' ρ' _ hag =>
  ⟨fun c => out (m ((c.tc : Thread Cert.HyShortIdeal.nD Cert.HyShortIdeal.τ).loc Cert.HyShortIdeal.main_arg0)) (m ((c.tc : Thread Cert.HyShortIdeal.nD Cert.HyShortIdeal.τ).loc Cert.HyShortIdeal.main_arg1)) (m ((c.tc : Thread Cert.HyShortIdeal.nD Cert.HyShortIdeal.τ).loc Cert.HyShortIdeal.main_arg2)),
    (θ_run _ _ _).mono (fun _ h c => ⟨(h c).1.trans (final m c), (h c).2⟩) (Cert.HyShortIdeal.Value.run_blocks m ρ),
    (θ_run _ _ _).mono (fun _ h c => ⟨(h c).1.trans (by rw [(hag c).1, (hag c).2.1, (hag c).2.2]), (h c).2⟩) (ref m' ρ')⟩

end Cert.HyShortIdeal.Short
-- ==== Proof.GdnPreValue.lean ====
module

public import proofs.«01_k».proof.Proof.Gen.GdnPreIdeal.Value
public import Idealize.ShloMosaic.Lib.Pipeline.ValueKit
public import Idealize.ShloMosaic.Lib.Pointwise
public import proofs.«01_k».proof.Proof.Taps

@[expose] public section

set_option maxRecDepth 16384

noncomputable section

namespace Cert.GdnPreIdeal.Pre

open Cert.GdnPreIdeal Cert.GdnPreIdeal.Gen Idealize.ShloMosaic Idealize.ShloMosaic.TcCoe Idealize.SL.Sem
open Idealize.ShloMosaic.Pipeline (Dat)

variable (m : (ℓ : Loc nD τ sig) → Buf (Elt Ideal) ℓ)

open Cert.Taps (taps sel_eq sel_lt)

/-- A number times its logistic. -/
def silu (y : EReal) : EReal := y * Ideal.logistic y

/-- One lane of a head by its column block: a query head is made of unit length and scaled, a key head is made of unit length, a value head is left. -/
def scaled (g : ℕ) (s : Fin 128 → EReal) (k : Fin 128) : EReal :=
  if g < 8 then s k * (Ideal.rsqrt ((∑ j, s j * s j) + Ideal.ofBits FTy.f32 0x358637BD#32) * (if g < 4 then Ideal.ofBits FTy.f32 0x3DB504F3#32 else Ideal.ofBits FTy.f32 0x3F800000#32)) else s k

/-- The convolved and gated projection at one entry. -/
def mid (x : Vec Ideal S2x8192x16384 .bf16) (w : Vec Ideal S3x12288 .f32) (a : Fin 2) (l : Fin 8192) (j : Fin 12288) : EReal :=
  silu (taps (fun l => x (ix3 a l ⟨j.val, by omega⟩)) (fun d => w (ix2 d j)) l)

/-- The scan's inputs at one entry. -/
def out (x : Vec Ideal S2x8192x16384 .bf16) (w : Vec Ideal S3x12288 .f32) : Vec Ideal S2x8192x12288 .bf16 := fun i =>
  scaled ((i 2).val / 1024) (fun j => mid x w (i 0) (i 1) ⟨(i 2).val / 128 * 128 + j.val, by have := (i 2).isLt; change (i 2).val < 12288 at this; omega⟩)
    ⟨(i 2).val % 128, Nat.mod_lt _ (by norm_num)⟩

theorem idx : ∀ t : Fin cfg0.N, win0_0.index t = ![t.val / 192, t.val % 16, t.val / 16 % 12]
    ∧ win0_1.index t = ![t.val / 192, t.val % 16 * 32 - 1, t.val / 16 % 12]
    ∧ win0_2.index t = ![t.val / 192, min (t.val % 16 * 32 + 32) 511, t.val / 16 % 12]
    ∧ win0_3.index t = ![0, t.val / 16 % 12]
    ∧ win0_4.index t = ![t.val / 192, t.val % 16, t.val / 16 % 12] ∧ (grid0.coords t 2).val = t.val % 16 ∧ (grid0.coords t 1).val = t.val / 16 % 12 :=
  (by decide +kernel : ∀ t : Fin grid0.N, _)

theorem pay3 (i : grid0.Coords) (x : Vec Ideal S1x512x1024 .bf16) (n : Vec Ideal S1x1x1024 .bf16) (r : Fin 512) (k : Fin 1024) :
    k0_pay3 i x n (ix2 r k) = if h : r.val = 511 then (if (i 2).val = 15 then 0 else n (ix3 0 0 k)) else x (ix3 0 ⟨r.val + 1, by omega⟩ k) := by
  have hi : (i 2).val < 16 := (i 2).isLt
  pointwise [k0_pay3, k0_pay2]
  refine (sel_eq _ _ (by omega) (by omega) _ _).trans ?_
  by_cases h : r.val = 511
  · rw [if_pos h, dif_pos h]
    exact sel_eq _ _ (by omega) (by omega) _ _
  · rw [if_neg h, dif_neg h]
    exact congrArg (fun j => x (ix3 0 j k)) (Fin.ext (by show (r.val + 512 - 511) % 512 = r.val + 1; omega))

theorem prev (i : grid0.Coords) (x : Vec Ideal S1x512x1024 .bf16) (p : EReal) (r : Fin 512) (k : Fin 1024) :
    Scalar.select (IntOp.cmpi CmpIPredicate.eq (BitVec.ofNat 32 r.val) 0#32) (Scalar.select (Scalar.cmpi CmpIPredicate.eq (BitVec.ofNat 32 (i 2).val) 0#32) 0 p)
        (x (ix3 0 ⟨(r.val + 512 - 1) % 512, Nat.mod_lt _ (by norm_num)⟩ k))
      = if h : r.val = 0 then (if (i 2).val = 0 then 0 else p) else x (ix3 0 ⟨r.val - 1, by omega⟩ k) := by
  have hi : (i 2).val < 16 := (i 2).isLt
  refine (sel_eq _ _ (by omega) (by omega) _ _).trans ?_
  by_cases h : r.val = 0
  · rw [if_pos h, dif_pos h]
    exact sel_eq _ _ (by omega) (by omega) _ _
  · rw [if_neg h, dif_neg h]
    exact congrArg (fun j => x (ix3 0 j k)) (Fin.ext (by show (r.val + 512 - 1) % 512 = r.val - 1; omega))

theorem pay4 (i : grid0.Coords) (x : Vec Ideal S1x512x1024 .bf16) (p : Vec Ideal S1x1x1024 .bf16) (w0 w1 : Vec Ideal S1x1024 .f32) (r : Fin 512) (k : Fin 1024) :
    k0_pay4 i x p w0 w1 (ix2 r k) = (if h : r.val = 0 then (if (i 2).val = 0 then 0 else p (ix3 0 0 k)) else x (ix3 0 ⟨r.val - 1, by omega⟩ k)) * w0 (ix2 0 k) + x (ix3 0 r k) * w1 (ix2 0 k) := by
  rw [← prev]
  pointwise [k0_pay4, k0_pay2]

theorem pay5 (n q : Vec Ideal S512x1024 .f32) (w2 : Vec Ideal S1x1024 .f32) (r : Fin 512) (k : Fin 1024) :
    k0_pay5 n q w2 (ix2 r k) = silu (q (ix2 r k) + n (ix2 r k) * w2 (ix2 0 k)) := by
  pointwise [k0_pay5, silu]

theorem lane0 (g : ℕ) (hg : g < 12) (n q : Vec Ideal S512x1024 .f32) (w : Vec Ideal S1x1024 .f32) (r : Fin 512) (k : Fin 128) :
    k0_pay7 (BitVec.ofNat 32 g) n q w (ix3 0 r k) = scaled g (fun j => k0_pay5 n q w (ix2 r ⟨0 + j.val, by omega⟩)) k := by
  have e6 : k0_pay6 (F := Ideal) (BitVec.ofNat 32 g) = if g < 4 then Ideal.ofBits FTy.f32 0x3DB504F3#32 else Ideal.ofBits FTy.f32 0x3F800000#32 :=
    sel_lt g 4 (by omega) (by omega) _ _
  have e8 : ∀ x y : Vec Ideal S512x128 .f32, Scalar.select (Scalar.cmpi .slt (BitVec.ofNat 32 g) 8#32) x y = if g < 8 then x else y :=
    fun x y => sel_lt g 8 (by omega) (by omega) x y
  simp only [k0_pay7, e6, e8]
  generalize k0_pay5 n q w = v
  unfold scaled
  generalize (if g < 4 then Ideal.ofBits FTy.f32 0x3DB504F3#32 else Ideal.ofBits FTy.f32 0x3F800000#32 : EReal) = z
  split
  · pointwise
  · pointwise

theorem lane1 (g : ℕ) (hg : g < 12) (n q : Vec Ideal S512x1024 .f32) (w : Vec Ideal S1x1024 .f32) (r : Fin 512) (k : Fin 128) :
    k0_pay8 (BitVec.ofNat 32 g) n q w (ix3 0 r k) = scaled g (fun j => k0_pay5 n q w (ix2 r ⟨128 + j.val, by omega⟩)) k := by
  have e6 : k0_pay6 (F := Ideal) (BitVec.ofNat 32 g) = if g < 4 then Ideal.ofBits FTy.f32 0x3DB504F3#32 else Ideal.ofBits FTy.f32 0x3F800000#32 :=
    sel_lt g 4 (by omega) (by omega) _ _
  have e8 : ∀ x y : Vec Ideal S512x128 .f32, Scalar.select (Scalar.cmpi .slt (BitVec.ofNat 32 g) 8#32) x y = if g < 8 then x else y :=
    fun x y => sel_lt g 8 (by omega) (by omega) x y
  simp only [k0_pay8, e6, e8]
  generalize k0_pay5 n q w = v
  unfold scaled
  generalize (if g < 4 then Ideal.ofBits FTy.f32 0x3DB504F3#32 else Ideal.ofBits FTy.f32 0x3F800000#32 : EReal) = z
  split
  · pointwise
  · pointwise

theorem lane2 (g : ℕ) (hg : g < 12) (v : Vec Ideal S512x1024 .f32) (r : Fin 512) (k : Fin 128) :
    k0_pay9 (F := Ideal) (BitVec.ofNat 32 g) v (k0_pay6 (F := Ideal) (BitVec.ofNat 32 g)) (ix3 0 r k) = scaled g (fun j => v (ix2 r ⟨256 + j.val, by omega⟩)) k := by
  have e6 : k0_pay6 (F := Ideal) (BitVec.ofNat 32 g) = if g < 4 then Ideal.ofBits FTy.f32 0x3DB504F3#32 else Ideal.ofBits FTy.f32 0x3F800000#32 :=
    sel_lt g 4 (by omega) (by omega) _ _
  have e8 : ∀ x y : Vec Ideal S512x128 .f32, Scalar.select (Scalar.cmpi .slt (BitVec.ofNat 32 g) 8#32) x y = if g < 8 then x else y :=
    fun x y => sel_lt g 8 (by omega) (by omega) x y
  simp only [k0_pay9, e6, e8]
  unfold scaled
  generalize (if g < 4 then Ideal.ofBits FTy.f32 0x3DB504F3#32 else Ideal.ofBits FTy.f32 0x3F800000#32 : EReal) = z
  split
  · pointwise
  · pointwise

theorem lane3 (g : ℕ) (hg : g < 12) (v : Vec Ideal S512x1024 .f32) (r : Fin 512) (k : Fin 128) :
    k0_pay10 (F := Ideal) (BitVec.ofNat 32 g) v (k0_pay6 (F := Ideal) (BitVec.ofNat 32 g)) (ix3 0 r k) = scaled g (fun j => v (ix2 r ⟨384 + j.val, by omega⟩)) k := by
  have e6 : k0_pay6 (F := Ideal) (BitVec.ofNat 32 g) = if g < 4 then Ideal.ofBits FTy.f32 0x3DB504F3#32 else Ideal.ofBits FTy.f32 0x3F800000#32 :=
    sel_lt g 4 (by omega) (by omega) _ _
  have e8 : ∀ x y : Vec Ideal S512x128 .f32, Scalar.select (Scalar.cmpi .slt (BitVec.ofNat 32 g) 8#32) x y = if g < 8 then x else y :=
    fun x y => sel_lt g 8 (by omega) (by omega) x y
  simp only [k0_pay10, e6, e8]
  unfold scaled
  generalize (if g < 4 then Ideal.ofBits FTy.f32 0x3DB504F3#32 else Ideal.ofBits FTy.f32 0x3F800000#32 : EReal) = z
  split
  · pointwise
  · pointwise

theorem lane4 (g : ℕ) (hg : g < 12) (v : Vec Ideal S512x1024 .f32) (r : Fin 512) (k : Fin 128) :
    k0_pay13 (F := Ideal) (BitVec.ofNat 32 g) (k0_pay11 v) (k0_pay12 v (k0_pay6 (F := Ideal) (BitVec.ofNat 32 g))) (ix3 0 r k) = scaled g (fun j => v (ix2 r ⟨512 + j.val, by omega⟩)) k := by
  have e6 : k0_pay6 (F := Ideal) (BitVec.ofNat 32 g) = if g < 4 then Ideal.ofBits FTy.f32 0x3DB504F3#32 else Ideal.ofBits FTy.f32 0x3F800000#32 :=
    sel_lt g 4 (by omega) (by omega) _ _
  have e8 : ∀ x y : Vec Ideal S512x128 .f32, Scalar.select (Scalar.cmpi .slt (BitVec.ofNat 32 g) 8#32) x y = if g < 8 then x else y :=
    fun x y => sel_lt g 8 (by omega) (by omega) x y
  simp only [k0_pay13, k0_pay12, k0_pay11, e6, e8]
  unfold scaled
  generalize (if g < 4 then Ideal.ofBits FTy.f32 0x3DB504F3#32 else Ideal.ofBits FTy.f32 0x3F800000#32 : EReal) = z
  split
  · pointwise
  · pointwise

theorem lane5 (g : ℕ) (hg : g < 12) (v : Vec Ideal S512x1024 .f32) (r : Fin 512) (k : Fin 128) :
    k0_pay14 (F := Ideal) (BitVec.ofNat 32 g) v (k0_pay6 (F := Ideal) (BitVec.ofNat 32 g)) (ix3 0 r k) = scaled g (fun j => v (ix2 r ⟨640 + j.val, by omega⟩)) k := by
  have e6 : k0_pay6 (F := Ideal) (BitVec.ofNat 32 g) = if g < 4 then Ideal.ofBits FTy.f32 0x3DB504F3#32 else Ideal.ofBits FTy.f32 0x3F800000#32 :=
    sel_lt g 4 (by omega) (by omega) _ _
  have e8 : ∀ x y : Vec Ideal S512x128 .f32, Scalar.select (Scalar.cmpi .slt (BitVec.ofNat 32 g) 8#32) x y = if g < 8 then x else y :=
    fun x y => sel_lt g 8 (by omega) (by omega) x y
  simp only [k0_pay14, e6, e8]
  unfold scaled
  generalize (if g < 4 then Ideal.ofBits FTy.f32 0x3DB504F3#32 else Ideal.ofBits FTy.f32 0x3F800000#32 : EReal) = z
  split
  · pointwise
  · pointwise

theorem lane6 (g : ℕ) (hg : g < 12) (v : Vec Ideal S512x1024 .f32) (r : Fin 512) (k : Fin 128) :
    k0_pay15 (F := Ideal) (BitVec.ofNat 32 g) v (k0_pay6 (F := Ideal) (BitVec.ofNat 32 g)) (ix3 0 r k) = scaled g (fun j => v (ix2 r ⟨768 + j.val, by omega⟩)) k := by
  have e6 : k0_pay6 (F := Ideal) (BitVec.ofNat 32 g) = if g < 4 then Ideal.ofBits FTy.f32 0x3DB504F3#32 else Ideal.ofBits FTy.f32 0x3F800000#32 :=
    sel_lt g 4 (by omega) (by omega) _ _
  have e8 : ∀ x y : Vec Ideal S512x128 .f32, Scalar.select (Scalar.cmpi .slt (BitVec.ofNat 32 g) 8#32) x y = if g < 8 then x else y :=
    fun x y => sel_lt g 8 (by omega) (by omega) x y
  simp only [k0_pay15, e6, e8]
  unfold scaled
  generalize (if g < 4 then Ideal.ofBits FTy.f32 0x3DB504F3#32 else Ideal.ofBits FTy.f32 0x3F800000#32 : EReal) = z
  split
  · pointwise
  · pointwise

theorem lane7 (g : ℕ) (hg : g < 12) (v : Vec Ideal S512x1024 .f32) (r : Fin 512) (k : Fin 128) :
    k0_pay1 (F := Ideal) (BitVec.ofNat 32 g) v (k0_pay6 (F := Ideal) (BitVec.ofNat 32 g)) (ix3 0 r k) = scaled g (fun j => v (ix2 r ⟨896 + j.val, by omega⟩)) k := by
  have e6 : k0_pay6 (F := Ideal) (BitVec.ofNat 32 g) = if g < 4 then Ideal.ofBits FTy.f32 0x3DB504F3#32 else Ideal.ofBits FTy.f32 0x3F800000#32 :=
    sel_lt g 4 (by omega) (by omega) _ _
  have e8 : ∀ x y : Vec Ideal S512x128 .f32, Scalar.select (Scalar.cmpi .slt (BitVec.ofNat 32 g) 8#32) x y = if g < 8 then x else y :=
    fun x y => sel_lt g 8 (by omega) (by omega) x y
  simp only [k0_pay1, e6, e8]
  unfold scaled
  generalize (if g < 4 then Ideal.ofBits FTy.f32 0x3DB504F3#32 else Ideal.ofBits FTy.f32 0x3F800000#32 : EReal) = z
  split
  · pointwise
  · pointwise

theorem blk0 (c : Dev nD) (t : Fin cfg0.N) (r : Fin 512) (k : Fin 1024) (a : Fin 2) (l : Fin 8192) (j : Fin 16384)
    (ha : a.val = t.val / 192) (hl : l.val = t.val % 16 * 512 + r.val) (hj : j.val = t.val / 16 % 12 * 1024 + k.val) :
    iblk m c 0 t (ix3 0 r k) = m ((c : Thread nD τ).loc main_arg0) (ix3 a l j) := by
  blk_simp [iblk, idx t]
  entry_read
  blk_ext [idx t, ha, hl, hj]

theorem blk1 (c : Dev nD) (t : Fin cfg0.N) (k : Fin 1024) (a : Fin 2) (l : Fin 8192) (j : Fin 16384)
    (ha : a.val = t.val / 192) (hl : l.val + 1 = t.val % 16 * 512) (hj : j.val = t.val / 16 % 12 * 1024 + k.val) :
    iblk m c 1 t (ix3 0 15 k) = m ((c : Thread nD τ).loc main_arg0) (ix3 a l j) := by
  blk_simp [iblk, idx t]
  entry_read
  blk_ext [idx t, ha, hj]

theorem blk2 (c : Dev nD) (t : Fin cfg0.N) (k : Fin 1024) (a : Fin 2) (l : Fin 8192) (j : Fin 16384)
    (ha : a.val = t.val / 192) (hl : l.val = t.val % 16 * 512 + 512) (hj : j.val = t.val / 16 % 12 * 1024 + k.val) :
    iblk m c 2 t (ix3 0 0 k) = m ((c : Thread nD τ).loc main_arg0) (ix3 a l j) := by
  blk_simp [iblk, idx t]
  entry_read
  blk_ext [idx t, ha, hj]

theorem blk3 (c : Dev nD) (t : Fin cfg0.N) (d : Fin 3) (k : Fin 1024) (j : Fin 12288) (hj : j.val = t.val / 16 % 12 * 1024 + k.val) :
    iblk m c 3 t (ix2 d k) = m ((c : Thread nD τ).loc main_arg1) (ix2 d j) := by
  blk_simp [iblk, idx t]
  entry_read
  blk_ext [idx t, hj]

theorem ld1 (X : Vec Ideal S1x16x1024 .bf16) (k : Fin 1024) : View.ld (Val := Elt Ideal) (e' := .bf16) X r0_1 (ix3 0 0 k) = X (ix3 0 15 k) :=
  congrArg X (funext fun a => Fin.ext (by fin_cases a <;> first | rfl | (show 0 + 1 * k.val = k.val; omega)))

theorem ld2 (X : Vec Ideal S1x16x1024 .bf16) (k : Fin 1024) : View.ld (Val := Elt Ideal) (e' := .bf16) X r0_2 (ix3 0 0 k) = X (ix3 0 0 k) :=
  congrArg X (funext fun a => Fin.ext (by fin_cases a <;> first | rfl | (show 0 + 1 * k.val = k.val; omega)))

theorem ld3 (X : Vec Ideal S3x1024 .f32) (k : Fin 1024) : View.ld (Val := Elt Ideal) (e' := .f32) X r0_3 (ix2 0 k) = X (ix2 0 k) :=
  congrArg X (funext fun a => Fin.ext (by fin_cases a <;> first | rfl | (show 0 + 1 * k.val = k.val; omega)))

theorem ld4 (X : Vec Ideal S3x1024 .f32) (k : Fin 1024) : View.ld (Val := Elt Ideal) (e' := .f32) X r0_4 (ix2 0 k) = X (ix2 1 k) :=
  congrArg X (funext fun a => Fin.ext (by fin_cases a <;> first | rfl | (show 0 + 1 * k.val = k.val; omega)))

theorem ld5 (X : Vec Ideal S3x1024 .f32) (k : Fin 1024) : View.ld (Val := Elt Ideal) (e' := .f32) X r0_5 (ix2 0 k) = X (ix2 2 k) :=
  congrArg X (funext fun a => Fin.ext (by fin_cases a <;> first | rfl | (show 0 + 1 * k.val = k.val; omega)))

/-- The taps of a block's row are the array's. -/
theorem block (c : Dev nD) (t : Fin cfg0.N) (X0 : Vec Ideal S1x512x1024 .bf16) (X1 X2 : Vec Ideal S1x16x1024 .bf16) (X3 : Vec Ideal S3x1024 .f32)
    (h0 : X0 = iblk m c 0 t) (h1 : X1 = iblk m c 1 t) (h2 : X2 = iblk m c 2 t) (h3 : X3 = iblk m c 3 t) (r : Fin 512) (k : Fin 1024) (a : Fin 2) (l : Fin 8192) (j : Fin 16384) (j' : Fin 12288)
    (ha : a.val = t.val / 192) (hl : l.val = t.val % 16 * 512 + r.val) (hj : j.val = t.val / 16 % 12 * 1024 + k.val)
    (hj' : j'.val = t.val / 16 % 12 * 1024 + k.val) :
    (if h : r.val = 0 then (if (grid0.coords t 2).val = 0 then 0 else X1 (ix3 0 15 k)) else X0 (ix3 0 ⟨r.val - 1, by omega⟩ k)) * X3 (ix2 0 k)
      + X0 (ix3 0 r k) * X3 (ix2 1 k)
      + (if h : r.val = 511 then (if (grid0.coords t 2).val = 15 then 0 else X2 (ix3 0 0 k)) else X0 (ix3 0 ⟨r.val + 1, by omega⟩ k)) * X3 (ix2 2 k)
      = taps (fun l => m ((c : Thread nD τ).loc main_arg0) (ix3 a l j)) (fun d => m ((c : Thread nD τ).loc main_arg1) (ix2 d j')) l := by
  have hr := r.isLt
  have hL := l.isLt
  have hp : (if h : r.val = 0 then (if (grid0.coords t 2).val = 0 then 0 else X1 (ix3 0 15 k)) else X0 (ix3 0 ⟨r.val - 1, by omega⟩ k))
      = (if h : l.val = 0 then 0 else m ((c : Thread nD τ).loc main_arg0) (ix3 a ⟨l.val - 1, by omega⟩ j) : Ideal .bf16) := by
    rw [(idx t).2.2.2.2.2.1]
    by_cases h : r.val = 0
    · rw [dif_pos h]
      by_cases h' : t.val % 16 = 0
      · rw [if_pos h', dif_pos (by omega)]
      · rw [if_neg h', dif_neg (by omega)]
        exact (congrFun h1 _).trans <| blk1 m c t k a _ j ha (by show l.val - 1 + 1 = _; omega) hj
    · rw [dif_neg h, dif_neg (by omega)]
      exact (congrFun h0 _).trans <| blk0 m c t _ k a _ j ha (by show l.val - 1 = t.val % 16 * 512 + (r.val - 1); omega) hj
  have hn : (if h : r.val = 511 then (if (grid0.coords t 2).val = 15 then 0 else X2 (ix3 0 0 k)) else X0 (ix3 0 ⟨r.val + 1, by omega⟩ k))
      = (if h : l.val = 8191 then 0 else m ((c : Thread nD τ).loc main_arg0) (ix3 a ⟨l.val + 1, by omega⟩ j) : Ideal .bf16) := by
    rw [(idx t).2.2.2.2.2.1]
    by_cases h : r.val = 511
    · rw [dif_pos h]
      by_cases h' : t.val % 16 = 15
      · rw [if_pos h', dif_pos (by omega)]
      · rw [if_neg h', dif_neg (by omega)]
        exact (congrFun h2 _).trans <| blk2 m c t k a _ j ha (by show l.val + 1 = _; omega) hj
    · rw [dif_neg h, dif_neg (by omega)]
      exact (congrFun h0 _).trans <| blk0 m c t _ k a _ j ha (by show l.val + 1 = t.val % 16 * 512 + (r.val + 1); omega) hj
  rw [hp, hn, (congrFun h0 _).trans (blk0 m c t r k a l j ha hl hj), (congrFun h3 _).trans (blk3 m c t 0 k j' hj'),
    (congrFun h3 _).trans (blk3 m c t 1 k j' hj'), (congrFun h3 _).trans (blk3 m c t 2 k j' hj')]
  rfl

theorem mid_eq (c : Dev nD) (t : Fin cfg0.N) (X0 : Vec Ideal S1x512x1024 .bf16) (X1 X2 : Vec Ideal S1x16x1024 .bf16) (X3 : Vec Ideal S3x1024 .f32)
    (h0 : X0 = iblk m c 0 t) (h1 : X1 = iblk m c 1 t) (h2 : X2 = iblk m c 2 t) (h3 : X3 = iblk m c 3 t) (r : Fin 512) (k : Fin 1024) (a : Fin 2) (l : Fin 8192) (j : Fin 12288)
    (ha : a.val = t.val / 192) (hl : l.val = t.val % 16 * 512 + r.val) (hj : j.val = t.val / 16 % 12 * 1024 + k.val) :
    k0_pay5 (k0_pay3 (grid0.coords t) X0 (View.ld (Val := Elt Ideal) (e' := .bf16) X2 r0_2))
      (k0_pay4 (grid0.coords t) X0 (View.ld (Val := Elt Ideal) (e' := .bf16) X1 r0_1) (View.ld (Val := Elt Ideal) (e' := .f32) X3 r0_3) (View.ld (Val := Elt Ideal) (e' := .f32) X3 r0_4))
      (View.ld (Val := Elt Ideal) (e' := .f32) X3 r0_5) (ix2 r k)
      = mid (m ((c : Thread nD τ).loc main_arg0)) (m ((c : Thread nD τ).loc main_arg1)) a l j := by
  rw [pay5, pay3, pay4, ld1, ld2, ld3, ld4, ld5]
  exact congrArg silu (block m c t X0 X1 X2 X3 h0 h1 h2 h3 r k a l ⟨j.val, by omega⟩ j ha hl hj hj)

theorem final (c : Dev nD) : (dats m 0 c).arrAt 4 cfg0.N = out (m ((c : Thread nD τ).loc main_arg0)) (m ((c : Thread nD τ).loc main_arg1)) := by
  refine (dats m 0 c).arrAt_eq_of_covers 4 _ (by decide +kernel) fun t hf y => ?_
  blk_simp
  rw [after0_4]
  unfold_out out0_4
  frame_out
  idx_vars y
  have e0 : ((((View.whole main_v0).slice (win0_4.rect t)).emb (ix3 y0 y1 y2)) 0).val = t.val / 192 := by
    blk_simp [idx t]
  have e1 : ((((View.whole main_v0).slice (win0_4.rect t)).emb (ix3 y0 y1 y2)) 1).val = t.val % 16 * 512 + y1.val := by
    blk_simp [idx t]
  have e2 : ((((View.whole main_v0).slice (win0_4.rect t)).emb (ix3 y0 y1 y2)) 2).val = t.val / 16 % 12 * 1024 + y2.val := by
    blk_simp [idx t]
  generalize ((View.whole main_v0).slice (win0_4.rect t)).emb (ix3 y0 y1 y2) = i at e0 e1 e2 ⊢
  obtain rfl : y0 = 0 := Subsingleton.elim _ _
  have hg : (grid0.coords t 1).val < 12 := (grid0.coords t 1).isLt
  have key : ∀ (v : Vec Ideal S512x1024 .f32) (hv : v = k0_pay5 (k0_pay3 (grid0.coords t) (iblk m c 0 t) (View.ld (iblk m c 2 t) r0_2))
      (k0_pay4 (grid0.coords t) (iblk m c 0 t) (View.ld (iblk m c 1 t) r0_1) (View.ld (iblk m c 3 t) r0_3) (View.ld (iblk m c 3 t) r0_4)) (View.ld (iblk m c 3 t) r0_5))
      (o : ℕ) (k : Fin 128) (ho : o % 128 = 0) (ho' : o ≤ 896) (hk : y2.val = o + k.val),
      scaled (grid0.coords t 1).val (fun j => v (ix2 y1 ⟨o + j.val, by omega⟩)) k
        = out (m ((c : Thread nD τ).loc main_arg0)) (m ((c : Thread nD τ).loc main_arg1)) i := by
    intro v hv o k ho ho' hk
    have hi2 : (i 2).val < 12288 := (i 2).isLt
    have hkk : k = ⟨(i 2).val % 128, Nat.mod_lt _ (by norm_num)⟩ := Fin.ext (by show k.val = (i 2).val % 128; omega)
    have hgg : (grid0.coords t 1).val = (i 2).val / 1024 := by rw [(idx t).2.2.2.2.2.2]; omega
    unfold out
    rw [← hkk, ← hgg]
    refine congrFun (congrArg (scaled _) (funext fun j => ?_)) k
    exact (congrFun hv _).trans <| mid_eq m c t _ _ _ _ rfl rfl rfl rfl y1 ⟨o + j.val, by omega⟩ (i 0) (i 1) _ e0 e1
      (by show (i 2).val / 128 * 128 + j.val = t.val / 16 % 12 * 1024 + (o + j.val); omega)
  by_cases h7 : 896 ≤ y2.val
  · obtain ⟨k, hk⟩ : ∃ k : Fin 128, y2.val = 896 + k.val := ⟨⟨y2.val - 896, by omega⟩, by show y2.val = 896 + (y2.val - 896); omega⟩
    refine (Cert.Taps.lane_hit 896 _ _ _ y1 y2 k hk).trans ?_
    exact (lane7 _ hg _ _ _).trans (key _ rfl 896 k (by norm_num) (by norm_num) hk)
  refine (Cert.Taps.lane_miss 896 _ _ _ y1 y2 (by omega)).trans ?_
  by_cases h6 : 768 ≤ y2.val
  · obtain ⟨k, hk⟩ : ∃ k : Fin 128, y2.val = 768 + k.val := ⟨⟨y2.val - 768, by omega⟩, by show y2.val = 768 + (y2.val - 768); omega⟩
    refine (Cert.Taps.lane_hit 768 _ _ _ y1 y2 k hk).trans ?_
    exact (lane6 _ hg _ _ _).trans (key _ rfl 768 k (by norm_num) (by norm_num) hk)
  refine (Cert.Taps.lane_miss 768 _ _ _ y1 y2 (by omega)).trans ?_
  by_cases h5 : 640 ≤ y2.val
  · obtain ⟨k, hk⟩ : ∃ k : Fin 128, y2.val = 640 + k.val := ⟨⟨y2.val - 640, by omega⟩, by show y2.val = 640 + (y2.val - 640); omega⟩
    refine (Cert.Taps.lane_hit 640 _ _ _ y1 y2 k hk).trans ?_
    exact (lane5 _ hg _ _ _).trans (key _ rfl 640 k (by norm_num) (by norm_num) hk)
  refine (Cert.Taps.lane_miss 640 _ _ _ y1 y2 (by omega)).trans ?_
  by_cases h4 : 512 ≤ y2.val
  · obtain ⟨k, hk⟩ : ∃ k : Fin 128, y2.val = 512 + k.val := ⟨⟨y2.val - 512, by omega⟩, by show y2.val = 512 + (y2.val - 512); omega⟩
    refine (Cert.Taps.lane_hit 512 _ _ _ y1 y2 k hk).trans ?_
    exact (lane4 _ hg _ _ _).trans (key _ rfl 512 k (by norm_num) (by norm_num) hk)
  refine (Cert.Taps.lane_miss 512 _ _ _ y1 y2 (by omega)).trans ?_
  by_cases h3 : 384 ≤ y2.val
  · obtain ⟨k, hk⟩ : ∃ k : Fin 128, y2.val = 384 + k.val := ⟨⟨y2.val - 384, by omega⟩, by show y2.val = 384 + (y2.val - 384); omega⟩
    refine (Cert.Taps.lane_hit 384 _ _ _ y1 y2 k hk).trans ?_
    exact (lane3 _ hg _ _ _).trans (key _ rfl 384 k (by norm_num) (by norm_num) hk)
  refine (Cert.Taps.lane_miss 384 _ _ _ y1 y2 (by omega)).trans ?_
  by_cases h2 : 256 ≤ y2.val
  · obtain ⟨k, hk⟩ : ∃ k : Fin 128, y2.val = 256 + k.val := ⟨⟨y2.val - 256, by omega⟩, by show y2.val = 256 + (y2.val - 256); omega⟩
    refine (Cert.Taps.lane_hit 256 _ _ _ y1 y2 k hk).trans ?_
    exact (lane2 _ hg _ _ _).trans (key _ rfl 256 k (by norm_num) (by norm_num) hk)
  refine (Cert.Taps.lane_miss 256 _ _ _ y1 y2 (by omega)).trans ?_
  by_cases h1 : 128 ≤ y2.val
  · obtain ⟨k, hk⟩ : ∃ k : Fin 128, y2.val = 128 + k.val := ⟨⟨y2.val - 128, by omega⟩, by show y2.val = 128 + (y2.val - 128); omega⟩
    refine (Cert.Taps.lane_hit 128 _ _ _ y1 y2 k hk).trans ?_
    exact (lane1 _ hg _ _ _ _ _).trans (key _ rfl 128 k (by norm_num) (by norm_num) hk)
  refine (Cert.Taps.lane_miss 128 _ _ _ y1 y2 (by omega)).trans ?_
  obtain ⟨k, hk⟩ : ∃ k : Fin 128, y2.val = 0 + k.val := ⟨⟨y2.val - 0, by omega⟩, by show y2.val = 0 + (y2.val - 0); omega⟩
  refine (Cert.Taps.lane_hit 0 _ _ _ y1 y2 k hk).trans ?_
  exact (lane0 _ hg _ _ _ _ _).trans (key _ rfl 0 k (by norm_num) (by norm_num) hk)

end Cert.GdnPreIdeal.Pre
-- ==== Proof.GdnPreClaim.lean ====
module

public import proofs.«01_k».proof.Defs
public import proofs.«01_k».proof.Proof.Gen.GdnPreRefIdeal.Run
public import proofs.«01_k».proof.Proof.GdnPreValue

@[expose] public section

set_option maxRecDepth 16384

noncomputable section

open Idealize.ShloMosaic Idealize.ShloMosaic.TcCoe Idealize.SL.Sem

namespace Cert.GdnPreRefIdeal.Pre

open Cert.GdnPreRefIdeal.Gen

/-- The reference's short convolution. -/
def conv (x : FVec Ideal S2x8192x16384 .bf16) (w : FVec Ideal S3x12288 .f32) : FVec Ideal S2x8192x12288 .f32 :=
  addf (addf (mulf (extractStridedSlice S2x8192x12288 ![0, 0, 0] (pad S2x8194x12288 ![0, 1, 0] ![0, 1, 0] ![0, 0, 0] (extf .f32 (extractStridedSlice S2x8192x12288 ![0, 0, 0] x slices_S2x8192x16384_S2x8192x12288_0_0_0) bitsLt_bf16_f32) (sitofp .f32 (constantI S_ 32 0#32)) pads_S2x8192x12288_S2x8194x12288_000_110_000 h_S_) slices_S2x8194x12288_S2x8192x12288_0_0_0) (broadcastInDim S2x8192x12288 ![0, 1, 2] bcast_S1x1x12288_S2x8192x12288_0_1_2 (broadcastInDim S1x1x12288 ![2] bcast_S12288_S1x1x12288_2 (shapeCast _ (extractStridedSlice S1x12288 ![0, 0] w slices_S3x12288_S1x12288_0_0) shapeCasts_S1x12288_S12288)))) (mulf (extractStridedSlice S2x8192x12288 ![0, 1, 0] (pad S2x8194x12288 ![0, 1, 0] ![0, 1, 0] ![0, 0, 0] (extf .f32 (extractStridedSlice S2x8192x12288 ![0, 0, 0] x slices_S2x8192x16384_S2x8192x12288_0_0_0) bitsLt_bf16_f32) (sitofp .f32 (constantI S_ 32 0#32)) pads_S2x8192x12288_S2x8194x12288_000_110_000 h_S_) slices_S2x8194x12288_S2x8192x12288_0_1_0) (broadcastInDim S2x8192x12288 ![0, 1, 2] bcast_S1x1x12288_S2x8192x12288_0_1_2 (broadcastInDim S1x1x12288 ![2] bcast_S12288_S1x1x12288_2 (shapeCast _ (extractStridedSlice S1x12288 ![1, 0] w slices_S3x12288_S1x12288_1_0) shapeCasts_S1x12288_S12288))))) (mulf (extractStridedSlice S2x8192x12288 ![0, 2, 0] (pad S2x8194x12288 ![0, 1, 0] ![0, 1, 0] ![0, 0, 0] (extf .f32 (extractStridedSlice S2x8192x12288 ![0, 0, 0] x slices_S2x8192x16384_S2x8192x12288_0_0_0) bitsLt_bf16_f32) (sitofp .f32 (constantI S_ 32 0#32)) pads_S2x8192x12288_S2x8194x12288_000_110_000 h_S_) slices_S2x8194x12288_S2x8192x12288_0_2_0) (broadcastInDim S2x8192x12288 ![0, 1, 2] bcast_S1x1x12288_S2x8192x12288_0_1_2 (broadcastInDim S1x1x12288 ![2] bcast_S12288_S1x1x12288_2 (shapeCast _ (extractStridedSlice S1x12288 ![2, 0] w slices_S3x12288_S1x12288_2_0) shapeCasts_S1x12288_S12288))))

/-- The reference's gate. -/
def act (v : FVec Ideal S2x8192x12288 .f32) : FVec Ideal S2x8192x12288 .f32 :=
  mulf v (Host.divf (broadcastInDim S2x8192x12288 ![] bcast_S_S2x8192x12288 (constant S_ .f32 0x3F800000#32)) (addf (broadcastInDim S2x8192x12288 ![] bcast_S_S2x8192x12288 (constant S_ .f32 0x3F800000#32)) (Host.exp (Host.negf v))))

/-- The reference's heads made of unit length. -/
def normed (y : FVec Ideal S2x8192x32x128 .f32) : FVec Ideal S2x8192x32x128 .f32 :=
  mulf y (broadcastInDim S2x8192x32x128 ![0, 1, 2, 3] bcast_S2x8192x32x1_S2x8192x32x128_0_1_2_3 (Host.rsqrt (addf (broadcastInDim S2x8192x32x1 ![0, 1, 2] bcast_S2x8192x32_S2x8192x32x1_0_1_2 (Host.reduceAdd (mulf y y) (constant S_ .f32 0x00000000#32) reducesTo_S2x8192x32x128_S2x8192x32_d3 h_S_)) (broadcastInDim S2x8192x32x1 ![] bcast_S_S2x8192x32x1 (constant S_ .f32 0x358637BD#32)))))

def qpart (v : FVec Ideal S2x8192x12288 .f32) : FVec Ideal S2x8192x4096 .f32 :=
  shapeCast _ (mulf (normed (shapeCast _ (extractStridedSlice S2x8192x4096 ![0, 0, 0] v slices_S2x8192x12288_S2x8192x4096_0_0_0) shapeCasts_S2x8192x4096_S2x8192x32x128)) (broadcastInDim S2x8192x32x128 ![] bcast_S_S2x8192x32x128 (constant S_ .f32 0x3DB504F3#32))) shapeCasts_S2x8192x32x128_S2x8192x4096

def kpart (v : FVec Ideal S2x8192x12288 .f32) : FVec Ideal S2x8192x4096 .f32 :=
  shapeCast _ (normed (shapeCast _ (extractStridedSlice S2x8192x4096 ![0, 0, 4096] v slices_S2x8192x12288_S2x8192x4096_0_0_4096) shapeCasts_S2x8192x4096_S2x8192x32x128)) shapeCasts_S2x8192x32x128_S2x8192x4096

def vpart (v : FVec Ideal S2x8192x12288 .f32) : FVec Ideal S2x8192x4096 .f32 :=
  shapeCast _ (shapeCast _ (extractStridedSlice S2x8192x4096 ![0, 0, 8192] v slices_S2x8192x12288_S2x8192x4096_0_0_8192) shapeCasts_S2x8192x4096_S2x8192x32x128) shapeCasts_S2x8192x32x128_S2x8192x4096

def cat (q k v : FVec Ideal S2x8192x4096 .f32) : FVec Ideal S2x8192x12288 .bf16 :=
  truncf (F := Ideal) .bf16 ((concatenate S2x8192x12288 2 [⟨S2x8192x4096, (q : (⟨S2x8192x4096, .f32⟩ : BufTy).Contents (Elt Ideal))⟩, ⟨S2x8192x4096, (k : (⟨S2x8192x4096, .f32⟩ : BufTy).Contents (Elt Ideal))⟩, ⟨S2x8192x4096, (v : (⟨S2x8192x4096, .f32⟩ : BufTy).Contents (Elt Ideal))⟩] concatenates_S2x8192x4096_S2x8192x4096_S2x8192x4096_S2x8192x12288_d2 : (⟨S2x8192x12288, .f32⟩ : BufTy).Contents (Elt Ideal))) bitsLt_bf16_f32

theorem conv_apply (x : FVec Ideal S2x8192x16384 .bf16) (w : FVec Ideal S3x12288 .f32) (a : Fin 2) (l : Fin 8192) (j : Fin 12288) :
    conv x w (ix3 a l j) = Cert.Taps.taps (fun l => x (ix3 a l ⟨j.val, by omega⟩)) (fun d => w (ix2 d j)) l := by
  pointwise [conv, Cert.Taps.taps]
  refine congr (congrArg HAdd.hAdd (congrArg (· + x (ix3 a l ⟨j.val, by omega⟩) * w (ix2 1 j)) (congrArg (· * w (ix2 0 j)) ?_))) (congrArg (· * w (ix2 2 j)) ?_)
  · exact Cert.Taps.pad_prev (fun l => x (ix3 a l ⟨j.val, by omega⟩)) l
  · exact Cert.Taps.pad_next (fun l => x (ix3 a l ⟨j.val, by omega⟩)) l

theorem act_apply (v : FVec Ideal S2x8192x12288 .f32) (a : Fin 2) (l : Fin 8192) (j : Fin 12288) :
    act v (ix3 a l j) = Cert.GdnPreIdeal.Pre.silu (v (ix3 a l j)) := by
  pointwise [act, Cert.GdnPreIdeal.Pre.silu]
  rfl

theorem qpart_apply (v : FVec Ideal S2x8192x12288 .f32) (a : Fin 2) (l : Fin 8192) (k : Fin 4096) (g : ℕ) (hg : g < 4) :
    qpart v (ix3 a l k) = Cert.GdnPreIdeal.Pre.scaled g (fun j => v (ix3 a l ⟨k.val / 128 * 128 + j.val, by omega⟩)) ⟨k.val % 128, Nat.mod_lt _ (by norm_num)⟩ := by
  unfold Cert.GdnPreIdeal.Pre.scaled
  rw [if_pos hg, if_pos (show g < 8 by omega)]
  pointwise [qpart, normed]
  have he : ∀ h, (⟨k.val / 128 * 128 + k.val % 128, h⟩ : Fin 12288) = ⟨k.val, by omega⟩ := fun h => Fin.ext (by show k.val / 128 * 128 + k.val % 128 = k.val; omega)
  simp only [he]
  exact mul_assoc _ _ _

theorem kpart_apply (v : FVec Ideal S2x8192x12288 .f32) (a : Fin 2) (l : Fin 8192) (k : Fin 4096) (g : ℕ) (hg : 4 ≤ g) (hg' : g < 8) :
    kpart v (ix3 a l k) = Cert.GdnPreIdeal.Pre.scaled g (fun j => v (ix3 a l ⟨4096 + (k.val / 128 * 128 + j.val), by omega⟩)) ⟨k.val % 128, Nat.mod_lt _ (by norm_num)⟩ := by
  unfold Cert.GdnPreIdeal.Pre.scaled
  rw [if_neg (show ¬ g < 4 by omega), if_pos hg']
  pointwise [kpart, normed]
  have he : ∀ h, (⟨4096 + (k.val / 128 * 128 + k.val % 128), h⟩ : Fin 12288) = ⟨4096 + k.val, by omega⟩ := fun h => Fin.ext (by show 4096 + (k.val / 128 * 128 + k.val % 128) = 4096 + k.val; omega)
  simp only [he]

theorem vpart_apply (v : FVec Ideal S2x8192x12288 .f32) (a : Fin 2) (l : Fin 8192) (k : Fin 4096) (g : ℕ) (hg : 8 ≤ g) :
    vpart v (ix3 a l k) = Cert.GdnPreIdeal.Pre.scaled g (fun j => v (ix3 a l ⟨8192 + (k.val / 128 * 128 + j.val), by omega⟩)) ⟨k.val % 128, Nat.mod_lt _ (by norm_num)⟩ := by
  unfold Cert.GdnPreIdeal.Pre.scaled
  rw [if_neg (show ¬ g < 8 by omega)]
  pointwise [vpart]
  have he : ∀ h, (⟨8192 + (k.val / 128 * 128 + k.val % 128), h⟩ : Fin 12288) = ⟨8192 + k.val, by omega⟩ := fun h => Fin.ext (by show 8192 + (k.val / 128 * 128 + k.val % 128) = 8192 + k.val; omega)
  simp only [he]

theorem cat_apply (q k v : FVec Ideal S2x8192x4096 .f32) (a : Fin 2) (l : Fin 8192) (j : Fin 12288) :
    cat q k v (ix3 a l j) = if h : j.val < 4096 then q (ix3 a l ⟨j.val, h⟩) else if h' : j.val - 4096 < 4096 then k (ix3 a l ⟨j.val - 4096, by omega⟩) else v (ix3 a l ⟨j.val - 4096 - 4096, by omega⟩) := by
  pointwise [cat]

/-- The reference's operations composed, entry by entry. -/
theorem ref_eq (m : (ℓ : Loc nD τ sig) → Buf (Elt Ideal) ℓ) (c : Dev nD) :
    Value.res_main_v52 m c = Cert.GdnPreIdeal.Pre.out (m ((c.tc : Thread nD τ).loc main_arg0)) (m ((c.tc : Thread nD τ).loc main_arg1)) := by
  have h : Value.res_main_v52 m c = cat (qpart (act (conv (m ((c.tc : Thread nD τ).loc main_arg0)) (m ((c.tc : Thread nD τ).loc main_arg1)))))
      (kpart (act (conv (m ((c.tc : Thread nD τ).loc main_arg0)) (m ((c.tc : Thread nD τ).loc main_arg1)))))
      (vpart (act (conv (m ((c.tc : Thread nD τ).loc main_arg0)) (m ((c.tc : Thread nD τ).loc main_arg1))))) := rfl
  rw [h]
  funext i
  idx_vars i
  generalize m ((c.tc : Thread nD τ).loc main_arg0) = x
  generalize m ((c.tc : Thread nD τ).loc main_arg1) = w
  have key : ∀ (j : Fin 12288), act (conv x w) (ix3 i0 i1 j) = Cert.GdnPreIdeal.Pre.mid x w i0 i1 j := fun j => (act_apply _ _ _ _).trans (congrArg _ (conv_apply _ _ _ _ _))
  have head : ∀ (f : Fin 128 → Fin 12288) (k : Fin 128) (g : ℕ) (hg : g = i2.val / 1024) (hk : k.val = i2.val % 128) (hf : ∀ j, (f j).val = i2.val / 128 * 128 + j.val),
      Cert.GdnPreIdeal.Pre.scaled g (fun j => act (conv x w) (ix3 i0 i1 (f j))) k = Cert.GdnPreIdeal.Pre.out x w (ix3 i0 i1 i2) := by
    intro f k g hg hk hf
    subst hg
    unfold Cert.GdnPreIdeal.Pre.out
    refine congr (congrArg (Cert.GdnPreIdeal.Pre.scaled _) (funext fun j => (key (f j)).trans ?_)) (Fin.ext hk)
    exact congrArg (Cert.GdnPreIdeal.Pre.mid x w i0 i1) (Fin.ext (hf j))
  rw [cat_apply]
  by_cases h1 : i2.val < 4096
  · rw [dif_pos h1, qpart_apply _ _ _ _ (i2.val / 1024) (by omega)]
    exact head _ _ _ rfl rfl fun j => rfl
  rw [dif_neg h1]
  by_cases h2 : i2.val - 4096 < 4096
  · rw [dif_pos h2, kpart_apply _ _ _ _ (i2.val / 1024) (by omega) (by omega)]
    exact head _ _ _ rfl (by show (i2.val - 4096) % 128 = i2.val % 128; omega) fun j => by show 4096 + ((i2.val - 4096) / 128 * 128 + j.val) = i2.val / 128 * 128 + j.val; omega
  · rw [dif_neg h2, vpart_apply _ _ _ _ (i2.val / 1024) (by omega)]
    exact head _ _ _ rfl (by show (i2.val - 4096 - 4096) % 128 = i2.val % 128; omega) fun j => by show 8192 + ((i2.val - 4096 - 4096) / 128 * 128 + j.val) = i2.val / 128 * 128 + j.val; omega

end Cert.GdnPreRefIdeal.Pre

namespace Cert.GdnPreIdeal.Pre

/-- The reference's result is the same array. -/
theorem ref (m : (ℓ : Loc Cert.GdnPreRefIdeal.nD Cert.GdnPreRefIdeal.τ Cert.GdnPreRefIdeal.sig) → Buf (Elt Ideal) ℓ) (ρ : Dev Cert.GdnPreRefIdeal.nD → PrngReg) :
    θ_run (Cert.GdnPreRefIdeal.defs (F := Ideal)) (onTc (τ := Cert.GdnPreRefIdeal.τ) (Cert.GdnPreRefIdeal.main (F := Ideal))) ⟨m, fun _ => 0, ρ⟩ fun r => ∀ c : Dev Cert.GdnPreRefIdeal.nD,
      r.2.mem ((c.tc : Thread Cert.GdnPreRefIdeal.nD Cert.GdnPreRefIdeal.τ).loc Cert.GdnPreRefIdeal.main_v52)
        = out (m ((c.tc : Thread Cert.GdnPreRefIdeal.nD Cert.GdnPreRefIdeal.τ).loc Cert.GdnPreRefIdeal.main_arg0)) (m ((c.tc : Thread Cert.GdnPreRefIdeal.nD Cert.GdnPreRefIdeal.τ).loc Cert.GdnPreRefIdeal.main_arg1))
      ∧ r.2.mem ((c.tc : Thread Cert.GdnPreRefIdeal.nD Cert.GdnPreRefIdeal.τ).loc Cert.GdnPreRefIdeal.main_arg0) = m ((c.tc : Thread Cert.GdnPreRefIdeal.nD Cert.GdnPreRefIdeal.τ).loc Cert.GdnPreRefIdeal.main_arg0)
      ∧ r.2.mem ((c.tc : Thread Cert.GdnPreRefIdeal.nD Cert.GdnPreRefIdeal.τ).loc Cert.GdnPreRefIdeal.main_arg1) = m ((c.tc : Thread Cert.GdnPreRefIdeal.nD Cert.GdnPreRefIdeal.τ).loc Cert.GdnPreRefIdeal.main_arg1) :=
  (θ_run _ _ _).mono (fun _ h c => ⟨(h c).1.trans (Cert.GdnPreRefIdeal.Pre.ref_eq _ _), (h c).2⟩) (Cert.GdnPreRefIdeal.Value.run m ρ)

/-- The reference runs and leaves its arguments and every counter as they were. -/
theorem refFrame : Cert.quiescent_GdnPreRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_GdnPreIdeal_GdnPreRefIdeal := fun m ρ m' ρ' _ hag =>
  ⟨fun c => out (m ((c.tc : Thread Cert.GdnPreIdeal.nD Cert.GdnPreIdeal.τ).loc Cert.GdnPreIdeal.main_arg0)) (m ((c.tc : Thread Cert.GdnPreIdeal.nD Cert.GdnPreIdeal.τ).loc Cert.GdnPreIdeal.main_arg1)),
    (θ_run _ _ _).mono (fun _ h c => ⟨(h c).1.trans (final m c), (h c).2⟩) (Cert.GdnPreIdeal.Value.run_blocks m ρ),
    (θ_run _ _ _).mono (fun _ h c => ⟨(h c).1.trans (by rw [(hag c).1, (hag c).2]), (h c).2⟩) (ref m' ρ')⟩

end Cert.GdnPreIdeal.Pre
-- ==== Proof.GdnPostValue.lean ====
module

public import proofs.«01_k».proof.Proof.Gen.GdnPostIdeal.Value
public import Idealize.ShloMosaic.Lib.Pipeline.ValueKit
public import Idealize.ShloMosaic.Lib.Pointwise
public import proofs.«01_k».proof.Proof.Taps

@[expose] public section

set_option maxRecDepth 16384

noncomputable section

namespace Cert.GdnPostIdeal.Post

open Cert.GdnPostIdeal Cert.GdnPostIdeal.Gen Idealize.ShloMosaic Idealize.ShloMosaic.TcCoe Idealize.SL.Sem
open Idealize.ShloMosaic.Pipeline (Dat)

variable (m : (ℓ : Loc nD τ sig) → Buf (Elt Ideal) ℓ)

/-- One lane of a head, divided by the root mean square of its 128 lanes, weighted and gated. -/
def post (s : Fin 128 → EReal) (z w : EReal) (k : Fin 128) : EReal :=
  s k * Ideal.rsqrt (Ideal.div (∑ j, s j * s j) (Ideal.ofBits FTy.f32 0x43000000#32) + Ideal.ofBits FTy.f32 0x358637BD#32) * (z * Ideal.logistic z * w)

/-- The gated output at one entry. -/
def out (x y : Vec Ideal S2x8192x4096 .bf16) (p : Vec Ideal S2x8192x16384 .bf16) (w : Vec Ideal S128 .f32) : Vec Ideal S2x8192x4096 .bf16 := fun i =>
  post (fun j => x (ix3 (i 0) (i 1) ⟨(i 2).val / 128 * 128 + j.val, by have := (i 2).isLt; change (i 2).val < 4096 at this; omega⟩)
      + y (ix3 (i 0) (i 1) ⟨(i 2).val / 128 * 128 + j.val, by have := (i 2).isLt; change (i 2).val < 4096 at this; omega⟩))
    (p (ix3 (i 0) (i 1) ⟨12288 + (i 2).val, by have := (i 2).isLt; change (i 2).val < 4096 at this; omega⟩))
    (w (ix1 ⟨(i 2).val % 128, Nat.mod_lt _ (by norm_num)⟩)) ⟨(i 2).val % 128, Nat.mod_lt _ (by norm_num)⟩

theorem idx : ∀ t : Fin cfg0.N, win0_0.index t = ![t.val / 128, t.val % 16, t.val / 16 % 8]
    ∧ win0_1.index t = ![t.val / 128, t.val % 16, t.val / 16 % 8]
    ∧ win0_2.index t = ![t.val / 128, t.val % 16, 24 + t.val / 16 % 8]
    ∧ win0_3.index t = ![0, 0] ∧ win0_4.index t = ![t.val / 128, t.val % 16, t.val / 16 % 8] :=
  (by decide +kernel : ∀ t : Fin grid0.N, _)

theorem pay0 (x y z : Vec Ideal S1x512x512 .bf16) (w : Vec Ideal S1x512 .f32) (r : Fin 512) (k : Fin 128) :
    k0_pay4 x y z w (ix3 0 r k)
      = post (fun j => x (ix3 0 r ⟨0 + j.val, by omega⟩) + y (ix3 0 r ⟨0 + j.val, by omega⟩)) (z (ix3 0 r ⟨0 + k.val, by omega⟩)) (w (ix2 0 ⟨0 + k.val, by omega⟩)) k := by
  pointwise [k0_pay1, k0_pay2, k0_pay3, k0_pay4, k0_pay5, k0_pay6, k0_pay7, k0_pay8, k0_pay9, k0_pay10, k0_pay11, post]

theorem pay1 (x y z : Vec Ideal S1x512x512 .bf16) (w : Vec Ideal S1x512 .f32) (r : Fin 512) (k : Fin 128) :
    k0_pay7 (k0_pay3 z w) (k0_pay5 x y) (k0_pay6 x y) (Scalar.ofBits .f32 0x43000000#32) (ix3 0 r k)
      = post (fun j => x (ix3 0 r ⟨128 + j.val, by omega⟩) + y (ix3 0 r ⟨128 + j.val, by omega⟩)) (z (ix3 0 r ⟨128 + k.val, by omega⟩)) (w (ix2 0 ⟨128 + k.val, by omega⟩)) k := by
  pointwise [k0_pay1, k0_pay2, k0_pay3, k0_pay4, k0_pay5, k0_pay6, k0_pay7, k0_pay8, k0_pay9, k0_pay10, k0_pay11, post]

theorem pay2 (x y z : Vec Ideal S1x512x512 .bf16) (w : Vec Ideal S1x512 .f32) (r : Fin 512) (k : Fin 128) :
    k0_pay8 (k0_pay2 x y) (k0_pay3 z w) (ix3 0 r k)
      = post (fun j => x (ix3 0 r ⟨256 + j.val, by omega⟩) + y (ix3 0 r ⟨256 + j.val, by omega⟩)) (z (ix3 0 r ⟨256 + k.val, by omega⟩)) (w (ix2 0 ⟨256 + k.val, by omega⟩)) k := by
  pointwise [k0_pay1, k0_pay2, k0_pay3, k0_pay4, k0_pay5, k0_pay6, k0_pay7, k0_pay8, k0_pay9, k0_pay10, k0_pay11, post]

theorem pay3 (x y z : Vec Ideal S1x512x512 .bf16) (w : Vec Ideal S1x512 .f32) (r : Fin 512) (k : Fin 128) :
    k0_pay1 (k0_pay9 (k0_pay2 x y) (k0_pay3 z w)) (ix3 0 r k)
      = post (fun j => x (ix3 0 r ⟨384 + j.val, by omega⟩) + y (ix3 0 r ⟨384 + j.val, by omega⟩)) (z (ix3 0 r ⟨384 + k.val, by omega⟩)) (w (ix2 0 ⟨384 + k.val, by omega⟩)) k := by
  pointwise [k0_pay1, k0_pay2, k0_pay3, k0_pay4, k0_pay5, k0_pay6, k0_pay7, k0_pay8, k0_pay9, k0_pay10, k0_pay11, post]

theorem blk0 (c : Dev nD) (t : Fin cfg0.N) (r : Fin 512) (k : Fin 512) (a : Fin 2) (l : Fin 8192) (j : Fin 4096)
    (ha : a.val = t.val / 128) (hl : l.val = t.val % 16 * 512 + r.val) (hj : j.val = t.val / 16 % 8 * 512 + k.val) :
    iblk m c 0 t (ix3 0 r k) = m ((c : Thread nD τ).loc main_arg0) (ix3 a l j) := by
  blk_simp [iblk, idx t]
  entry_read
  blk_ext [idx t, ha, hl, hj]

theorem blk1 (c : Dev nD) (t : Fin cfg0.N) (r : Fin 512) (k : Fin 512) (a : Fin 2) (l : Fin 8192) (j : Fin 4096)
    (ha : a.val = t.val / 128) (hl : l.val = t.val % 16 * 512 + r.val) (hj : j.val = t.val / 16 % 8 * 512 + k.val) :
    iblk m c 1 t (ix3 0 r k) = m ((c : Thread nD τ).loc main_arg1) (ix3 a l j) := by
  blk_simp [iblk, idx t]
  entry_read
  blk_ext [idx t, ha, hl, hj]

theorem blk2 (c : Dev nD) (t : Fin cfg0.N) (r : Fin 512) (k : Fin 512) (a : Fin 2) (l : Fin 8192) (j : Fin 16384)
    (ha : a.val = t.val / 128) (hl : l.val = t.val % 16 * 512 + r.val) (hj : j.val = 12288 + t.val / 16 % 8 * 512 + k.val) :
    iblk m c 2 t (ix3 0 r k) = m ((c : Thread nD τ).loc main_arg2) (ix3 a l j) := by
  blk_simp [iblk, idx t]
  entry_read
  blk_ext [idx t, ha, hl, hj]

theorem blk3 (c : Dev nD) (t : Fin cfg0.N) (k : Fin 512) (j : Fin 128) (hj : j.val = k.val % 128) :
    iblk m c 3 t (ix2 0 k) = m ((c : Thread nD τ).loc main_arg3) (ix1 j) := by
  blk_simp [iblk, idx t]
  entry_read
  pointwise
  blk_ext [idx t, hj]

theorem final (c : Dev nD) : (dats m 0 c).arrAt 4 cfg0.N = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold_out out0_4
  frame_out
  idx_vars y
  have e0 : ((((View.whole main_v4).slice (win0_4.rect t)).emb (ix3 y0 y1 y2)) 0).val = t.val / 128 := by
    blk_simp [idx t]
  have e1 : ((((View.whole main_v4).slice (win0_4.rect t)).emb (ix3 y0 y1 y2)) 1).val = t.val % 16 * 512 + y1.val := by
    blk_simp [idx t]
  have e2 : ((((View.whole main_v4).slice (win0_4.rect t)).emb (ix3 y0 y1 y2)) 2).val = t.val / 16 % 8 * 512 + y2.val := by
    blk_simp [idx t]
  generalize ((View.whole main_v4).slice (win0_4.rect t)).emb (ix3 y0 y1 y2) = i at e0 e1 e2 ⊢
  obtain rfl : y0 = 0 := Subsingleton.elim _ _
  have key : ∀ (X0 X1 X2 : Vec Idealize.ShloMosaic.Ideal S1x512x512 .bf16) (X3 : Vec Idealize.ShloMosaic.Ideal S1x512 .f32) (h0 : X0 = iblk m c 0 t) (h1 : X1 = iblk m c 1 t)
      (h2 : X2 = iblk m c 2 t) (h3 : X3 = iblk m c 3 t) (o : ℕ) (k : Fin 128) (ho : o % 128 = 0) (hk : y2.val = o + k.val),
      post (fun j => X0 (ix3 0 y1 ⟨o + j.val, by omega⟩) + X1 (ix3 0 y1 ⟨o + j.val, by omega⟩))
        (X2 (ix3 0 y1 ⟨o + k.val, by omega⟩)) (X3 (ix2 0 ⟨o + k.val, by omega⟩)) k
        = out (m ((c : Thread nD τ).loc main_arg0)) (m ((c : Thread nD τ).loc main_arg1)) (m ((c : Thread nD τ).loc main_arg2)) (m ((c : Thread nD τ).loc main_arg3)) i := by
    intro X0 X1 X2 X3 h0 h1 h2 h3 o k ho hk
    have hi2 : (i 2).val < 4096 := (i 2).isLt
    unfold out
    have hkk : k = ⟨(i 2).val % 128, Nat.mod_lt _ (by norm_num)⟩ := Fin.ext (by show k.val = (i 2).val % 128; omega)
    rw [← hkk]
    refine congr (congr (congr (congrArg post (funext fun j => ?_)) ?_) ?_) rfl
    · exact congr (congrArg HAdd.hAdd ((congrFun h0 _).trans <| blk0 m c t y1 ⟨o + j.val, by omega⟩ (i 0) (i 1) ⟨(i 2).val / 128 * 128 + j.val, by omega⟩ e0 e1 (by show (i 2).val / 128 * 128 + j.val = t.val / 16 % 8 * 512 + (o + j.val); omega)))
        ((congrFun h1 _).trans <| blk1 m c t y1 ⟨o + j.val, by omega⟩ (i 0) (i 1) ⟨(i 2).val / 128 * 128 + j.val, by omega⟩ e0 e1 (by show (i 2).val / 128 * 128 + j.val = t.val / 16 % 8 * 512 + (o + j.val); omega))
    · exact (congrFun h2 _).trans <| blk2 m c t y1 ⟨o + k.val, by omega⟩ (i 0) (i 1) ⟨12288 + (i 2).val, by omega⟩ e0 e1 (by show 12288 + (i 2).val = 12288 + t.val / 16 % 8 * 512 + (o + k.val); omega)
    · exact (congrFun h3 _).trans <| blk3 m c t ⟨o + k.val, by omega⟩ k (by show k.val = (o + k.val) % 128; omega)
  by_cases h3 : 384 ≤ y2.val
  · obtain ⟨k, hk⟩ : ∃ k : Fin 128, y2.val = 384 + k.val := ⟨⟨y2.val - 384, by omega⟩, by show y2.val = 384 + (y2.val - 384); omega⟩
    refine (Cert.Taps.lane_hit 384 _ _ _ y1 y2 k hk).trans ?_
    exact (pay3 _ _ _ _ _ _).trans (key _ _ _ _ rfl rfl rfl rfl 384 k (by norm_num) hk)
  refine (Cert.Taps.lane_miss 384 _ _ _ y1 y2 (by omega)).trans ?_
  by_cases h2 : 256 ≤ y2.val
  · obtain ⟨k, hk⟩ : ∃ k : Fin 128, y2.val = 256 + k.val := ⟨⟨y2.val - 256, by omega⟩, by show y2.val = 256 + (y2.val - 256); omega⟩
    refine (Cert.Taps.lane_hit 256 _ _ _ y1 y2 k hk).trans ?_
    exact (pay2 _ _ _ _ _ _).trans (key _ _ _ _ rfl rfl rfl rfl 256 k (by norm_num) hk)
  refine (Cert.Taps.lane_miss 256 _ _ _ y1 y2 (by omega)).trans ?_
  by_cases h1 : 128 ≤ y2.val
  · obtain ⟨k, hk⟩ : ∃ k : Fin 128, y2.val = 128 + k.val := ⟨⟨y2.val - 128, by omega⟩, by show y2.val = 128 + (y2.val - 128); omega⟩
    refine (Cert.Taps.lane_hit 128 _ _ _ y1 y2 k hk).trans ?_
    exact (pay1 _ _ _ _ _ _).trans (key _ _ _ _ rfl rfl rfl rfl 128 k (by norm_num) hk)
  refine (Cert.Taps.lane_miss 128 _ _ _ y1 y2 (by omega)).trans ?_
  obtain ⟨k, hk⟩ : ∃ k : Fin 128, y2.val = 0 + k.val := ⟨⟨y2.val - 0, by omega⟩, by show y2.val = 0 + (y2.val - 0); omega⟩
  refine (Cert.Taps.lane_hit 0 _ _ _ y1 y2 k hk).trans ?_
  exact (pay0 _ _ _ _ _ _).trans (key _ _ _ _ rfl rfl rfl rfl 0 k (by norm_num) hk)

end Cert.GdnPostIdeal.Post
-- ==== Proof.GdnPostClaim.lean ====
module

public import proofs.«01_k».proof.Defs
public import proofs.«01_k».proof.Proof.Gen.GdnPostRefIdeal.Run
public import proofs.«01_k».proof.Proof.GdnPostValue

@[expose] public section

set_option maxRecDepth 16384

noncomputable section

open Idealize.ShloMosaic Idealize.ShloMosaic.TcCoe Idealize.SL.Sem

namespace Cert.GdnPostRefIdeal.Post

open Cert.GdnPostRefIdeal.Gen

/-- The reference's operations composed, entry by entry. -/
theorem ref_eq (x : Vec Ideal Cert.GdnPostRefIdeal.S2x8192x4096 .bf16) (w : Vec Ideal Cert.GdnPostRefIdeal.S2x8192x4096 .bf16) (b : Vec Ideal Cert.GdnPostRefIdeal.S2x8192x16384 .bf16) (d : Vec Ideal Cert.GdnPostRefIdeal.S128 .f32) :
    truncf (F := Ideal) .bf16 (shapeCast _ (mulf (mulf (mulf (addf (extf .f32 (shapeCast _ x shapeCasts_S2x8192x4096_S2x8192x32x128) bitsLt_bf16_f32) (extf .f32 (shapeCast _ w shapeCasts_S2x8192x4096_S2x8192x32x128) bitsLt_bf16_f32)) (broadcastInDim S2x8192x32x128 ![0, 1, 2, 3] bcast_S2x8192x32x1_S2x8192x32x128_0_1_2_3 (Host.rsqrt (addf (Host.divf (broadcastInDim S2x8192x32x1 ![0, 1, 2] bcast_S2x8192x32_S2x8192x32x1_0_1_2 (Host.reduceAdd (mulf (addf (extf .f32 (shapeCast _ x shapeCasts_S2x8192x4096_S2x8192x32x128) bitsLt_bf16_f32) (extf .f32 (shapeCast _ w shapeCasts_S2x8192x4096_S2x8192x32x128) bitsLt_bf16_f32)) (addf (extf .f32 (shapeCast _ x shapeCasts_S2x8192x4096_S2x8192x32x128) bitsLt_bf16_f32) (extf .f32 (shapeCast _ w shapeCasts_S2x8192x4096_S2x8192x32x128) bitsLt_bf16_f32))) (constant S_ .f32 0x00000000#32) reducesTo_S2x8192x32x128_S2x8192x32_d3 h_S_)) (broadcastInDim S2x8192x32x1 ![] bcast_S_S2x8192x32x1 (constant S_ .f32 0x43000000#32))) (broadcastInDim S2x8192x32x1 ![] bcast_S_S2x8192x32x1 (constant S_ .f32 0x358637BD#32)))))) (broadcastInDim S2x8192x32x128 ![0, 1, 2, 3] bcast_S1x1x1x128_S2x8192x32x128_0_1_2_3 (broadcastInDim S1x1x1x128 ![3] bcast_S128_S1x1x1x128_3 d))) (mulf (extf .f32 (shapeCast _ (extractStridedSlice S2x8192x4096 ![0, 0, 12288] b slices_S2x8192x16384_S2x8192x4096_0_0_12288) shapeCasts_S2x8192x4096_S2x8192x32x128) bitsLt_bf16_f32) (Host.divf (broadcastInDim S2x8192x32x128 ![] bcast_S_S2x8192x32x128 (constant S_ .f32 0x3F800000#32)) (addf (broadcastInDim S2x8192x32x128 ![] bcast_S_S2x8192x32x128 (constant S_ .f32 0x3F800000#32)) (Host.exp (Host.negf (extf .f32 (shapeCast _ (extractStridedSlice S2x8192x4096 ![0, 0, 12288] b slices_S2x8192x16384_S2x8192x4096_0_0_12288) shapeCasts_S2x8192x4096_S2x8192x32x128) bitsLt_bf16_f32))))))) shapeCasts_S2x8192x32x128_S2x8192x4096) bitsLt_bf16_f32 = Cert.GdnPostIdeal.Post.out x w b d := by
  funext i
  idx_vars i
  pointwise [Cert.GdnPostIdeal.Post.out]
  unfold GdnPostIdeal.Post.post
  have he : ∀ h, (⟨i2.val / 128 * 128 + i2.val % 128, h⟩ : Fin 4096) = i2 := fun h => Fin.ext (by show i2.val / 128 * 128 + i2.val % 128 = i2.val; omega)
  simp only [he]
  exact (mul_assoc _ _ _).trans (congrArg (HMul.hMul _) (mul_comm _ _))

end Cert.GdnPostRefIdeal.Post

namespace Cert.GdnPostIdeal.Post

/-- The reference's result is the same array. -/
theorem ref (m : (ℓ : Loc Cert.GdnPostRefIdeal.nD Cert.GdnPostRefIdeal.τ Cert.GdnPostRefIdeal.sig) → Buf (Elt Ideal) ℓ) (ρ : Dev Cert.GdnPostRefIdeal.nD → PrngReg) :
    θ_run (Cert.GdnPostRefIdeal.defs (F := Ideal)) (onTc (τ := Cert.GdnPostRefIdeal.τ) (Cert.GdnPostRefIdeal.main (F := Ideal))) ⟨m, fun _ => 0, ρ⟩ fun r => ∀ c : Dev Cert.GdnPostRefIdeal.nD,
      r.2.mem ((c.tc : Thread Cert.GdnPostRefIdeal.nD Cert.GdnPostRefIdeal.τ).loc Cert.GdnPostRefIdeal.main_v24)
        = out (m ((c.tc : Thread Cert.GdnPostRefIdeal.nD Cert.GdnPostRefIdeal.τ).loc Cert.GdnPostRefIdeal.main_arg0)) (m ((c.tc : Thread Cert.GdnPostRefIdeal.nD Cert.GdnPostRefIdeal.τ).loc Cert.GdnPostRefIdeal.main_arg1)) (m ((c.tc : Thread Cert.GdnPostRefIdeal.nD Cert.GdnPostRefIdeal.τ).loc Cert.GdnPostRefIdeal.main_arg2)) (m ((c.tc : Thread Cert.GdnPostRefIdeal.nD Cert.GdnPostRefIdeal.τ).loc Cert.GdnPostRefIdeal.main_arg3))
      ∧ r.2.mem ((c.tc : Thread Cert.GdnPostRefIdeal.nD Cert.GdnPostRefIdeal.τ).loc Cert.GdnPostRefIdeal.main_arg0) = m ((c.tc : Thread Cert.GdnPostRefIdeal.nD Cert.GdnPostRefIdeal.τ).loc Cert.GdnPostRefIdeal.main_arg0)
      ∧ r.2.mem ((c.tc : Thread Cert.GdnPostRefIdeal.nD Cert.GdnPostRefIdeal.τ).loc Cert.GdnPostRefIdeal.main_arg1) = m ((c.tc : Thread Cert.GdnPostRefIdeal.nD Cert.GdnPostRefIdeal.τ).loc Cert.GdnPostRefIdeal.main_arg1)
      ∧ r.2.mem ((c.tc : Thread Cert.GdnPostRefIdeal.nD Cert.GdnPostRefIdeal.τ).loc Cert.GdnPostRefIdeal.main_arg2) = m ((c.tc : Thread Cert.GdnPostRefIdeal.nD Cert.GdnPostRefIdeal.τ).loc Cert.GdnPostRefIdeal.main_arg2)
      ∧ r.2.mem ((c.tc : Thread Cert.GdnPostRefIdeal.nD Cert.GdnPostRefIdeal.τ).loc Cert.GdnPostRefIdeal.main_arg3) = m ((c.tc : Thread Cert.GdnPostRefIdeal.nD Cert.GdnPostRefIdeal.τ).loc Cert.GdnPostRefIdeal.main_arg3) :=
  (θ_run _ _ _).mono (fun _ h c => ⟨(h c).1.trans (Cert.GdnPostRefIdeal.Post.ref_eq _ _ _ _), (h c).2⟩) (Cert.GdnPostRefIdeal.Value.run m ρ)

/-- The reference runs and leaves its arguments and every counter as they were. -/
theorem refFrame : Cert.quiescent_GdnPostRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_GdnPostIdeal_GdnPostRefIdeal := fun m ρ m' ρ' _ hag =>
  ⟨fun c => out (m ((c.tc : Thread Cert.GdnPostIdeal.nD Cert.GdnPostIdeal.τ).loc Cert.GdnPostIdeal.main_arg0)) (m ((c.tc : Thread Cert.GdnPostIdeal.nD Cert.GdnPostIdeal.τ).loc Cert.GdnPostIdeal.main_arg1)) (m ((c.tc : Thread Cert.GdnPostIdeal.nD Cert.GdnPostIdeal.τ).loc Cert.GdnPostIdeal.main_arg2)) (m ((c.tc : Thread Cert.GdnPostIdeal.nD Cert.GdnPostIdeal.τ).loc Cert.GdnPostIdeal.main_arg3)),
    (θ_run _ _ _).mono (fun _ h c => ⟨(h c).1.trans (final m c), (h c).2⟩) (Cert.GdnPostIdeal.Value.run_blocks m ρ),
    (θ_run _ _ _).mono (fun _ h c => ⟨(h c).1.trans (by rw [(hag c).1, (hag c).2.1, (hag c).2.2.1, (hag c).2.2.2]), (h c).2⟩) (ref m' ρ')⟩

end Cert.GdnPostIdeal.Post
-- ==== Proof.FfnActValue.lean ====
module

public import proofs.«01_k».proof.Proof.Gen.FfnActIdeal.Value
public import Idealize.ShloMosaic.Lib.Pipeline.ValueKit
public import Idealize.ShloMosaic.Lib.Pointwise
public import proofs.«01_k».proof.Proof.Taps

@[expose] public section

set_option maxRecDepth 16384

noncomputable section

namespace Cert.FfnActIdeal.Act

open Cert.FfnActIdeal Cert.FfnActIdeal.Gen Idealize.ShloMosaic Idealize.ShloMosaic.TcCoe Idealize.SL.Sem
open Idealize.ShloMosaic.Pipeline (Dat)

variable (m : (ℓ : Loc nD τ sig) → Buf (Elt Ideal) ℓ)

open Cert.Taps (sel_eq)

/-- A neighbour's entry in a grid of 64 columns: the row d - 1 rows on and the column s - 1 columns on, zero past the edges. -/
def px (x : Fin 8192 → EReal) (l : Fin 8192) (d s : ℕ) : EReal :=
  if h : 1 ≤ l.val / 64 + d ∧ l.val / 64 + d ≤ 128 ∧ 1 ≤ l.val % 64 + s ∧ l.val % 64 + s ≤ 64 then
    x ⟨(l.val / 64 + d - 1) * 64 + (l.val % 64 + s - 1), by omega⟩ else 0

/-- The nine taps and the bias. -/
def acc (p : ℕ → ℕ → EReal) (w : Fin 9 → EReal) (b : EReal) : EReal :=
  b + (p 0 0 * w 0 + p 0 1 * w 1 + p 0 2 * w 2) + (p 1 0 * w 3 + p 1 1 * w 4 + p 1 2 * w 5) + (p 2 0 * w 6 + p 2 1 * w 7 + p 2 2 * w 8)

/-- The gate times the value. -/
def gelu (a v : EReal) : EReal :=
  Ideal.ofBits FTy.f32 0x3F000000#32 * a * (1 + Ideal.erf (a * Ideal.ofBits FTy.f32 0x3F3504F3#32)) * v

/-- The gated activation at one entry. -/
def out (x : Vec Ideal S2x8192x22528 .bf16) (w : Vec Ideal S3x3x11264 .f32) (b : Vec Ideal S11264 .f32) : Vec Ideal S2x8192x11264 .bf16 := fun i =>
  gelu (acc (px (fun l => x (ix3 (i 0) l ⟨(i 2).val, by have := (i 2).isLt; change (i 2).val < 11264 at this; omega⟩)) (i 1))
      (fun d => w (ix3 ⟨d.val / 3, by omega⟩ ⟨d.val % 3, by omega⟩ (i 2))) (b (ix1 (i 2))))
    (x (ix3 (i 0) (i 1) ⟨11264 + (i 2).val, by have := (i 2).isLt; change (i 2).val < 11264 at this; omega⟩))

theorem idx : ∀ t : Fin cfg0.N, win0_0.index t = ![t.val / 88, t.val % 8, t.val / 8 % 11]
    ∧ win0_1.index t = ![t.val / 88, t.val % 8, 11 + t.val / 8 % 11]
    ∧ win0_2.index t = ![t.val / 88, t.val % 8 * 16 - 1, t.val / 8 % 11]
    ∧ win0_3.index t = ![t.val / 88, min (t.val % 8 * 16 + 16) 127, t.val / 8 % 11]
    ∧ win0_4.index t = ![0, t.val / 8 % 11] ∧ win0_5.index t = ![0, t.val / 8 % 11]
    ∧ win0_6.index t = ![t.val / 88, t.val % 8, t.val / 8 % 11] ∧ (grid0.coords t 2).val = t.val % 8 :=
  (by decide +kernel : ∀ t : Fin grid0.N, _)

theorem pay2 (i : grid0.Coords) (u d : Vec Ideal S1x64x1024 .bf16) (x : Vec Ideal S1x1024x1024 .bf16) (e : Fin 1152) (k : Fin 1024) :
    k0_pay2 i u d x (ix2 e k) = if h : e.val < 64 then (if (i 2).val = 0 then 0 else u (ix3 0 ⟨e.val, h⟩ k))
      else if h' : e.val - 64 < 1024 then x (ix3 0 ⟨e.val - 64, h'⟩ k) else (if (i 2).val = 7 then 0 else d (ix3 0 ⟨e.val - 64 - 1024, by omega⟩ k)) := by
  have hi : (i 2).val < 8 := (i 2).isLt
  have e0 : ∀ x y : Vec Ideal S64x1024 .f32, Scalar.select (Scalar.cmpi .eq (BitVec.ofNat 32 (i 2).val) 0#32) x y = if (i 2).val = 0 then x else y :=
    fun x y => sel_eq (i 2).val 0 (by omega) (by omega) x y
  have e7 : ∀ x y : Vec Ideal S64x1024 .f32, Scalar.select (Scalar.cmpi .eq (BitVec.ofNat 32 (i 2).val) 7#32) x y = if (i 2).val = 7 then x else y :=
    fun x y => sel_eq (i 2).val 7 (by omega) (by omega) x y
  simp only [k0_pay2, e0, e7]
  by_cases h0 : (i 2).val = 0
  · have h7 : ¬ (i 2).val = 7 := by omega
    simp only [if_pos h0, if_neg h7]
    pointwise
  by_cases h7 : (i 2).val = 7
  · simp only [if_neg h0, if_pos h7]
    pointwise
  simp only [if_neg h0, if_neg h7]
  pointwise

theorem rem : ∀ e : Fin 1152, IntOp.remsi ArithUnit.vector (BitVec.ofNat 32 e.val) 64#32 = BitVec.ofNat 32 (e.val % 64) := by
  decide +kernel

theorem pay4 (i : grid0.Coords) (u d : Vec Ideal S1x64x1024 .bf16) (x : Vec Ideal S1x1024x1024 .bf16) (e : Fin 1152) (k : Fin 1024) :
    k0_pay4 i u d x (ix2 e k) = if e.val % 64 = 0 then 0 else k0_pay2 i u d x (ix2 ⟨(e.val + 1151) % 1152, Nat.mod_lt _ (by norm_num)⟩ k) := by
  unfold k0_pay4
  generalize k0_pay2 i u d x = v
  pointwise [k0_pay3]
  rw [rem]
  refine (sel_eq (e.val % 64) 0 (by omega) (by omega) _ _).trans ?_
  split
  · rfl
  · exact congrArg (fun j => v (ix2 j k)) (Fin.ext (by show (e.val + 1152 - 1) % 1152 = (e.val + 1151) % 1152; omega))

theorem pay5 (i : grid0.Coords) (u d : Vec Ideal S1x64x1024 .bf16) (x : Vec Ideal S1x1024x1024 .bf16) (e : Fin 1152) (k : Fin 1024) :
    k0_pay5 i u d x (ix2 e k) = if e.val % 64 = 63 then 0 else k0_pay2 i u d x (ix2 ⟨(e.val + 1) % 1152, Nat.mod_lt _ (by norm_num)⟩ k) := by
  unfold k0_pay5
  generalize k0_pay2 i u d x = v
  pointwise [k0_pay3]
  rw [rem]
  refine (sel_eq (e.val % 64) 63 (by omega) (by omega) _ _).trans ?_
  split
  · rfl
  · exact congrArg (fun j => v (ix2 j k)) (Fin.ext (by show (e.val + 1152 - 1151) % 1152 = (e.val + 1) % 1152; omega))

theorem pay8 (v15 v23 v28 : Vec Ideal S1152x1024 .f32) (v30 : Vec Ideal S1x1024 .f32) (v31 : Vec Ideal S1024x1024 .f32) (w0 w1 w2 w3 w4 w5 : Vec Ideal S1x1024 .f32) (r k : Fin 1024) :
    k0_pay8 v15 v23 v28 v30 v31 w0 w1 w2 w3 w4 w5 (ix2 r k)
      = v30 (ix2 0 k) + (v31 (ix2 r k) * w0 (ix2 0 k) + v15 (ix2 ⟨r.val, by omega⟩ k) * w1 (ix2 0 k) + v28 (ix2 ⟨r.val, by omega⟩ k) * w2 (ix2 0 k))
        + (v23 (ix2 ⟨64 + r.val, by omega⟩ k) * w3 (ix2 0 k) + v15 (ix2 ⟨64 + r.val, by omega⟩ k) * w4 (ix2 0 k) + v28 (ix2 ⟨64 + r.val, by omega⟩ k) * w5 (ix2 0 k)) := by
  pointwise [k0_pay8]

theorem pay9 (v15 v23 : Vec Ideal S1152x1024 .f32) (w6 w7 : Vec Ideal S1x1024 .f32) (r k : Fin 1024) :
    k0_pay9 v15 v23 w6 w7 (ix2 r k) = v23 (ix2 ⟨128 + r.val, by omega⟩ k) * w6 (ix2 0 k) + v15 (ix2 ⟨128 + r.val, by omega⟩ k) * w7 (ix2 0 k) := by
  pointwise [k0_pay9]

theorem pay1 (v28 : Vec Ideal S1152x1024 .f32) (v67 v78 : Vec Ideal S1024x1024 .f32) (w8 : Vec Ideal S1x1024 .f32) (z : Vec Ideal S1x1024x1024 .bf16) (r k : Fin 1024) :
    k0_pay1 v28 v67 v78 w8 z (ix3 0 r k) = gelu (v67 (ix2 r k) + (v78 (ix2 r k) + v28 (ix2 ⟨128 + r.val, by omega⟩ k) * w8 (ix2 0 k))) (z (ix3 0 r k)) := by
  pointwise [k0_pay1, gelu]
  rfl

theorem pay6 (b : Vec Ideal S1x1024 .f32) (k : Fin 1024) : k0_pay6 b (ix2 0 k) = b (ix2 0 k) := by
  pointwise [k0_pay6]

theorem pay7 (i : grid0.Coords) (u d : Vec Ideal S1x64x1024 .bf16) (x : Vec Ideal S1x1024x1024 .bf16) (r k : Fin 1024) :
    k0_pay7 i u d x (ix2 r k) = k0_pay4 i u d x (ix2 ⟨r.val, by omega⟩ k) := by
  unfold k0_pay7
  generalize k0_pay4 i u d x = v
  pointwise

theorem blk0 (c : Dev nD) (t : Fin cfg0.N) (r : Fin 1024) (k : Fin 1024) (a : Fin 2) (l : Fin 8192) (j : Fin 22528)
    (ha : a.val = t.val / 88) (hl : l.val = t.val % 8 * 1024 + r.val) (hj : j.val = t.val / 8 % 11 * 1024 + k.val) :
    iblk m c 0 t (ix3 0 r k) = m ((c : Thread nD τ).loc main_arg0) (ix3 a l j) := by
  blk_simp [iblk, idx t]
  entry_read
  blk_ext [idx t, ha, hl, hj]

theorem blk1 (c : Dev nD) (t : Fin cfg0.N) (r : Fin 1024) (k : Fin 1024) (a : Fin 2) (l : Fin 8192) (j : Fin 22528)
    (ha : a.val = t.val / 88) (hl : l.val = t.val % 8 * 1024 + r.val) (hj : j.val = 11264 + t.val / 8 % 11 * 1024 + k.val) :
    iblk m c 1 t (ix3 0 r k) = m ((c : Thread nD τ).loc main_arg0) (ix3 a l j) := by
  blk_simp [iblk, idx t]
  entry_read
  blk_ext [idx t, ha, hl, hj]

theorem blk2 (c : Dev nD) (t : Fin cfg0.N) (r : Fin 64) (k : Fin 1024) (a : Fin 2) (l : Fin 8192) (j : Fin 22528)
    (ha : a.val = t.val / 88) (hl : l.val + 64 = t.val % 8 * 1024 + r.val) (hj : j.val = t.val / 8 % 11 * 1024 + k.val) :
    iblk m c 2 t (ix3 0 r k) = m ((c : Thread nD τ).loc main_arg0) (ix3 a l j) := by
  blk_simp [iblk, idx t]
  entry_read
  blk_ext [idx t, ha, hj]

theorem blk3 (c : Dev nD) (t : Fin cfg0.N) (r : Fin 64) (k : Fin 1024) (a : Fin 2) (l : Fin 8192) (j : Fin 22528)
    (ha : a.val = t.val / 88) (hl : l.val = t.val % 8 * 1024 + 1024 + r.val) (hj : j.val = t.val / 8 % 11 * 1024 + k.val) :
    iblk m c 3 t (ix3 0 r k) = m ((c : Thread nD τ).loc main_arg0) (ix3 a l j) := by
  blk_simp [iblk, idx t]
  entry_read
  blk_ext [idx t, ha, hj]

theorem blk4 (c : Dev nD) (t : Fin cfg0.N) (d : Fin 9) (k : Fin 1024) (j : Fin 11264) (hj : j.val = t.val / 8 % 11 * 1024 + k.val) :
    iblk m c 4 t (ix2 d k) = m ((c : Thread nD τ).loc main_arg1) (ix3 ⟨d.val / 3, by omega⟩ ⟨d.val % 3, by omega⟩ j) := by
  blk_simp [iblk, idx t]
  entry_read
  pointwise
  blk_ext [idx t, hj]

theorem blk5 (c : Dev nD) (t : Fin cfg0.N) (k : Fin 1024) (j : Fin 11264) (hj : j.val = t.val / 8 % 11 * 1024 + k.val) :
    iblk m c 5 t (ix2 0 k) = m ((c : Thread nD τ).loc main_arg2) (ix1 j) := by
  blk_simp [iblk, idx t]
  entry_read
  pointwise
  blk_ext [idx t, hj]

theorem ld0 (X : Vec Ideal S9x1024 .f32) (k : Fin 1024) : View.ld (Val := Elt Ideal) (e' := .f32) X r0_3 (ix2 0 k) = X (ix2 0 k) :=
  congrArg X (funext fun a => Fin.ext (by fin_cases a <;> first | rfl | (show 0 + 1 * k.val = k.val; omega)))

theorem ld1 (X : Vec Ideal S9x1024 .f32) (k : Fin 1024) : View.ld (Val := Elt Ideal) (e' := .f32) X r0_4 (ix2 0 k) = X (ix2 1 k) :=
  congrArg X (funext fun a => Fin.ext (by fin_cases a <;> first | rfl | (show 0 + 1 * k.val = k.val; omega)))

theorem ld2 (X : Vec Ideal S9x1024 .f32) (k : Fin 1024) : View.ld (Val := Elt Ideal) (e' := .f32) X r0_5 (ix2 0 k) = X (ix2 2 k) :=
  congrArg X (funext fun a => Fin.ext (by fin_cases a <;> first | rfl | (show 0 + 1 * k.val = k.val; omega)))

theorem ld3 (X : Vec Ideal S9x1024 .f32) (k : Fin 1024) : View.ld (Val := Elt Ideal) (e' := .f32) X r0_6 (ix2 0 k) = X (ix2 3 k) :=
  congrArg X (funext fun a => Fin.ext (by fin_cases a <;> first | rfl | (show 0 + 1 * k.val = k.val; omega)))

theorem ld4 (X : Vec Ideal S9x1024 .f32) (k : Fin 1024) : View.ld (Val := Elt Ideal) (e' := .f32) X r0_7 (ix2 0 k) = X (ix2 4 k) :=
  congrArg X (funext fun a => Fin.ext (by fin_cases a <;> first | rfl | (show 0 + 1 * k.val = k.val; omega)))

theorem ld5 (X : Vec Ideal S9x1024 .f32) (k : Fin 1024) : View.ld (Val := Elt Ideal) (e' := .f32) X r0_8 (ix2 0 k) = X (ix2 5 k) :=
  congrArg X (funext fun a => Fin.ext (by fin_cases a <;> first | rfl | (show 0 + 1 * k.val = k.val; omega)))

theorem ld6 (X : Vec Ideal S9x1024 .f32) (k : Fin 1024) : View.ld (Val := Elt Ideal) (e' := .f32) X r0_9 (ix2 0 k) = X (ix2 6 k) :=
  congrArg X (funext fun a => Fin.ext (by fin_cases a <;> first | rfl | (show 0 + 1 * k.val = k.val; omega)))

theorem ld7 (X : Vec Ideal S9x1024 .f32) (k : Fin 1024) : View.ld (Val := Elt Ideal) (e' := .f32) X r0_10 (ix2 0 k) = X (ix2 7 k) :=
  congrArg X (funext fun a => Fin.ext (by fin_cases a <;> first | rfl | (show 0 + 1 * k.val = k.val; omega)))

theorem ld8 (X : Vec Ideal S9x1024 .f32) (k : Fin 1024) : View.ld (Val := Elt Ideal) (e' := .f32) X r0_11 (ix2 0 k) = X (ix2 8 k) :=
  congrArg X (funext fun a => Fin.ext (by fin_cases a <;> first | rfl | (show 0 + 1 * k.val = k.val; omega)))

/-- The rows a block sees are the array's, zero past both ends. -/
theorem ext (c : Dev nD) (t : Fin cfg0.N) (X0 : Vec Ideal S1x1024x1024 .bf16) (X2 X3 : Vec Ideal S1x64x1024 .bf16)
    (h0 : X0 = iblk m c 0 t) (h2 : X2 = iblk m c 2 t) (h3 : X3 = iblk m c 3 t) (e : Fin 1152) (k : Fin 1024) (a : Fin 2) (j : Fin 22528)
    (ha : a.val = t.val / 88) (hj : j.val = t.val / 8 % 11 * 1024 + k.val) :
    k0_pay2 (grid0.coords t) X2 X3 X0 (ix2 e k)
      = if h : 64 ≤ t.val % 8 * 1024 + e.val ∧ t.val % 8 * 1024 + e.val - 64 < 8192 then m ((c : Thread nD τ).loc main_arg0) (ix3 a ⟨t.val % 8 * 1024 + e.val - 64, h.2⟩ j) else (0 : EReal) := by
  have he := e.isLt
  have ht : t.val % 8 < 8 := Nat.mod_lt _ (by norm_num)
  rw [pay2, (idx t).2.2.2.2.2.2.2]
  by_cases h : e.val < 64
  · rw [dif_pos h]
    by_cases h' : t.val % 8 = 0
    · rw [if_pos h', dif_neg (by omega)]
    · rw [if_neg h', dif_pos (by omega)]
      exact (congrFun h2 _).trans <| blk2 m c t ⟨e.val, h⟩ k a ⟨t.val % 8 * 1024 + e.val - 64, by omega⟩ j ha (by show t.val % 8 * 1024 + e.val - 64 + 64 = _ + e.val; omega) hj
  rw [dif_neg h]
  by_cases h' : e.val - 64 < 1024
  · rw [dif_pos h', dif_pos (by omega)]
    exact (congrFun h0 _).trans <| blk0 m c t ⟨e.val - 64, h'⟩ k a ⟨t.val % 8 * 1024 + e.val - 64, by omega⟩ j ha (by show t.val % 8 * 1024 + e.val - 64 = _ + (e.val - 64); omega) hj
  rw [dif_neg h']
  by_cases h7 : t.val % 8 = 7
  · rw [if_pos h7, dif_neg (by omega)]
  · rw [if_neg h7, dif_pos (by omega)]
    exact (congrFun h3 _).trans <| blk3 m c t ⟨e.val - 64 - 1024, by omega⟩ k a ⟨t.val % 8 * 1024 + e.val - 64, by omega⟩ j ha (by show t.val % 8 * 1024 + e.val - 64 = _ + 1024 + (e.val - 64 - 1024); omega) hj

theorem tap1 (c : Dev nD) (t : Fin cfg0.N) (X0 : Vec Ideal S1x1024x1024 .bf16) (X2 X3 : Vec Ideal S1x64x1024 .bf16)
    (h0 : X0 = iblk m c 0 t) (h2 : X2 = iblk m c 2 t) (h3 : X3 = iblk m c 3 t) (e : Fin 1152) (d : ℕ) (hd : d < 3) (r k : Fin 1024) (a : Fin 2) (l : Fin 8192) (j : Fin 22528)
    (he : e.val = 64 * d + r.val) (ha : a.val = t.val / 88) (hl : l.val = t.val % 8 * 1024 + r.val) (hj : j.val = t.val / 8 % 11 * 1024 + k.val) :
    k0_pay2 (grid0.coords t) X2 X3 X0 (ix2 e k) = px (fun l => m ((c : Thread nD τ).loc main_arg0) (ix3 a l j)) l d 1 := by
  have hr := r.isLt
  have ht : t.val % 8 < 8 := Nat.mod_lt _ (by norm_num)
  have hq : l.val / 64 = t.val % 8 * 16 + r.val / 64 := by omega
  have hm : l.val % 64 = r.val % 64 := by omega
  rw [ext m c t X0 X2 X3 h0 h2 h3 _ k a j ha hj]
  unfold px
  by_cases h : 1 ≤ l.val / 64 + d ∧ l.val / 64 + d ≤ 128 ∧ 1 ≤ l.val % 64 + 1 ∧ l.val % 64 + 1 ≤ 64
  · rw [dif_pos h, dif_pos (by first | omega | (dsimp only; omega))]
    exact congrArg (fun l => m ((c : Thread nD τ).loc main_arg0) (ix3 a l j)) (Fin.ext (by
      show t.val % 8 * 1024 + e.val - 64 = (l.val / 64 + d - 1) * 64 + (l.val % 64 + 1 - 1); omega))
  · rw [dif_neg h, dif_neg (by first | omega | (dsimp only; omega))]

theorem tap0 (c : Dev nD) (t : Fin cfg0.N) (X0 : Vec Ideal S1x1024x1024 .bf16) (X2 X3 : Vec Ideal S1x64x1024 .bf16)
    (h0 : X0 = iblk m c 0 t) (h2 : X2 = iblk m c 2 t) (h3 : X3 = iblk m c 3 t) (e : Fin 1152) (d : ℕ) (hd : d < 3) (r k : Fin 1024) (a : Fin 2) (l : Fin 8192) (j : Fin 22528)
    (he : e.val = 64 * d + r.val) (ha : a.val = t.val / 88) (hl : l.val = t.val % 8 * 1024 + r.val) (hj : j.val = t.val / 8 % 11 * 1024 + k.val) :
    k0_pay4 (grid0.coords t) X2 X3 X0 (ix2 e k) = px (fun l => m ((c : Thread nD τ).loc main_arg0) (ix3 a l j)) l d 0 := by
  have hr := r.isLt
  have ht : t.val % 8 < 8 := Nat.mod_lt _ (by norm_num)
  have hq : l.val / 64 = t.val % 8 * 16 + r.val / 64 := by omega
  have hm : l.val % 64 = r.val % 64 := by omega
  rw [pay4]
  by_cases hc : e.val % 64 = 0
  · rw [if_pos hc]
    unfold px
    rw [dif_neg (by omega)]
  rw [if_neg hc]
  rw [ext m c t X0 X2 X3 h0 h2 h3 _ k a j ha hj]
  unfold px
  by_cases h : 1 ≤ l.val / 64 + d ∧ l.val / 64 + d ≤ 128 ∧ 1 ≤ l.val % 64 + 0 ∧ l.val % 64 + 0 ≤ 64
  · rw [dif_pos h, dif_pos (by first | omega | (dsimp only; omega))]
    exact congrArg (fun l => m ((c : Thread nD τ).loc main_arg0) (ix3 a l j)) (Fin.ext (by
      show t.val % 8 * 1024 + (e.val + 1151) % 1152 - 64 = (l.val / 64 + d - 1) * 64 + (l.val % 64 + 0 - 1); omega))
  · rw [dif_neg h, dif_neg (by first | omega | (dsimp only; omega))]

theorem tap2 (c : Dev nD) (t : Fin cfg0.N) (X0 : Vec Ideal S1x1024x1024 .bf16) (X2 X3 : Vec Ideal S1x64x1024 .bf16)
    (h0 : X0 = iblk m c 0 t) (h2 : X2 = iblk m c 2 t) (h3 : X3 = iblk m c 3 t) (e : Fin 1152) (d : ℕ) (hd : d < 3) (r k : Fin 1024) (a : Fin 2) (l : Fin 8192) (j : Fin 22528)
    (he : e.val = 64 * d + r.val) (ha : a.val = t.val / 88) (hl : l.val = t.val % 8 * 1024 + r.val) (hj : j.val = t.val / 8 % 11 * 1024 + k.val) :
    k0_pay5 (grid0.coords t) X2 X3 X0 (ix2 e k) = px (fun l => m ((c : Thread nD τ).loc main_arg0) (ix3 a l j)) l d 2 := by
  have hr := r.isLt
  have ht : t.val % 8 < 8 := Nat.mod_lt _ (by norm_num)
  have hq : l.val / 64 = t.val % 8 * 16 + r.val / 64 := by omega
  have hm : l.val % 64 = r.val % 64 := by omega
  rw [pay5]
  by_cases hc : e.val % 64 = 63
  · rw [if_pos hc]
    unfold px
    rw [dif_neg (by omega)]
  rw [if_neg hc]
  rw [ext m c t X0 X2 X3 h0 h2 h3 _ k a j ha hj]
  unfold px
  by_cases h : 1 ≤ l.val / 64 + d ∧ l.val / 64 + d ≤ 128 ∧ 1 ≤ l.val % 64 + 2 ∧ l.val % 64 + 2 ≤ 64
  · rw [dif_pos h, dif_pos (by first | omega | (dsimp only; omega))]
    exact congrArg (fun l => m ((c : Thread nD τ).loc main_arg0) (ix3 a l j)) (Fin.ext (by
      show t.val % 8 * 1024 + (e.val + 1) % 1152 - 64 = (l.val / 64 + d - 1) * 64 + (l.val % 64 + 2 - 1); omega))
  · rw [dif_neg h, dif_neg (by first | omega | (dsimp only; omega))]

/-- A block's taps are the array's. -/
theorem block (c : Dev nD) (t : Fin cfg0.N) (X0 X1 : Vec Ideal S1x1024x1024 .bf16) (X2 X3 : Vec Ideal S1x64x1024 .bf16) (X4 : Vec Ideal S9x1024 .f32) (X5 : Vec Ideal S1x1024 .f32)
    (h0 : X0 = iblk m c 0 t) (h1 : X1 = iblk m c 1 t) (h2 : X2 = iblk m c 2 t) (h3 : X3 = iblk m c 3 t) (h4 : X4 = iblk m c 4 t) (h5 : X5 = iblk m c 5 t)
    (r k : Fin 1024) (i : S2x8192x11264.Idx)
    (ha : (i 0).val = t.val / 88) (hl : (i 1).val = t.val % 8 * 1024 + r.val) (hj : (i 2).val = t.val / 8 % 11 * 1024 + k.val) :
    k0_pay1 (k0_pay5 (grid0.coords t) X2 X3 X0)
      (k0_pay8 (k0_pay2 (grid0.coords t) X2 X3 X0) (k0_pay4 (grid0.coords t) X2 X3 X0) (k0_pay5 (grid0.coords t) X2 X3 X0) (k0_pay6 X5) (k0_pay7 (grid0.coords t) X2 X3 X0)
        (View.ld (Val := Elt Ideal) (e' := .f32) X4 r0_3) (View.ld (Val := Elt Ideal) (e' := .f32) X4 r0_4) (View.ld (Val := Elt Ideal) (e' := .f32) X4 r0_5)
        (View.ld (Val := Elt Ideal) (e' := .f32) X4 r0_6) (View.ld (Val := Elt Ideal) (e' := .f32) X4 r0_7) (View.ld (Val := Elt Ideal) (e' := .f32) X4 r0_8))
      (k0_pay9 (k0_pay2 (grid0.coords t) X2 X3 X0) (k0_pay4 (grid0.coords t) X2 X3 X0) (View.ld (Val := Elt Ideal) (e' := .f32) X4 r0_9) (View.ld (Val := Elt Ideal) (e' := .f32) X4 r0_10))
      (View.ld (Val := Elt Ideal) (e' := .f32) X4 r0_11) X1 (ix3 0 r k) = out (m ((c : Thread nD τ).loc main_arg0)) (m ((c : Thread nD τ).loc main_arg1)) (m ((c : Thread nD τ).loc main_arg2)) i := by
  have hi2 : (i 2).val < 11264 := (i 2).isLt
  have hj' : (⟨(i 2).val, by omega⟩ : Fin 22528).val = t.val / 8 % 11 * 1024 + k.val := hj
  rw [pay1, pay8, pay9, pay7, pay6, ld0, ld1, ld2, ld3, ld4, ld5, ld6, ld7, ld8]
  rw [tap0 m c t X0 X2 X3 h0 h2 h3 ⟨r.val, by omega⟩ 0 (by norm_num) r k (i 0) (i 1) ⟨(i 2).val, by omega⟩ (by show r.val = _; omega) ha hl hj']
  rw [tap1 m c t X0 X2 X3 h0 h2 h3 ⟨r.val, by omega⟩ 0 (by norm_num) r k (i 0) (i 1) ⟨(i 2).val, by omega⟩ (by show r.val = _; omega) ha hl hj']
  rw [tap2 m c t X0 X2 X3 h0 h2 h3 ⟨r.val, by omega⟩ 0 (by norm_num) r k (i 0) (i 1) ⟨(i 2).val, by omega⟩ (by show r.val = _; omega) ha hl hj']
  rw [tap0 m c t X0 X2 X3 h0 h2 h3 ⟨64 + r.val, by omega⟩ 1 (by norm_num) r k (i 0) (i 1) ⟨(i 2).val, by omega⟩ (by show 64 + r.val = _; omega) ha hl hj']
  rw [tap1 m c t X0 X2 X3 h0 h2 h3 ⟨64 + r.val, by omega⟩ 1 (by norm_num) r k (i 0) (i 1) ⟨(i 2).val, by omega⟩ (by show 64 + r.val = _; omega) ha hl hj']
  rw [tap2 m c t X0 X2 X3 h0 h2 h3 ⟨64 + r.val, by omega⟩ 1 (by norm_num) r k (i 0) (i 1) ⟨(i 2).val, by omega⟩ (by show 64 + r.val = _; omega) ha hl hj']
  rw [tap0 m c t X0 X2 X3 h0 h2 h3 ⟨128 + r.val, by omega⟩ 2 (by norm_num) r k (i 0) (i 1) ⟨(i 2).val, by omega⟩ (by show 128 + r.val = _; omega) ha hl hj']
  rw [tap1 m c t X0 X2 X3 h0 h2 h3 ⟨128 + r.val, by omega⟩ 2 (by norm_num) r k (i 0) (i 1) ⟨(i 2).val, by omega⟩ (by show 128 + r.val = _; omega) ha hl hj']
  rw [tap2 m c t X0 X2 X3 h0 h2 h3 ⟨128 + r.val, by omega⟩ 2 (by norm_num) r k (i 0) (i 1) ⟨(i 2).val, by omega⟩ (by show 128 + r.val = _; omega) ha hl hj']
  rw [(congrFun h4 _).trans (blk4 m c t 0 k (i 2) hj)]
  rw [(congrFun h4 _).trans (blk4 m c t 1 k (i 2) hj)]
  rw [(congrFun h4 _).trans (blk4 m c t 2 k (i 2) hj)]
  rw [(congrFun h4 _).trans (blk4 m c t 3 k (i 2) hj)]
  rw [(congrFun h4 _).trans (blk4 m c t 4 k (i 2) hj)]
  rw [(congrFun h4 _).trans (blk4 m c t 5 k (i 2) hj)]
  rw [(congrFun h4 _).trans (blk4 m c t 6 k (i 2) hj)]
  rw [(congrFun h4 _).trans (blk4 m c t 7 k (i 2) hj)]
  rw [(congrFun h4 _).trans (blk4 m c t 8 k (i 2) hj)]
  rw [(congrFun h5 _).trans (blk5 m c t k (i 2) hj),
    (congrFun h1 _).trans (blk1 m c t r k (i 0) (i 1) ⟨11264 + (i 2).val, by omega⟩ ha hl (by show 11264 + (i 2).val = _; omega))]
  rfl

theorem final (c : Dev nD) : (dats m 0 c).arrAt 6 cfg0.N = out (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold_out out0_6
  frame_out
  idx_vars y
  have e0 : ((((View.whole main_v2).slice (win0_6.rect t)).emb (ix3 y0 y1 y2)) 0).val = t.val / 88 := by
    blk_simp [idx t]
  have e1 : ((((View.whole main_v2).slice (win0_6.rect t)).emb (ix3 y0 y1 y2)) 1).val = t.val % 8 * 1024 + y1.val := by
    blk_simp [idx t]
  have e2 : ((((View.whole main_v2).slice (win0_6.rect t)).emb (ix3 y0 y1 y2)) 2).val = t.val / 8 % 11 * 1024 + y2.val := by
    blk_simp [idx t]
  generalize ((View.whole main_v2).slice (win0_6.rect t)).emb (ix3 y0 y1 y2) = i at e0 e1 e2 ⊢
  obtain rfl : y0 = 0 := Subsingleton.elim _ _
  exact block m c t _ _ _ _ _ _ rfl rfl rfl rfl rfl rfl y1 y2 i e0 e1 e2

end Cert.FfnActIdeal.Act
-- ==== Proof.FfnActClaim.lean ====
module

public import proofs.«01_k».proof.Defs
public import proofs.«01_k».proof.Proof.Gen.FfnActRefIdeal.Run
public import proofs.«01_k».proof.Proof.FfnActValue

@[expose] public section

set_option maxRecDepth 16384

noncomputable section

open Idealize.ShloMosaic Idealize.ShloMosaic.TcCoe Idealize.SL.Sem

namespace Cert.FfnActRefIdeal.Act

open Cert.FfnActRefIdeal.Gen

/-- The reference's zero-padded image. -/
def image (x : FVec Ideal S2x8192x22528 .bf16) : FVec Ideal S2x130x66x11264 .f32 :=
  (pad S2x130x66x11264 ![0, 1, 1, 0] ![0, 1, 1, 0] ![0, 0, 0, 0] (shapeCast _ (extractStridedSlice S2x8192x11264 ![0, 0, 0] (extf .f32 x bitsLt_bf16_f32) slices_S2x8192x22528_S2x8192x11264_0_0_0) shapeCasts_S2x8192x11264_S2x128x64x11264) (sitofp .f32 (constantI S_ 32 0#32)) pads_S2x128x64x11264_S2x130x66x11264_000_110_110_000 h_S_)

def img00 (x : FVec Ideal S2x8192x22528 .bf16) : FVec Ideal S2x128x64x11264 .f32 :=
  (extractStridedSlice S2x128x64x11264 ![0, 0, 0, 0] (image x) slices_S2x130x66x11264_S2x128x64x11264_0_0_0_0)

def wt00 (w : FVec Ideal S3x3x11264 .f32) : FVec Ideal S2x128x64x11264 .f32 :=
  (broadcastInDim S2x128x64x11264 ![0, 1, 2, 3] bcast_S1x1x1x11264_S2x128x64x11264_0_1_2_3 (broadcastInDim S1x1x1x11264 ![3] bcast_S11264_S1x1x1x11264_3 (shapeCast _ (extractStridedSlice S1x1x11264 ![0, 0, 0] w slices_S3x3x11264_S1x1x11264_0_0_0) shapeCasts_S1x1x11264_S11264)))

theorem wt00_apply (w : FVec Ideal S3x3x11264 .f32) (a : Fin 2) (y : Fin 128) (z : Fin 64) (j : Fin 11264) : wt00 w (ix4 a y z j) = w (ix3 0 0 j) := by
  pointwise [wt00]

theorem img00_apply (x : FVec Ideal S2x8192x22528 .bf16) (a : Fin 2) (l : Fin 8192) (y : Fin 128) (z : Fin 64) (hy : y.val = l.val / 64) (hz : z.val = l.val % 64) (j : Fin 11264) :
    img00 x (ix4 a y z j) = Cert.FfnActIdeal.Act.px (fun l => x (ix3 a l ⟨j.val, by omega⟩)) l 0 0 := by
  have hl := l.isLt
  pointwise [img00, image]
  unfold Cert.FfnActIdeal.Act.px
  split_ifs <;> first
    | exact Cert.Taps.zero_word
    | (exfalso; omega)
    | exact congrArg (fun l => x (ix3 a l ⟨j.val, by omega⟩)) (Fin.ext (by dsimp only; omega))

def img01 (x : FVec Ideal S2x8192x22528 .bf16) : FVec Ideal S2x128x64x11264 .f32 :=
  (extractStridedSlice S2x128x64x11264 ![0, 0, 1, 0] (image x) slices_S2x130x66x11264_S2x128x64x11264_0_0_1_0)

def wt01 (w : FVec Ideal S3x3x11264 .f32) : FVec Ideal S2x128x64x11264 .f32 :=
  (broadcastInDim S2x128x64x11264 ![0, 1, 2, 3] bcast_S1x1x1x11264_S2x128x64x11264_0_1_2_3 (broadcastInDim S1x1x1x11264 ![3] bcast_S11264_S1x1x1x11264_3 (shapeCast _ (extractStridedSlice S1x1x11264 ![0, 1, 0] w slices_S3x3x11264_S1x1x11264_0_1_0) shapeCasts_S1x1x11264_S11264)))

theorem wt01_apply (w : FVec Ideal S3x3x11264 .f32) (a : Fin 2) (y : Fin 128) (z : Fin 64) (j : Fin 11264) : wt01 w (ix4 a y z j) = w (ix3 0 1 j) := by
  pointwise [wt01]

theorem img01_apply (x : FVec Ideal S2x8192x22528 .bf16) (a : Fin 2) (l : Fin 8192) (y : Fin 128) (z : Fin 64) (hy : y.val = l.val / 64) (hz : z.val = l.val % 64) (j : Fin 11264) :
    img01 x (ix4 a y z j) = Cert.FfnActIdeal.Act.px (fun l => x (ix3 a l ⟨j.val, by omega⟩)) l 0 1 := by
  have hl := l.isLt
  pointwise [img01, image]
  unfold Cert.FfnActIdeal.Act.px
  split_ifs <;> first
    | exact Cert.Taps.zero_word
    | (exfalso; omega)
    | exact congrArg (fun l => x (ix3 a l ⟨j.val, by omega⟩)) (Fin.ext (by dsimp only; omega))

def img02 (x : FVec Ideal S2x8192x22528 .bf16) : FVec Ideal S2x128x64x11264 .f32 :=
  (extractStridedSlice S2x128x64x11264 ![0, 0, 2, 0] (image x) slices_S2x130x66x11264_S2x128x64x11264_0_0_2_0)

def wt02 (w : FVec Ideal S3x3x11264 .f32) : FVec Ideal S2x128x64x11264 .f32 :=
  (broadcastInDim S2x128x64x11264 ![0, 1, 2, 3] bcast_S1x1x1x11264_S2x128x64x11264_0_1_2_3 (broadcastInDim S1x1x1x11264 ![3] bcast_S11264_S1x1x1x11264_3 (shapeCast _ (extractStridedSlice S1x1x11264 ![0, 2, 0] w slices_S3x3x11264_S1x1x11264_0_2_0) shapeCasts_S1x1x11264_S11264)))

theorem wt02_apply (w : FVec Ideal S3x3x11264 .f32) (a : Fin 2) (y : Fin 128) (z : Fin 64) (j : Fin 11264) : wt02 w (ix4 a y z j) = w (ix3 0 2 j) := by
  pointwise [wt02]

theorem img02_apply (x : FVec Ideal S2x8192x22528 .bf16) (a : Fin 2) (l : Fin 8192) (y : Fin 128) (z : Fin 64) (hy : y.val = l.val / 64) (hz : z.val = l.val % 64) (j : Fin 11264) :
    img02 x (ix4 a y z j) = Cert.FfnActIdeal.Act.px (fun l => x (ix3 a l ⟨j.val, by omega⟩)) l 0 2 := by
  have hl := l.isLt
  pointwise [img02, image]
  unfold Cert.FfnActIdeal.Act.px
  split_ifs <;> first
    | exact Cert.Taps.zero_word
    | (exfalso; omega)
    | exact congrArg (fun l => x (ix3 a l ⟨j.val, by omega⟩)) (Fin.ext (by dsimp only; omega))

def img10 (x : FVec Ideal S2x8192x22528 .bf16) : FVec Ideal S2x128x64x11264 .f32 :=
  (extractStridedSlice S2x128x64x11264 ![0, 1, 0, 0] (image x) slices_S2x130x66x11264_S2x128x64x11264_0_1_0_0)

def wt10 (w : FVec Ideal S3x3x11264 .f32) : FVec Ideal S2x128x64x11264 .f32 :=
  (broadcastInDim S2x128x64x11264 ![0, 1, 2, 3] bcast_S1x1x1x11264_S2x128x64x11264_0_1_2_3 (broadcastInDim S1x1x1x11264 ![3] bcast_S11264_S1x1x1x11264_3 (shapeCast _ (extractStridedSlice S1x1x11264 ![1, 0, 0] w slices_S3x3x11264_S1x1x11264_1_0_0) shapeCasts_S1x1x11264_S11264)))

theorem wt10_apply (w : FVec Ideal S3x3x11264 .f32) (a : Fin 2) (y : Fin 128) (z : Fin 64) (j : Fin 11264) : wt10 w (ix4 a y z j) = w (ix3 1 0 j) := by
  pointwise [wt10]

theorem img10_apply (x : FVec Ideal S2x8192x22528 .bf16) (a : Fin 2) (l : Fin 8192) (y : Fin 128) (z : Fin 64) (hy : y.val = l.val / 64) (hz : z.val = l.val % 64) (j : Fin 11264) :
    img10 x (ix4 a y z j) = Cert.FfnActIdeal.Act.px (fun l => x (ix3 a l ⟨j.val, by omega⟩)) l 1 0 := by
  have hl := l.isLt
  pointwise [img10, image]
  unfold Cert.FfnActIdeal.Act.px
  split_ifs <;> first
    | exact Cert.Taps.zero_word
    | (exfalso; omega)
    | exact congrArg (fun l => x (ix3 a l ⟨j.val, by omega⟩)) (Fin.ext (by dsimp only; omega))

def img11 (x : FVec Ideal S2x8192x22528 .bf16) : FVec Ideal S2x128x64x11264 .f32 :=
  (extractStridedSlice S2x128x64x11264 ![0, 1, 1, 0] (image x) slices_S2x130x66x11264_S2x128x64x11264_0_1_1_0)

def wt11 (w : FVec Ideal S3x3x11264 .f32) : FVec Ideal S2x128x64x11264 .f32 :=
  (broadcastInDim S2x128x64x11264 ![0, 1, 2, 3] bcast_S1x1x1x11264_S2x128x64x11264_0_1_2_3 (broadcastInDim S1x1x1x11264 ![3] bcast_S11264_S1x1x1x11264_3 (shapeCast _ (extractStridedSlice S1x1x11264 ![1, 1, 0] w slices_S3x3x11264_S1x1x11264_1_1_0) shapeCasts_S1x1x11264_S11264)))

theorem wt11_apply (w : FVec Ideal S3x3x11264 .f32) (a : Fin 2) (y : Fin 128) (z : Fin 64) (j : Fin 11264) : wt11 w (ix4 a y z j) = w (ix3 1 1 j) := by
  pointwise [wt11]

theorem img11_apply (x : FVec Ideal S2x8192x22528 .bf16) (a : Fin 2) (l : Fin 8192) (y : Fin 128) (z : Fin 64) (hy : y.val = l.val / 64) (hz : z.val = l.val % 64) (j : Fin 11264) :
    img11 x (ix4 a y z j) = Cert.FfnActIdeal.Act.px (fun l => x (ix3 a l ⟨j.val, by omega⟩)) l 1 1 := by
  have hl := l.isLt
  pointwise [img11, image]
  unfold Cert.FfnActIdeal.Act.px
  split_ifs <;> first
    | exact Cert.Taps.zero_word
    | (exfalso; omega)
    | exact congrArg (fun l => x (ix3 a l ⟨j.val, by omega⟩)) (Fin.ext (by dsimp only; omega))

def img12 (x : FVec Ideal S2x8192x22528 .bf16) : FVec Ideal S2x128x64x11264 .f32 :=
  (extractStridedSlice S2x128x64x11264 ![0, 1, 2, 0] (image x) slices_S2x130x66x11264_S2x128x64x11264_0_1_2_0)

def wt12 (w : FVec Ideal S3x3x11264 .f32) : FVec Ideal S2x128x64x11264 .f32 :=
  (broadcastInDim S2x128x64x11264 ![0, 1, 2, 3] bcast_S1x1x1x11264_S2x128x64x11264_0_1_2_3 (broadcastInDim S1x1x1x11264 ![3] bcast_S11264_S1x1x1x11264_3 (shapeCast _ (extractStridedSlice S1x1x11264 ![1, 2, 0] w slices_S3x3x11264_S1x1x11264_1_2_0) shapeCasts_S1x1x11264_S11264)))

theorem wt12_apply (w : FVec Ideal S3x3x11264 .f32) (a : Fin 2) (y : Fin 128) (z : Fin 64) (j : Fin 11264) : wt12 w (ix4 a y z j) = w (ix3 1 2 j) := by
  pointwise [wt12]

theorem img12_apply (x : FVec Ideal S2x8192x22528 .bf16) (a : Fin 2) (l : Fin 8192) (y : Fin 128) (z : Fin 64) (hy : y.val = l.val / 64) (hz : z.val = l.val % 64) (j : Fin 11264) :
    img12 x (ix4 a y z j) = Cert.FfnActIdeal.Act.px (fun l => x (ix3 a l ⟨j.val, by omega⟩)) l 1 2 := by
  have hl := l.isLt
  pointwise [img12, image]
  unfold Cert.FfnActIdeal.Act.px
  split_ifs <;> first
    | exact Cert.Taps.zero_word
    | (exfalso; omega)
    | exact congrArg (fun l => x (ix3 a l ⟨j.val, by omega⟩)) (Fin.ext (by dsimp only; omega))

def img20 (x : FVec Ideal S2x8192x22528 .bf16) : FVec Ideal S2x128x64x11264 .f32 :=
  (extractStridedSlice S2x128x64x11264 ![0, 2, 0, 0] (image x) slices_S2x130x66x11264_S2x128x64x11264_0_2_0_0)

def wt20 (w : FVec Ideal S3x3x11264 .f32) : FVec Ideal S2x128x64x11264 .f32 :=
  (broadcastInDim S2x128x64x11264 ![0, 1, 2, 3] bcast_S1x1x1x11264_S2x128x64x11264_0_1_2_3 (broadcastInDim S1x1x1x11264 ![3] bcast_S11264_S1x1x1x11264_3 (shapeCast _ (extractStridedSlice S1x1x11264 ![2, 0, 0] w slices_S3x3x11264_S1x1x11264_2_0_0) shapeCasts_S1x1x11264_S11264)))

theorem wt20_apply (w : FVec Ideal S3x3x11264 .f32) (a : Fin 2) (y : Fin 128) (z : Fin 64) (j : Fin 11264) : wt20 w (ix4 a y z j) = w (ix3 2 0 j) := by
  pointwise [wt20]

theorem img20_apply (x : FVec Ideal S2x8192x22528 .bf16) (a : Fin 2) (l : Fin 8192) (y : Fin 128) (z : Fin 64) (hy : y.val = l.val / 64) (hz : z.val = l.val % 64) (j : Fin 11264) :
    img20 x (ix4 a y z j) = Cert.FfnActIdeal.Act.px (fun l => x (ix3 a l ⟨j.val, by omega⟩)) l 2 0 := by
  have hl := l.isLt
  pointwise [img20, image]
  unfold Cert.FfnActIdeal.Act.px
  split_ifs <;> first
    | exact Cert.Taps.zero_word
    | (exfalso; omega)
    | exact congrArg (fun l => x (ix3 a l ⟨j.val, by omega⟩)) (Fin.ext (by dsimp only; omega))

def img21 (x : FVec Ideal S2x8192x22528 .bf16) : FVec Ideal S2x128x64x11264 .f32 :=
  (extractStridedSlice S2x128x64x11264 ![0, 2, 1, 0] (image x) slices_S2x130x66x11264_S2x128x64x11264_0_2_1_0)

def wt21 (w : FVec Ideal S3x3x11264 .f32) : FVec Ideal S2x128x64x11264 .f32 :=
  (broadcastInDim S2x128x64x11264 ![0, 1, 2, 3] bcast_S1x1x1x11264_S2x128x64x11264_0_1_2_3 (broadcastInDim S1x1x1x11264 ![3] bcast_S11264_S1x1x1x11264_3 (shapeCast _ (extractStridedSlice S1x1x11264 ![2, 1, 0] w slices_S3x3x11264_S1x1x11264_2_1_0) shapeCasts_S1x1x11264_S11264)))

theorem wt21_apply (w : FVec Ideal S3x3x11264 .f32) (a : Fin 2) (y : Fin 128) (z : Fin 64) (j : Fin 11264) : wt21 w (ix4 a y z j) = w (ix3 2 1 j) := by
  pointwise [wt21]

theorem img21_apply (x : FVec Ideal S2x8192x22528 .bf16) (a : Fin 2) (l : Fin 8192) (y : Fin 128) (z : Fin 64) (hy : y.val = l.val / 64) (hz : z.val = l.val % 64) (j : Fin 11264) :
    img21 x (ix4 a y z j) = Cert.FfnActIdeal.Act.px (fun l => x (ix3 a l ⟨j.val, by omega⟩)) l 2 1 := by
  have hl := l.isLt
  pointwise [img21, image]
  unfold Cert.FfnActIdeal.Act.px
  split_ifs <;> first
    | exact Cert.Taps.zero_word
    | (exfalso; omega)
    | exact congrArg (fun l => x (ix3 a l ⟨j.val, by omega⟩)) (Fin.ext (by dsimp only; omega))

def img22 (x : FVec Ideal S2x8192x22528 .bf16) : FVec Ideal S2x128x64x11264 .f32 :=
  (extractStridedSlice S2x128x64x11264 ![0, 2, 2, 0] (image x) slices_S2x130x66x11264_S2x128x64x11264_0_2_2_0)

def wt22 (w : FVec Ideal S3x3x11264 .f32) : FVec Ideal S2x128x64x11264 .f32 :=
  (broadcastInDim S2x128x64x11264 ![0, 1, 2, 3] bcast_S1x1x1x11264_S2x128x64x11264_0_1_2_3 (broadcastInDim S1x1x1x11264 ![3] bcast_S11264_S1x1x1x11264_3 (shapeCast _ (extractStridedSlice S1x1x11264 ![2, 2, 0] w slices_S3x3x11264_S1x1x11264_2_2_0) shapeCasts_S1x1x11264_S11264)))

theorem wt22_apply (w : FVec Ideal S3x3x11264 .f32) (a : Fin 2) (y : Fin 128) (z : Fin 64) (j : Fin 11264) : wt22 w (ix4 a y z j) = w (ix3 2 2 j) := by
  pointwise [wt22]

theorem img22_apply (x : FVec Ideal S2x8192x22528 .bf16) (a : Fin 2) (l : Fin 8192) (y : Fin 128) (z : Fin 64) (hy : y.val = l.val / 64) (hz : z.val = l.val % 64) (j : Fin 11264) :
    img22 x (ix4 a y z j) = Cert.FfnActIdeal.Act.px (fun l => x (ix3 a l ⟨j.val, by omega⟩)) l 2 2 := by
  have hl := l.isLt
  pointwise [img22, image]
  unfold Cert.FfnActIdeal.Act.px
  split_ifs <;> first
    | exact Cert.Taps.zero_word
    | (exfalso; omega)
    | exact congrArg (fun l => x (ix3 a l ⟨j.val, by omega⟩)) (Fin.ext (by dsimp only; omega))

/-- The reference's convolution. -/
def conv (x : FVec Ideal S2x8192x22528 .bf16) (w : FVec Ideal S3x3x11264 .f32) : FVec Ideal S2x128x64x11264 .f32 :=
  (addf (addf (addf (addf (addf (addf (addf (addf (addf (broadcastInDim S2x128x64x11264 ![] bcast_S_S2x128x64x11264 (constant S_ .f32 0x00000000#32)) (mulf (img00 x) (wt00 w))) (mulf (img01 x) (wt01 w))) (mulf (img02 x) (wt02 w))) (mulf (img10 x) (wt10 w))) (mulf (img11 x) (wt11 w))) (mulf (img12 x) (wt12 w))) (mulf (img20 x) (wt20 w))) (mulf (img21 x) (wt21 w))) (mulf (img22 x) (wt22 w)))

/-- The reference's activation of the convolution with its bias. -/
def act (v : FVec Ideal S2x128x64x11264 .f32) (x : FVec Ideal S2x8192x22528 .bf16) (b : FVec Ideal S11264 .f32) : FVec Ideal S2x8192x11264 .bf16 :=
  truncf (F := Ideal) .bf16 (mulf (mulf (mulf (broadcastInDim S2x8192x11264 ![] bcast_S_S2x8192x11264 (constant S_ .f32 0x3F000000#32)) (addf (shapeCast _ v shapeCasts_S2x128x64x11264_S2x8192x11264) (broadcastInDim S2x8192x11264 ![0, 1, 2] bcast_S1x1x11264_S2x8192x11264_0_1_2 (broadcastInDim S1x1x11264 ![2] bcast_S11264_S1x1x11264_2 b)))) (Host.erfc (mulf (Host.negf (addf (shapeCast _ v shapeCasts_S2x128x64x11264_S2x8192x11264) (broadcastInDim S2x8192x11264 ![0, 1, 2] bcast_S1x1x11264_S2x8192x11264_0_1_2 (broadcastInDim S1x1x11264 ![2] bcast_S11264_S1x1x11264_2 b)))) (broadcastInDim S2x8192x11264 ![] bcast_S_S2x8192x11264 (constant S_ .f32 0x3F3504F3#32))))) (extractStridedSlice S2x8192x11264 ![0, 0, 11264] (extf .f32 x bitsLt_bf16_f32) slices_S2x8192x22528_S2x8192x11264_0_0_11264)) bitsLt_bf16_f32

theorem conv_apply (x : FVec Ideal S2x8192x22528 .bf16) (w : FVec Ideal S3x3x11264 .f32) (b : FVec Ideal S11264 .f32) (a : Fin 2) (l : Fin 8192) (y : Fin 128) (z : Fin 64) (hy : y.val = l.val / 64) (hz : z.val = l.val % 64) (j : Fin 11264) :
    conv x w (ix4 a y z j) + b (ix1 j) = Cert.FfnActIdeal.Act.acc (Cert.FfnActIdeal.Act.px (fun l => x (ix3 a l ⟨j.val, by omega⟩)) l) (fun d => w (ix3 ⟨d.val / 3, by omega⟩ ⟨d.val % 3, by omega⟩ j)) (b (ix1 j)) := by
  have h : conv x w (ix4 a y z j) = 0 + img00 x (ix4 a y z j) * wt00 w (ix4 a y z j) + img01 x (ix4 a y z j) * wt01 w (ix4 a y z j) + img02 x (ix4 a y z j) * wt02 w (ix4 a y z j) + img10 x (ix4 a y z j) * wt10 w (ix4 a y z j) + img11 x (ix4 a y z j) * wt11 w (ix4 a y z j) + img12 x (ix4 a y z j) * wt12 w (ix4 a y z j) + img20 x (ix4 a y z j) * wt20 w (ix4 a y z j) + img21 x (ix4 a y z j) * wt21 w (ix4 a y z j) + img22 x (ix4 a y z j) * wt22 w (ix4 a y z j) := by
    unfold conv
    generalize img00 x = p00
    generalize wt00 w = q00
    generalize img01 x = p01
    generalize wt01 w = q01
    generalize img02 x = p02
    generalize wt02 w = q02
    generalize img10 x = p10
    generalize wt10 w = q10
    generalize img11 x = p11
    generalize wt11 w = q11
    generalize img12 x = p12
    generalize wt12 w = q12
    generalize img20 x = p20
    generalize wt20 w = q20
    generalize img21 x = p21
    generalize wt21 w = q21
    generalize img22 x = p22
    generalize wt22 w = q22
    pointwise
  rw [h, img00_apply x a l y z hy hz j, wt00_apply, img01_apply x a l y z hy hz j, wt01_apply, img02_apply x a l y z hy hz j, wt02_apply, img10_apply x a l y z hy hz j, wt10_apply, img11_apply x a l y z hy hz j, wt11_apply, img12_apply x a l y z hy hz j, wt12_apply, img20_apply x a l y z hy hz j, wt20_apply, img21_apply x a l y z hy hz j, wt21_apply, img22_apply x a l y z hy hz j, wt22_apply]
  unfold Cert.FfnActIdeal.Act.acc
  generalize (Cert.FfnActIdeal.Act.px (fun l => x (ix3 a l ⟨j.val, by omega⟩)) l) = p
  show 0 + p 0 0 * w (ix3 0 0 j) + p 0 1 * w (ix3 0 1 j) + p 0 2 * w (ix3 0 2 j) + p 1 0 * w (ix3 1 0 j) + p 1 1 * w (ix3 1 1 j) + p 1 2 * w (ix3 1 2 j) + p 2 0 * w (ix3 2 0 j) + p 2 1 * w (ix3 2 1 j) + p 2 2 * w (ix3 2 2 j) + b (ix1 j)
    = b (ix1 j) + (p 0 0 * w (ix3 0 0 j) + p 0 1 * w (ix3 0 1 j) + p 0 2 * w (ix3 0 2 j)) + (p 1 0 * w (ix3 1 0 j) + p 1 1 * w (ix3 1 1 j) + p 1 2 * w (ix3 1 2 j))
      + (p 2 0 * w (ix3 2 0 j) + p 2 1 * w (ix3 2 1 j) + p 2 2 * w (ix3 2 2 j))
  rw [zero_add]
  ac_rfl

theorem act_apply (v : FVec Ideal S2x128x64x11264 .f32) (x : FVec Ideal S2x8192x22528 .bf16) (b : FVec Ideal S11264 .f32) (a : Fin 2) (l : Fin 8192) (j : Fin 11264) :
    act v x b (ix3 a l j) = Cert.FfnActIdeal.Act.gelu (v (ix4 a ⟨l.val / 64, by omega⟩ ⟨l.val % 64, by omega⟩ j) + b (ix1 j)) (x (ix3 a l ⟨11264 + j.val, by omega⟩)) := by
  pointwise [act, Cert.FfnActIdeal.Act.gelu]
  generalize v (ix4 a ⟨l.val / 64, by omega⟩ ⟨l.val % 64, by omega⟩ j) + b (ix1 j) = u
  simp only [Ideal.hostUnary_erfc_def, Ideal.hostNegf_def, Ideal.negf_def, neg_mul, Ideal.erfc_neg]

/-- The reference's operations composed, entry by entry. -/
theorem ref_eq (m : (ℓ : Loc nD τ sig) → Buf (Elt Ideal) ℓ) (c : Dev nD) :
    Value.res_main_v81 m c = Cert.FfnActIdeal.Act.out (m ((c.tc : Thread nD τ).loc main_arg0)) (m ((c.tc : Thread nD τ).loc main_arg1)) (m ((c.tc : Thread nD τ).loc main_arg2)) := by
  have h : Value.res_main_v81 m c = act (conv (m ((c.tc : Thread nD τ).loc main_arg0)) (m ((c.tc : Thread nD τ).loc main_arg1))) (m ((c.tc : Thread nD τ).loc main_arg0)) (m ((c.tc : Thread nD τ).loc main_arg2)) := rfl
  rw [h]
  funext i
  idx_vars i
  rw [act_apply, conv_apply _ _ _ i0 i1 _ _ rfl rfl]
  rfl

end Cert.FfnActRefIdeal.Act

namespace Cert.FfnActIdeal.Act

/-- The reference's result is the same array. -/
theorem ref (m : (ℓ : Loc Cert.FfnActRefIdeal.nD Cert.FfnActRefIdeal.τ Cert.FfnActRefIdeal.sig) → Buf (Elt Ideal) ℓ) (ρ : Dev Cert.FfnActRefIdeal.nD → PrngReg) :
    θ_run (Cert.FfnActRefIdeal.defs (F := Ideal)) (onTc (τ := Cert.FfnActRefIdeal.τ) (Cert.FfnActRefIdeal.main (F := Ideal))) ⟨m, fun _ => 0, ρ⟩ fun r => ∀ c : Dev Cert.FfnActRefIdeal.nD,
      r.2.mem ((c.tc : Thread Cert.FfnActRefIdeal.nD Cert.FfnActRefIdeal.τ).loc Cert.FfnActRefIdeal.main_v81)
        = out (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2))
      ∧ r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2) :=
  (θ_run _ _ _).mono (fun _ h c => ⟨(h c).1.trans (Cert.FfnActRefIdeal.Act.ref_eq _ _), (h c).2⟩) (Cert.FfnActRefIdeal.Value.run m ρ)

/-- The reference runs and leaves its arguments and every counter as they were. -/
theorem refFrame : Cert.quiescent_FfnActRefIdeal := fun m ρ _ =>
  (θ_run _ _ _).mono (fun _ h => ⟨fun c => (h c).2, funext fun ⟨_, s⟩ => by cases s <;> exact Fin.elim0 ‹_›⟩) (ref m ρ)

/-- The kernel and the reference compute the same array. -/
theorem algebraic : Cert.algebraic_FfnActIdeal_FfnActRefIdeal := fun m ρ m' ρ' _ hag =>
  ⟨fun c => out (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)),
    (θ_run _ _ _).mono (fun _ h c => ⟨(h c).1.trans (final m c), (h c).2⟩) (Cert.FfnActIdeal.Value.run_blocks m ρ),
    (θ_run _ _ _).mono (fun _ h c => ⟨(h c).1.trans (by rw [(hag c).1, (hag c).2.1, (hag c).2.2]), (h c).2⟩) (ref m' ρ')⟩

end Cert.FfnActIdeal.Act
-- ==== Proof.lean ====
/- Everything the certificate claims: each program's run, each idealization, and each call's agreement with its reference. -/
module

public import proofs.«01_k».proof.Defs
public import proofs.«01_k».proof.Proof.GdnClaim
public import proofs.«01_k».proof.Proof.Gen.PostNorm.Frame
public import proofs.«01_k».proof.Proof.PostNormClaim
public import proofs.«01_k».proof.Proof.Gen.MidNorm.Frame
public import proofs.«01_k».proof.Proof.MidNormClaim
public import proofs.«01_k».proof.Proof.Gen.FfnUp.Frame
public import proofs.«01_k».proof.Proof.FfnUpClaim
public import proofs.«01_k».proof.Proof.Gen.FfnDown.Frame
public import proofs.«01_k».proof.Proof.FfnDownClaim
public import proofs.«01_k».proof.Proof.Gen.HyIn.Frame
public import proofs.«01_k».proof.Proof.HyInClaim
public import proofs.«01_k».proof.Proof.Gen.HyOut.Frame
public import proofs.«01_k».proof.Proof.HyOutClaim
public import proofs.«01_k».proof.Proof.Gen.GdnIn.Frame
public import proofs.«01_k».proof.Proof.GdnInClaim
public import proofs.«01_k».proof.Proof.Gen.GdnAb.Frame
public import proofs.«01_k».proof.Proof.GdnAbClaim
public import proofs.«01_k».proof.Proof.Gen.GdnOut.Frame
public import proofs.«01_k».proof.Proof.GdnOutClaim
public import proofs.«01_k».proof.Proof.Gen.Mod.Frame
public import proofs.«01_k».proof.Proof.ModClaim
public import proofs.«01_k».proof.Proof.Gen.HyShort.Frame
public import proofs.«01_k».proof.Proof.HyShortClaim
public import proofs.«01_k».proof.Proof.Gen.GdnPre.Frame
public import proofs.«01_k».proof.Proof.GdnPreClaim
public import proofs.«01_k».proof.Proof.Gen.GdnPost.Frame
public import proofs.«01_k».proof.Proof.GdnPostClaim
public import proofs.«01_k».proof.Proof.Gen.FfnAct.Frame
public import proofs.«01_k».proof.Proof.FfnActClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.RefIdeal.Gen.facts,
    Cert.PostNorm.Gen.facts, Cert.PostNormIdeal.Gen.facts, Cert.PostNormRefIdeal.Gen.facts,
    Cert.MidNorm.Gen.facts, Cert.MidNormIdeal.Gen.facts, Cert.MidNormRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.HyIn.Gen.facts, Cert.HyInIdeal.Gen.facts, Cert.HyInRefIdeal.Gen.facts,
    Cert.HyOut.Gen.facts, Cert.HyOutIdeal.Gen.facts, Cert.HyOutRefIdeal.Gen.facts,
    Cert.GdnIn.Gen.facts, Cert.GdnInIdeal.Gen.facts, Cert.GdnInRefIdeal.Gen.facts,
    Cert.GdnAb.Gen.facts, Cert.GdnAbIdeal.Gen.facts, Cert.GdnAbRefIdeal.Gen.facts,
    Cert.GdnOut.Gen.facts, Cert.GdnOutIdeal.Gen.facts, Cert.GdnOutRefIdeal.Gen.facts,
    Cert.Mod.Gen.facts, Cert.ModIdeal.Gen.facts, Cert.ModRefIdeal.Gen.facts,
    Cert.HyShort.Gen.facts, Cert.HyShortIdeal.Gen.facts, Cert.HyShortRefIdeal.Gen.facts,
    Cert.GdnPre.Gen.facts, Cert.GdnPreIdeal.Gen.facts, Cert.GdnPreRefIdeal.Gen.facts,
    Cert.GdnPost.Gen.facts, Cert.GdnPostIdeal.Gen.facts, Cert.GdnPostRefIdeal.Gen.facts,
    Cert.FfnAct.Gen.facts, Cert.FfnActIdeal.Gen.facts, Cert.FfnActRefIdeal.Gen.facts,
    Cert.KernelIdeal.Gdn.kernelFrame,
    Cert.KernelIdeal.Gdn.idealFrame,
    Cert.KernelIdeal.Gdn.refFrame,
    fun m ρ _ => Cert.PostNorm.Gen.frame m ρ,
    fun m ρ _ => Cert.PostNormIdeal.Gen.frame m ρ,
    Cert.PostNormIdeal.Norm.refFrame,
    fun m ρ _ => Cert.MidNorm.Gen.frame m ρ,
    fun m ρ _ => Cert.MidNormIdeal.Gen.frame m ρ,
    Cert.MidNormIdeal.Norm.refFrame,
    fun m ρ _ => Cert.FfnUp.Gen.frame m ρ,
    fun m ρ _ => Cert.FfnUpIdeal.Gen.frame m ρ,
    Cert.FfnUpIdeal.Up.refFrame,
    fun m ρ _ => Cert.FfnDown.Gen.frame m ρ,
    fun m ρ _ => Cert.FfnDownIdeal.Gen.frame m ρ,
    Cert.FfnDownIdeal.Down.refFrame,
    fun m ρ _ => Cert.HyIn.Gen.frame m ρ,
    fun m ρ _ => Cert.HyInIdeal.Gen.frame m ρ,
    Cert.HyInIdeal.Proj.refFrame,
    fun m ρ _ => Cert.HyOut.Gen.frame m ρ,
    fun m ρ _ => Cert.HyOutIdeal.Gen.frame m ρ,
    Cert.HyOutIdeal.Proj.refFrame,
    fun m ρ _ => Cert.GdnIn.Gen.frame m ρ,
    fun m ρ _ => Cert.GdnInIdeal.Gen.frame m ρ,
    Cert.GdnInIdeal.Proj.refFrame,
    fun m ρ _ => Cert.GdnAb.Gen.frame m ρ,
    fun m ρ _ => Cert.GdnAbIdeal.Gen.frame m ρ,
    Cert.GdnAbIdeal.Proj.refFrame,
    fun m ρ _ => Cert.GdnOut.Gen.frame m ρ,
    fun m ρ _ => Cert.GdnOutIdeal.Gen.frame m ρ,
    Cert.GdnOutIdeal.Proj.refFrame,
    fun m ρ _ => Cert.Mod.Gen.frame m ρ,
    fun m ρ _ => Cert.ModIdeal.Gen.frame m ρ,
    Cert.ModIdeal.Mod.refFrame,
    fun m ρ _ => Cert.HyShort.Gen.frame m ρ,
    fun m ρ _ => Cert.HyShortIdeal.Gen.frame m ρ,
    Cert.HyShortIdeal.Short.refFrame,
    fun m ρ _ => Cert.GdnPre.Gen.frame m ρ,
    fun m ρ _ => Cert.GdnPreIdeal.Gen.frame m ρ,
    Cert.GdnPreIdeal.Pre.refFrame,
    fun m ρ _ => Cert.GdnPost.Gen.frame m ρ,
    fun m ρ _ => Cert.GdnPostIdeal.Gen.frame m ρ,
    Cert.GdnPostIdeal.Post.refFrame,
    fun m ρ _ => Cert.FfnAct.Gen.frame m ρ,
    fun m ρ _ => Cert.FfnActIdeal.Gen.frame m ρ,
    Cert.FfnActIdeal.Act.refFrame,
    trivial, trivial,
    Cert.PostNormIdeal.Norm.algebraic, trivial,
    Cert.MidNormIdeal.Norm.algebraic, trivial,
    Cert.FfnUpIdeal.Up.algebraic, trivial,
    Cert.FfnDownIdeal.Down.algebraic, trivial,
    Cert.HyInIdeal.Proj.algebraic, trivial,
    Cert.HyOutIdeal.Proj.algebraic, trivial,
    Cert.GdnInIdeal.Proj.algebraic, trivial,
    Cert.GdnAbIdeal.Proj.algebraic, trivial,
    Cert.GdnOutIdeal.Proj.algebraic, trivial,
    Cert.ModIdeal.Mod.algebraic, trivial,
    Cert.HyShortIdeal.Short.algebraic, trivial,
    Cert.GdnPreIdeal.Pre.algebraic, trivial,
    Cert.GdnPostIdeal.Post.algebraic, trivial,
    Cert.FfnActIdeal.Act.algebraic⟩

end Cert.Proof

end
